-- ==== Defs.lean ====
def Pre_KernelIdeal [hPre_four_apart : Cert.Pre_four_apart.Facts] (m : (ℓ : Loc Cert.KernelIdeal.nD Cert.KernelIdeal.τ Cert.KernelIdeal.sig) → Buf (Elt Ideal) ℓ) : Prop :=
  ∀ c : Dev Cert.KernelIdeal.nD,
    (Cert.Pre_four_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_apart [hPre_four_apart : Cert.Pre_four_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Interp [hPre_idx_in_rows : Cert.Pre_idx_in_rows.Facts] (m : (ℓ : Loc Cert.Interp.nD Cert.Interp.τ Cert.Interp.sig) → Buf (Elt Bits) ℓ) : Prop :=
  ∀ c : Dev Cert.Interp.nD,
    (Cert.Pre_idx_in_rows.fn (F := Bits) (m ((c.tc : Thread Cert.Interp.nD Cert.Interp.τ).loc Cert.Interp.main_arg0)) (m ((c.tc : Thread Cert.Interp.nD Cert.Interp.τ).loc Cert.Interp.main_arg1)) (m ((c.tc : Thread Cert.Interp.nD Cert.Interp.τ).loc Cert.Interp.main_arg2))) = (fun _ => 1#1)

def Pre_InterpIdeal [hPre_idx_in_rows : Cert.Pre_idx_in_rows.Facts] (m : (ℓ : Loc Cert.InterpIdeal.nD Cert.InterpIdeal.τ Cert.InterpIdeal.sig) → Buf (Elt Ideal) ℓ) : Prop :=
  ∀ c : Dev Cert.InterpIdeal.nD,
    (Cert.Pre_idx_in_rows.fn (F := Ideal) (m ((c.tc : Thread Cert.InterpIdeal.nD Cert.InterpIdeal.τ).loc Cert.InterpIdeal.main_arg0)) (m ((c.tc : Thread Cert.InterpIdeal.nD Cert.InterpIdeal.τ).loc Cert.InterpIdeal.main_arg1)) (m ((c.tc : Thread Cert.InterpIdeal.nD Cert.InterpIdeal.τ).loc Cert.InterpIdeal.main_arg2))) = (fun _ => 1#1)

def Pre_InterpReferenceIdeal (m : (ℓ : Loc Cert.InterpReferenceIdeal.nD Cert.InterpReferenceIdeal.τ Cert.InterpReferenceIdeal.sig) → Buf (Elt Ideal) ℓ) : Prop :=
  True

def Pre_InterpReferenceIdeal_idx_in_rows [hPre_idx_in_rows : Cert.Pre_idx_in_rows.Facts] (m : (ℓ : Loc Cert.InterpReferenceIdeal.nD Cert.InterpReferenceIdeal.τ Cert.InterpReferenceIdeal.sig) → Buf (Elt Ideal) ℓ) : Prop :=
  ∀ c : Dev Cert.InterpReferenceIdeal.nD,
    (Cert.Pre_idx_in_rows.fn (F := Ideal) (m ((c.tc : Thread Cert.InterpReferenceIdeal.nD Cert.InterpReferenceIdeal.τ).loc Cert.InterpReferenceIdeal.main_arg0)) (m ((c.tc : Thread Cert.InterpReferenceIdeal.nD Cert.InterpReferenceIdeal.τ).loc Cert.InterpReferenceIdeal.main_arg1)) (m ((c.tc : Thread Cert.InterpReferenceIdeal.nD Cert.InterpReferenceIdeal.τ).loc Cert.InterpReferenceIdeal.main_arg2))) = (fun _ => 1#1)

def quiescent_KernelIdeal [hKernelIdeal : Cert.KernelIdeal.Facts] [hPre_four_apart : Cert.Pre_four_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_four_apart [hReferenceIdeal : Cert.ReferenceIdeal.Facts] [hPre_four_apart : Cert.Pre_four_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Interp [hInterp : Cert.Interp.Facts] [hPre_idx_in_rows : Cert.Pre_idx_in_rows.Facts] : Prop :=
  ∀ (m : (ℓ : Loc Cert.Interp.nD Cert.Interp.τ Cert.Interp.sig) → Buf (Elt Bits) ℓ) (g : Dev Cert.Interp.nD → PrngReg), Pre_Interp m →
    θ_run (Cert.Interp.defs (F := Bits)) (Cert.Interp.threads (F := Bits)) ⟨m, fun _ => 0, g⟩ (fun r => (∀ c : Dev Cert.Interp.nD,
      r.2.mem ((c.tc : Thread Cert.Interp.nD Cert.Interp.τ).loc Cert.Interp.main_arg0) = m ((c.tc : Thread Cert.Interp.nD Cert.Interp.τ).loc Cert.Interp.main_arg0)
      ∧ r.2.mem ((c.tc : Thread Cert.Interp.nD Cert.Interp.τ).loc Cert.Interp.main_arg1) = m ((c.tc : Thread Cert.Interp.nD Cert.Interp.τ).loc Cert.Interp.main_arg1)
      ∧ r.2.mem ((c.tc : Thread Cert.Interp.nD Cert.Interp.τ).loc Cert.Interp.main_arg2) = m ((c.tc : Thread Cert.Interp.nD Cert.Interp.τ).loc Cert.Interp.main_arg2))
      ∧ r.2.sem = fun _ => 0)

def quiescent_InterpIdeal [hInterpIdeal : Cert.InterpIdeal.Facts] [hPre_idx_in_rows : Cert.Pre_idx_in_rows.Facts] : Prop :=
  ∀ (m : (ℓ : Loc Cert.InterpIdeal.nD Cert.InterpIdeal.τ Cert.InterpIdeal.sig) → Buf (Elt Ideal) ℓ) (g : Dev Cert.InterpIdeal.nD → PrngReg), Pre_InterpIdeal m →
    θ_run (Cert.InterpIdeal.defs (F := Ideal)) (Cert.InterpIdeal.threads (F := Ideal)) ⟨m, fun _ => 0, g⟩ (fun r => (∀ c : Dev Cert.InterpIdeal.nD,
      r.2.mem ((c.tc : Thread Cert.InterpIdeal.nD Cert.InterpIdeal.τ).loc Cert.InterpIdeal.main_arg0) = m ((c.tc : Thread Cert.InterpIdeal.nD Cert.InterpIdeal.τ).loc Cert.InterpIdeal.main_arg0)
      ∧ r.2.mem ((c.tc : Thread Cert.InterpIdeal.nD Cert.InterpIdeal.τ).loc Cert.InterpIdeal.main_arg1) = m ((c.tc : Thread Cert.InterpIdeal.nD Cert.InterpIdeal.τ).loc Cert.InterpIdeal.main_arg1)
      ∧ r.2.mem ((c.tc : Thread Cert.InterpIdeal.nD Cert.InterpIdeal.τ).loc Cert.InterpIdeal.main_arg2) = m ((c.tc : Thread Cert.InterpIdeal.nD Cert.InterpIdeal.τ).loc Cert.InterpIdeal.main_arg2))
      ∧ r.2.sem = fun _ => 0)

def quiescent_InterpReferenceIdeal [hInterpReferenceIdeal : Cert.InterpReferenceIdeal.Facts] : Prop :=
  ∀ (m : (ℓ : Loc Cert.InterpReferenceIdeal.nD Cert.InterpReferenceIdeal.τ Cert.InterpReferenceIdeal.sig) → Buf (Elt Ideal) ℓ) (g : Dev Cert.InterpReferenceIdeal.nD → PrngReg), Pre_InterpReferenceIdeal m →
    θ_run (Cert.InterpReferenceIdeal.defs (F := Ideal)) (onTc (τ := Cert.InterpReferenceIdeal.τ) (Cert.InterpReferenceIdeal.main (F := Ideal))) ⟨m, fun _ => 0, g⟩ (fun r => (∀ c : Dev Cert.InterpReferenceIdeal.nD,
      r.2.mem ((c.tc : Thread Cert.InterpReferenceIdeal.nD Cert.InterpReferenceIdeal.τ).loc Cert.InterpReferenceIdeal.main_arg0) = m ((c.tc : Thread Cert.InterpReferenceIdeal.nD Cert.InterpReferenceIdeal.τ).loc Cert.InterpReferenceIdeal.main_arg0)
      ∧ r.2.mem ((c.tc : Thread Cert.InterpReferenceIdeal.nD Cert.InterpReferenceIdeal.τ).loc Cert.InterpReferenceIdeal.main_arg1) = m ((c.tc : Thread Cert.InterpReferenceIdeal.nD Cert.InterpReferenceIdeal.τ).loc Cert.InterpReferenceIdeal.main_arg1)
      ∧ r.2.mem ((c.tc : Thread Cert.InterpReferenceIdeal.nD Cert.InterpReferenceIdeal.τ).loc Cert.InterpReferenceIdeal.main_arg2) = m ((c.tc : Thread Cert.InterpReferenceIdeal.nD Cert.InterpReferenceIdeal.τ).loc Cert.InterpReferenceIdeal.main_arg2))
      ∧ r.2.sem = fun _ => 0)

def quiescent_InterpReferenceIdeal_pre_idx_in_rows [hInterpReferenceIdeal : Cert.InterpReferenceIdeal.Facts] [hPre_idx_in_rows : Cert.Pre_idx_in_rows.Facts] : Prop :=
  ∀ (m : (ℓ : Loc Cert.InterpReferenceIdeal.nD Cert.InterpReferenceIdeal.τ Cert.InterpReferenceIdeal.sig) → Buf (Elt Ideal) ℓ) (g : Dev Cert.InterpReferenceIdeal.nD → PrngReg), Pre_InterpReferenceIdeal_idx_in_rows m →
    θ_run (Cert.InterpReferenceIdeal.defs (F := Ideal)) (onTc (τ := Cert.InterpReferenceIdeal.τ) (Cert.InterpReferenceIdeal.main (F := Ideal))) ⟨m, fun _ => 0, g⟩ (fun r => (∀ c : Dev Cert.InterpReferenceIdeal.nD,
      r.2.mem ((c.tc : Thread Cert.InterpReferenceIdeal.nD Cert.InterpReferenceIdeal.τ).loc Cert.InterpReferenceIdeal.main_arg0) = m ((c.tc : Thread Cert.InterpReferenceIdeal.nD Cert.InterpReferenceIdeal.τ).loc Cert.InterpReferenceIdeal.main_arg0)
      ∧ r.2.mem ((c.tc : Thread Cert.InterpReferenceIdeal.nD Cert.InterpReferenceIdeal.τ).loc Cert.InterpReferenceIdeal.main_arg1) = m ((c.tc : Thread Cert.InterpReferenceIdeal.nD Cert.InterpReferenceIdeal.τ).loc Cert.InterpReferenceIdeal.main_arg1)
      ∧ r.2.mem ((c.tc : Thread Cert.InterpReferenceIdeal.nD Cert.InterpReferenceIdeal.τ).loc Cert.InterpReferenceIdeal.main_arg2) = m ((c.tc : Thread Cert.InterpReferenceIdeal.nD Cert.InterpReferenceIdeal.τ).loc Cert.InterpReferenceIdeal.main_arg2))
      ∧ r.2.sem = fun _ => 0)

def algebraic_KernelIdeal_ReferenceIdeal [hKernelIdeal : Cert.KernelIdeal.Facts] [hReferenceIdeal : Cert.ReferenceIdeal.Facts] [hPre_four_apart : Cert.Pre_four_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Interp_InterpIdeal : Prop :=
  True

def algebraic_InterpIdeal_InterpReferenceIdeal [hInterpIdeal : Cert.InterpIdeal.Facts] [hInterpReferenceIdeal : Cert.InterpReferenceIdeal.Facts] [hPre_idx_in_rows : Cert.Pre_idx_in_rows.Facts] : Prop :=
  ∀ (m : (ℓ : Loc Cert.InterpIdeal.nD Cert.InterpIdeal.τ Cert.InterpIdeal.sig) → Buf (Elt Ideal) ℓ) (g : Dev Cert.InterpIdeal.nD → PrngReg)
    (m' : (ℓ : Loc Cert.InterpReferenceIdeal.nD Cert.InterpReferenceIdeal.τ Cert.InterpReferenceIdeal.sig) → Buf (Elt Ideal) ℓ) (g' : Dev Cert.InterpReferenceIdeal.nD → PrngReg), Pre_InterpIdeal m →
    (∀ c : Dev Cert.InterpIdeal.nD,
      m' ((c.tc : Thread Cert.InterpReferenceIdeal.nD Cert.InterpReferenceIdeal.τ).loc Cert.InterpReferenceIdeal.main_arg0) = m ((c.tc : Thread Cert.InterpIdeal.nD Cert.InterpIdeal.τ).loc Cert.InterpIdeal.main_arg0)
      ∧ m' ((c.tc : Thread Cert.InterpReferenceIdeal.nD Cert.InterpReferenceIdeal.τ).loc Cert.InterpReferenceIdeal.main_arg1) = m ((c.tc : Thread Cert.InterpIdeal.nD Cert.InterpIdeal.τ).loc Cert.InterpIdeal.main_arg1)
      ∧ m' ((c.tc : Thread Cert.InterpReferenceIdeal.nD Cert.InterpReferenceIdeal.τ).loc Cert.InterpReferenceIdeal.main_arg2) = m ((c.tc : Thread Cert.InterpIdeal.nD Cert.InterpIdeal.τ).loc Cert.InterpIdeal.main_arg2)) →
    ∃ (v0 : (c : Dev Cert.InterpIdeal.nD) → Buf (Elt Ideal) ((c.tc : Thread Cert.InterpIdeal.nD Cert.InterpIdeal.τ).loc Cert.InterpIdeal.main_v3)),
      θ_run (Cert.InterpIdeal.defs (F := Ideal)) (Cert.InterpIdeal.threads (F := Ideal)) ⟨m, fun _ => 0, g⟩ (fun r => ∀ c : Dev Cert.InterpIdeal.nD,
          r.2.mem ((c.tc : Thread Cert.InterpIdeal.nD Cert.InterpIdeal.τ).loc Cert.InterpIdeal.main_v3) = v0 c
          ∧ r.2.mem ((c.tc : Thread Cert.InterpIdeal.nD Cert.InterpIdeal.τ).loc Cert.InterpIdeal.main_arg0) = m ((c.tc : Thread Cert.InterpIdeal.nD Cert.InterpIdeal.τ).loc Cert.InterpIdeal.main_arg0)
          ∧ r.2.mem ((c.tc : Thread Cert.InterpIdeal.nD Cert.InterpIdeal.τ).loc Cert.InterpIdeal.main_arg1) = m ((c.tc : Thread Cert.InterpIdeal.nD Cert.InterpIdeal.τ).loc Cert.InterpIdeal.main_arg1)
          ∧ r.2.mem ((c.tc : Thread Cert.InterpIdeal.nD Cert.InterpIdeal.τ).loc Cert.InterpIdeal.main_arg2) = m ((c.tc : Thread Cert.InterpIdeal.nD Cert.InterpIdeal.τ).loc Cert.InterpIdeal.main_arg2))
      ∧ θ_run (Cert.InterpReferenceIdeal.defs (F := Ideal)) (onTc (τ := Cert.InterpReferenceIdeal.τ) (Cert.InterpReferenceIdeal.main (F := Ideal))) ⟨m', fun _ => 0, g'⟩ (fun r => ∀ c : Dev Cert.InterpReferenceIdeal.nD,
          r.2.mem ((c.tc : Thread Cert.InterpReferenceIdeal.nD Cert.InterpReferenceIdeal.τ).loc Cert.InterpReferenceIdeal.main_v4) = v0 c
          ∧ r.2.mem ((c.tc : Thread Cert.InterpReferenceIdeal.nD Cert.InterpReferenceIdeal.τ).loc Cert.InterpReferenceIdeal.main_arg0) = m' ((c.tc : Thread Cert.InterpReferenceIdeal.nD Cert.InterpReferenceIdeal.τ).loc Cert.InterpReferenceIdeal.main_arg0)
          ∧ r.2.mem ((c.tc : Thread Cert.InterpReferenceIdeal.nD Cert.InterpReferenceIdeal.τ).loc Cert.InterpReferenceIdeal.main_arg1) = m' ((c.tc : Thread Cert.InterpReferenceIdeal.nD Cert.InterpReferenceIdeal.τ).loc Cert.InterpReferenceIdeal.main_arg1)
          ∧ r.2.mem ((c.tc : Thread Cert.InterpReferenceIdeal.nD Cert.InterpReferenceIdeal.τ).loc Cert.InterpReferenceIdeal.main_arg2) = m' ((c.tc : Thread Cert.InterpReferenceIdeal.nD Cert.InterpReferenceIdeal.τ).loc Cert.InterpReferenceIdeal.main_arg2))

def Claim : Prop :=
  ∃ (hKernelIdeal : Cert.KernelIdeal.Facts) (hReferenceIdeal : Cert.ReferenceIdeal.Facts) (hInterp : Cert.Interp.Facts) (hInterpIdeal : Cert.InterpIdeal.Facts) (hInterpReferenceIdeal : Cert.InterpReferenceIdeal.Facts) (hPre_four_apart : Cert.Pre_four_apart.Facts) (hPre_idx_in_rows : Cert.Pre_idx_in_rows.Facts),
    quiescent_KernelIdeal (hKernelIdeal := hKernelIdeal) (hPre_four_apart := hPre_four_apart)
    ∧ quiescent_ReferenceIdeal (hReferenceIdeal := hReferenceIdeal)
    ∧ quiescent_ReferenceIdeal_pre_four_apart (hReferenceIdeal := hReferenceIdeal) (hPre_four_apart := hPre_four_apart)
    ∧ quiescent_Interp (hInterp := hInterp) (hPre_idx_in_rows := hPre_idx_in_rows)
    ∧ quiescent_InterpIdeal (hInterpIdeal := hInterpIdeal) (hPre_idx_in_rows := hPre_idx_in_rows)
    ∧ quiescent_InterpReferenceIdeal (hInterpReferenceIdeal := hInterpReferenceIdeal)
    ∧ quiescent_InterpReferenceIdeal_pre_idx_in_rows (hInterpReferenceIdeal := hInterpReferenceIdeal) (hPre_idx_in_rows := hPre_idx_in_rows)
    ∧ algebraic_KernelIdeal_ReferenceIdeal (hKernelIdeal := hKernelIdeal) (hReferenceIdeal := hReferenceIdeal) (hPre_four_apart := hPre_four_apart)
    ∧ preserves_Interp_InterpIdeal
    ∧ algebraic_InterpIdeal_InterpReferenceIdeal (hInterpIdeal := hInterpIdeal) (hInterpReferenceIdeal := hInterpReferenceIdeal) (hPre_idx_in_rows := hPre_idx_in_rows)
-- ==== Pre_four_apart.lean ====
abbrev S2048x256 : Shape := ⟨2, ![2048, 256]⟩
abbrev S2048x3 : Shape := ⟨2, ![2048, 3]⟩
abbrev S2048 : Shape := ⟨1, ![2048]⟩
abbrev S8192x128 : Shape := ⟨2, ![8192, 128]⟩
abbrev S8192x3 : Shape := ⟨2, ![8192, 3]⟩
abbrev S8192 : Shape := ⟨1, ![8192]⟩
abbrev S384x256 : Shape := ⟨2, ![384, 256]⟩
abbrev S256 : Shape := ⟨1, ![256]⟩
abbrev S256x256 : Shape := ⟨2, ![256, 256]⟩
abbrev S_ : Shape := ⟨0, ![]⟩
abbrev S8192x1 : Shape := ⟨2, ![8192, 1]⟩
abbrev S1x2048 : Shape := ⟨2, ![1, 2048]⟩
abbrev S3x2048 : Shape := ⟨2, ![3, 2048]⟩
abbrev S8192x2048 : Shape := ⟨2, ![8192, 2048]⟩
abbrev S8192x4 : Shape := ⟨2, ![8192, 4]⟩

class Facts : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  reducesTo_S2048x3_S2048_d1 : S2048x3.ReducesTo [1] S2048
  bcast_S2048_S1x2048_1 : S2048.BroadcastsInDim S1x2048 (![1] : Fin 1 → Fin S1x2048.rank)
  transposes_S2048x3_S3x2048_1_0 : S2048x3.Transposes [1, 0] S3x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  sliceFits_S8192x2048_S8192x4 : S8192x2048.Slices (fun _ => 0) S8192x4
  slices_S8192x4_S8192x3_0_0 : S8192x4.Slices ![0, 0] S8192x3
  slices_S8192x4_S8192x3_0_1 : S8192x4.Slices ![0, 1] S8192x3
  dot_S8192x3_S3x2048_S8192x2048_1_0_0_1_n_n_wf : DotDims.WF S8192x3 S3x2048 S8192x2048 [1] [0] [0] [1] [] []

variable [Facts]

def dot_S8192x3_S3x2048_S8192x2048_1_0_0_1_n_n : DotDims S8192x3 S3x2048 S8192x2048 where
  lhsContracting := [1]
  rhsContracting := [0]
  lhsNonContracting := [0]
  rhsNonContracting := [1]
  lhsBatch := []
  rhsBatch := []
  wf := dot_S8192x3_S3x2048_S8192x2048_1_0_0_1_n_n_wf
def fn {F : FTy → Type} [FloatOps F] (main_arg0 : FVec F S2048x256 .f32) (main_arg1 : FVec F S2048x3 .f32) (main_arg2 : IVec S2048 32) (main_arg3 : FVec F S8192x128 .f32) (main_arg4 : FVec F S8192x3 .f32) (main_arg5 : IVec S8192 32) (main_arg6 : FVec F S384x256 .f32) (main_arg7 : FVec F S256 .f32) (main_arg8 : FVec F S256x256 .f32) (main_arg9 : FVec F S256 .f32) : IVec S8192x3 1 :=
  let main_v0 : FVec F S8192x3 .f32 := mulf main_arg4 main_arg4
  let main_cst : FVec F S_ .f32 := constant S_ .f32 0x00000000#32
  let main_v1 : FVec F S8192 .f32 := (fun x v => Host.reduceAdd x v reducesTo_S8192x3_S8192_d1 h_S_) main_v0 main_cst
  let main_v2 : FVec F S8192x1 .f32 := broadcastInDim S8192x1 ![0] bcast_S8192_S8192x1_0 main_v1
  let main_v3 : FVec F S2048x3 .f32 := mulf main_arg1 main_arg1
  let main_cst_0 : FVec F S_ .f32 := constant S_ .f32 0x00000000#32
  let main_v4 : FVec F S2048 .f32 := (fun x v => Host.reduceAdd x v reducesTo_S2048x3_S2048_d1 h_S_) main_v3 main_cst_0
  let main_v5 : FVec F S1x2048 .f32 := broadcastInDim S1x2048 ![1] bcast_S2048_S1x2048_1 main_v4
  let main_v6 : FVec F S3x2048 .f32 := (transpose S3x2048 [1, 0] · transposes_S2048x3_S3x2048_1_0) main_arg1
  let main_v7 : FVec F S8192x2048 .f32 := (fun l r => Host.dotGeneral dot_S8192x3_S3x2048_S8192x2048_1_0_0_1_n_n none l r) main_arg4 main_v6
  let main_cst_1 : FVec F S_ .f32 := constant S_ .f32 0x40000000#32
  let main_v8 : FVec F S8192x2048 .f32 := broadcastInDim S8192x2048 ![] bcast_S_S8192x2048 main_cst_1
  let main_v9 : FVec F S8192x2048 .f32 := mulf main_v8 main_v7
  let main_v10 : FVec F S8192x2048 .f32 := broadcastInDim S8192x2048 ![0, 1] bcast_S8192x1_S8192x2048_0_1 main_v2
  let main_v11 : FVec F S8192x2048 .f32 := subf main_v9 main_v10
  let main_v12 : FVec F S8192x2048 .f32 := broadcastInDim S8192x2048 ![0, 1] bcast_S1x2048_S8192x2048_0_1 main_v5
  let main_v13 : FVec F S8192x2048 .f32 := subf main_v11 main_v12
  let main_values : FVec F S8192x4 .f32 := (fun x => (Host.topK S8192x4 1 (FloatOps.cmpfTotal .gt) x sliceFits_S8192x2048_S8192x4).1) main_v13
  let main_indices : IVec S8192x4 32 := (fun x => (Host.topK S8192x4 1 (FloatOps.cmpfTotal .gt) x sliceFits_S8192x2048_S8192x4).2) main_v13
  let main_v14 : FVec F S8192x3 .f32 := (extractStridedSlice S8192x3 ![0, 0] · slices_S8192x4_S8192x3_0_0) main_values
  let main_v15 : FVec F S8192x3 .f32 := (extractStridedSlice S8192x3 ![0, 1] · slices_S8192x4_S8192x3_0_1) main_values
  let main_v16 : IVec S8192x3 1 := cmpf .ogt main_v14 main_v15
  main_v16
-- ==== Pre_idx_in_rows.lean ====
abbrev S2048x256 : Shape := ⟨2, ![2048, 256]⟩
abbrev S8192x3 : Shape := ⟨2, ![8192, 3]⟩
abbrev S_ : Shape := ⟨0, ![]⟩

class Facts : Prop where
  bcast_S_S8192x3 : S_.BroadcastsInDim S8192x3 (![] : Fin 0 → Fin S8192x3.rank)

variable [Facts]

def fn {F : FTy → Type} [FloatOps F] (main_arg0 : FVec F S2048x256 .f32) (main_arg1 : IVec S8192x3 32) (main_arg2 : FVec F S8192x3 .f32) : IVec S8192x3 1 :=
  let main_c : IVec S_ 32 := constantI S_ 32 0#32
  let main_v0 : IVec S8192x3 32 := broadcastInDim S8192x3 ![] bcast_S_S8192x3 main_c
  let main_v1 : IVec S8192x3 1 := cmpi .sge main_arg1 main_v0
  let main_c_0 : IVec S_ 32 := constantI S_ 32 2048#32
  let main_v2 : IVec S8192x3 32 := broadcastInDim S8192x3 ![] bcast_S_S8192x3 main_c_0
  let main_v3 : IVec S8192x3 1 := cmpi .slt main_arg1 main_v2
  let main_v4 : IVec S8192x3 1 := andi main_v1 main_v3
  main_v4
-- ==== KernelIdeal.lean ====
abbrev S2048x256 : Shape := ⟨2, ![2048, 256]⟩
abbrev S2048x3 : Shape := ⟨2, ![2048, 3]⟩
abbrev S2048 : Shape := ⟨1, ![2048]⟩
abbrev S8192x128 : Shape := ⟨2, ![8192, 128]⟩
abbrev S8192x3 : Shape := ⟨2, ![8192, 3]⟩
abbrev S8192 : Shape := ⟨1, ![8192]⟩
abbrev S384x256 : Shape := ⟨2, ![384, 256]⟩
abbrev S256 : Shape := ⟨1, ![256]⟩
abbrev S256x256 : Shape := ⟨2, ![256, 256]⟩
abbrev S3x2048 : Shape := ⟨2, ![3, 2048]⟩
abbrev S256x3 : Shape := ⟨2, ![256, 3]⟩
abbrev S256x2048 : Shape := ⟨2, ![256, 2048]⟩
abbrev S256x1 : Shape := ⟨2, ![256, 1]⟩
abbrev S1x2048 : Shape := ⟨2, ![1, 2048]⟩
abbrev S2048x2x128 : Shape := ⟨3, ![2048, 2, 128]⟩
abbrev S24576 : Shape := ⟨1, ![24576]⟩
abbrev S8192x256 : Shape := ⟨2, ![8192, 256]⟩
abbrev S192 : Shape := ⟨1, ![192]⟩
abbrev S208 : Shape := ⟨1, ![208]⟩
abbrev S192x2x128 : Shape := ⟨3, ![192, 2, 128]⟩
abbrev S64x256 : Shape := ⟨2, ![64, 256]⟩
abbrev S_ : Shape := ⟨0, ![]⟩
abbrev S16 : Shape := ⟨1, ![16]⟩
abbrev S1 : Shape := ⟨1, ![1]⟩
abbrev S1x1x16 : Shape := ⟨3, ![1, 1, 16]⟩
abbrev S1x16 : Shape := ⟨2, ![1, 16]⟩
abbrev S128x256 : Shape := ⟨2, ![128, 256]⟩
abbrev S1x256 : Shape := ⟨2, ![1, 256]⟩
abbrev S256x128 : Shape := ⟨2, ![256, 128]⟩

abbrev nBuf : Table → Nat
  | .hbm => 22
  | .local .tc .vmem => 18
  | .local .scVector .vmem => 4
  | _ => 0

abbrev bufTy : (tb : Table) → Fin (nBuf tb) → BufTy
  | .hbm, ⟨0, _⟩ => ⟨S2048x256, .f32⟩
  | .hbm, ⟨1, _⟩ => ⟨S2048x3, .f32⟩
  | .hbm, ⟨2, _⟩ => ⟨S2048, .i32⟩
  | .hbm, ⟨3, _⟩ => ⟨S8192x128, .f32⟩
  | .hbm, ⟨4, _⟩ => ⟨S8192x3, .f32⟩
  | .hbm, ⟨5, _⟩ => ⟨S8192, .i32⟩
  | .hbm, ⟨6, _⟩ => ⟨S384x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x2048, .f32⟩
  | .hbm, ⟨11, _⟩ => ⟨S8192x3, .i32⟩
  | .hbm, ⟨12, _⟩ => ⟨S8192x3, .f32⟩
  | .hbm, ⟨13, _⟩ => ⟨S2048x2x128, .f32⟩
  | .hbm, ⟨14, _⟩ => ⟨S24576, .i32⟩
  | .hbm, ⟨15, _⟩ => ⟨S24576, .f32⟩
  | .hbm, ⟨16, _⟩ => ⟨S8192x256, .f32⟩
  | .hbm, ⟨17, _⟩ => ⟨S256x256, .f32⟩
  | .hbm, ⟨18, _⟩ => ⟨S128x256, .f32⟩
  | .hbm, ⟨19, _⟩ => ⟨S1x256, .f32⟩
  | .hbm, ⟨20, _⟩ => ⟨S1x256, .f32⟩
  | .hbm, ⟨21, _⟩ => ⟨S8192x256, .f32⟩
  | .local .tc .vmem, ⟨0, _⟩ => ⟨S256x3, .f32⟩
  | .local .tc .vmem, ⟨1, _⟩ => ⟨S256x3, .f32⟩
  | .local .tc .vmem, ⟨2, _⟩ => ⟨S3x2048, .f32⟩
  | .local .tc .vmem, ⟨3, _⟩ => ⟨S256x3, .i32⟩
  | .local .tc .vmem, ⟨4, _⟩ => ⟨S256x3, .i32⟩
  | .local .tc .vmem, ⟨5, _⟩ => ⟨S256x3, .f32⟩
  | .local .tc .vmem, ⟨6, _⟩ => ⟨S256x3, .f32⟩
  | .local .tc .vmem, ⟨7, _⟩ => ⟨S256x256, .f32⟩
  | .local .tc .vmem, ⟨8, _⟩ => ⟨S256x256, .f32⟩
  | .local .tc .vmem, ⟨9, _⟩ => ⟨S256x128, .f32⟩
  | .local .tc .vmem, ⟨10, _⟩ => ⟨S256x128, .f32⟩
  | .local .tc .vmem, ⟨11, _⟩ => ⟨S256x256, .f32⟩
  | .local .tc .vmem, ⟨12, _⟩ => ⟨S128x256, .f32⟩
  | .local .tc .vmem, ⟨13, _⟩ => ⟨S1x256, .f32⟩
  | .local .tc .vmem, ⟨14, _⟩ => ⟨S256x256, .f32⟩
  | .local .tc .vmem, ⟨15, _⟩ => ⟨S1x256, .f32⟩
  | .local .tc .vmem, ⟨16, _⟩ => ⟨S256x256, .f32⟩
  | .local .tc .vmem, ⟨17, _⟩ => ⟨S256x256, .f32⟩
  | .local .scVector .vmem, ⟨0, _⟩ => ⟨S192, .i32⟩
  | .local .scVector .vmem, ⟨1, _⟩ => ⟨S208, .f32⟩
  | .local .scVector .vmem, ⟨2, _⟩ => ⟨S192x2x128, .f32⟩
  | .local .scVector .vmem, ⟨3, _⟩ => ⟨S64x256, .f32⟩
  | _, _ => ⟨S2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v2_scv : Ref sig .scVector := ⟨.hbm, 13, rfl⟩
abbrev main_v3_scv : Ref sig .scVector := ⟨.hbm, 14, rfl⟩
abbrev main_v4_scv : Ref sig .scVector := ⟨.hbm, 15, rfl⟩
abbrev main_v5_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let v3 : BitVec 32 := Scalar.addi v2 c0_i32
  ![v3.toNat]
@[reducible] def k1_t1_loop : Scf.Loop 32 :=
  let c0_i32_8 : BitVec 32 := 0#32
  let c64_i32 : BitVec 32 := 64#32
  let v8 : BitVec 32 := Scalar.addi c0_i32_8 c64_i32
  let c1_i32 : BitVec 32 := 1#32
  ⟨c0_i32_8, v8, c1_i32⟩
def k1_off2 (k1_t1 : Fin k1_t1_loop.trips) : Fin 1 → Nat :=
  let c3_i32 : BitVec 32 := 3#32
  let c0_i32_8 : BitVec 32 := 0#32
  let c1_i32 : BitVec 32 := 1#32
  let arg11 : BitVec 32 := Scf.iv c0_i32_8 c1_i32 k1_t1
  let v34 : BitVec 32 := Scalar.muli c3_i32 arg11
  let v35 : Index := Scalar.indexCast v34
  ![v35.toNat]
def k1_off3 (k1_t1 : Fin k1_t1_loop.trips) : Fin 3 → Nat :=
  let c3_i32_51 : BitVec 32 := 3#32
  let c0_i32_8 : BitVec 32 := 0#32
  let c1_i32 : BitVec 32 := 1#32
  let arg11 : BitVec 32 := Scf.iv c0_i32_8 c1_i32 k1_t1
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k1_off4 (k1_t1 : Fin k1_t1_loop.trips) (c1_i32_54 : BitVec 32) : Fin 3 → Nat :=
  let c3_i32_53 : BitVec 32 := 3#32
  let c0_i32_8 : BitVec 32 := 0#32
  let c1_i32 : BitVec 32 := 1#32
  let arg11 : BitVec 32 := Scf.iv c0_i32_8 c1_i32 k1_t1
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k1_off5 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v69 : Index := Scalar.indexCast arg11
  let c0_61 : Index := 0#32
  ![v69.toNat, 0]
def k1_off6 (k1_t1 : Fin k1_t1_loop.trips) : Fin 3 → Nat :=
  let c3_i32_62 : BitVec 32 := 3#32
  let c0_i32_8 : BitVec 32 := 0#32
  let c1_i32 : BitVec 32 := 1#32
  let arg11 : BitVec 32 := Scf.iv c0_i32_8 c1_i32 k1_t1
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k1_off7 (k1_t1 : Fin k1_t1_loop.trips) (c1_i32_65 : BitVec 32) : Fin 3 → Nat :=
  let c3_i32_64 : BitVec 32 := 3#32
  let c0_i32_8 : BitVec 32 := 0#32
  let c1_i32 : BitVec 32 := 1#32
  let arg11 : BitVec 32 := Scf.iv c0_i32_8 c1_i32 k1_t1
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k1_off8 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v98 : Index := Scalar.indexCast arg11
  let c16_72 : Index := 16#32
  ![v98.toNat, 16]
def k1_off9 (k1_t1 : Fin k1_t1_loop.trips) : Fin 3 → Nat :=
  let c3_i32_73 : BitVec 32 := 3#32
  let c0_i32_8 : BitVec 32 := 0#32
  let c1_i32 : BitVec 32 := 1#32
  let arg11 : BitVec 32 := Scf.iv c0_i32_8 c1_i32 k1_t1
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k1_off10 (k1_t1 : Fin k1_t1_loop.trips) (c1_i32_76 : BitVec 32) : Fin 3 → Nat :=
  let c3_i32_75 : BitVec 32 := 3#32
  let c0_i32_8 : BitVec 32 := 0#32
  let c1_i32 : BitVec 32 := 1#32
  let arg11 : BitVec 32 := Scf.iv c0_i32_8 c1_i32 k1_t1
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k1_off11 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v127 : Index := Scalar.indexCast arg11
  let c32_83 : Index := 32#32
  ![v127.toNat, 32]
def k1_off12 (k1_t1 : Fin k1_t1_loop.trips) : Fin 3 → Nat :=
  let c3_i32_84 : BitVec 32 := 3#32
  let c0_i32_8 : BitVec 32 := 0#32
  let c1_i32 : BitVec 32 := 1#32
  let arg11 : BitVec 32 := Scf.iv c0_i32_8 c1_i32 k1_t1
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k1_off13 (k1_t1 : Fin k1_t1_loop.trips) (c1_i32_87 : BitVec 32) : Fin 3 → Nat :=
  let c3_i32_86 : BitVec 32 := 3#32
  let c0_i32_8 : BitVec 32 := 0#32
  let c1_i32 : BitVec 32 := 1#32
  let arg11 : BitVec 32 := Scf.iv c0_i32_8 c1_i32 k1_t1
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k1_off14 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v156 : Index := Scalar.indexCast arg11
  let c48_94 : Index := 48#32
  ![v156.toNat, 48]
def k1_off15 (k1_t1 : Fin k1_t1_loop.trips) : Fin 3 → Nat :=
  let c3_i32_95 : BitVec 32 := 3#32
  let c0_i32_8 : BitVec 32 := 0#32
  let c1_i32 : BitVec 32 := 1#32
  let arg11 : BitVec 32 := Scf.iv c0_i32_8 c1_i32 k1_t1
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k1_off16 (k1_t1 : Fin k1_t1_loop.trips) (c1_i32_98 : BitVec 32) : Fin 3 → Nat :=
  let c3_i32_97 : BitVec 32 := 3#32
  let c0_i32_8 : BitVec 32 := 0#32
  let c1_i32 : BitVec 32 := 1#32
  let arg11 : BitVec 32 := Scf.iv c0_i32_8 c1_i32 k1_t1
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k1_off17 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v185 : Index := Scalar.indexCast arg11
  let c64_105 : Index := 64#32
  ![v185.toNat, 64]
def k1_off18 (k1_t1 : Fin k1_t1_loop.trips) : Fin 3 → Nat :=
  let c3_i32_106 : BitVec 32 := 3#32
  let c0_i32_8 : BitVec 32 := 0#32
  let c1_i32 : BitVec 32 := 1#32
  let arg11 : BitVec 32 := Scf.iv c0_i32_8 c1_i32 k1_t1
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k1_off19 (k1_t1 : Fin k1_t1_loop.trips) (c1_i32_109 : BitVec 32) : Fin 3 → Nat :=
  let c3_i32_108 : BitVec 32 := 3#32
  let c0_i32_8 : BitVec 32 := 0#32
  let c1_i32 : BitVec 32 := 1#32
  let arg11 : BitVec 32 := Scf.iv c0_i32_8 c1_i32 k1_t1
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k1_off20 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v214 : Index := Scalar.indexCast arg11
  let c80_116 : Index := 80#32
  ![v214.toNat, 80]
def k1_off21 (k1_t1 : Fin k1_t1_loop.trips) : Fin 3 → Nat :=
  let c3_i32_117 : BitVec 32 := 3#32
  let c0_i32_8 : BitVec 32 := 0#32
  let c1_i32 : BitVec 32 := 1#32
  let arg11 : BitVec 32 := Scf.iv c0_i32_8 c1_i32 k1_t1
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k1_off22 (k1_t1 : Fin k1_t1_loop.trips) (c1_i32_120 : BitVec 32) : Fin 3 → Nat :=
  let c3_i32_119 : BitVec 32 := 3#32
  let c0_i32_8 : BitVec 32 := 0#32
  let c1_i32 : BitVec 32 := 1#32
  let arg11 : BitVec 32 := Scf.iv c0_i32_8 c1_i32 k1_t1
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k1_off23 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v243 : Index := Scalar.indexCast arg11
  let c96_127 : Index := 96#32
  ![v243.toNat, 96]
def k1_off24 (k1_t1 : Fin k1_t1_loop.trips) : Fin 3 → Nat :=
  let c3_i32_128 : BitVec 32 := 3#32
  let c0_i32_8 : BitVec 32 := 0#32
  let c1_i32 : BitVec 32 := 1#32
  let arg11 : BitVec 32 := Scf.iv c0_i32_8 c1_i32 k1_t1
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k1_off25 (k1_t1 : Fin k1_t1_loop.trips) (c1_i32_131 : BitVec 32) : Fin 3 → Nat :=
  let c3_i32_130 : BitVec 32 := 3#32
  let c0_i32_8 : BitVec 32 := 0#32
  let c1_i32 : BitVec 32 := 1#32
  let arg11 : BitVec 32 := Scf.iv c0_i32_8 c1_i32 k1_t1
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k1_off26 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v272 : Index := Scalar.indexCast arg11
  let c112_138 : Index := 112#32
  ![v272.toNat, 112]
def k1_off27 (k1_t1 : Fin k1_t1_loop.trips) : Fin 3 → Nat :=
  let c3_i32_139 : BitVec 32 := 3#32
  let c0_i32_8 : BitVec 32 := 0#32
  let c1_i32 : BitVec 32 := 1#32
  let arg11 : BitVec 32 := Scf.iv c0_i32_8 c1_i32 k1_t1
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k1_off28 (k1_t1 : Fin k1_t1_loop.trips) (c1_i32_143 : BitVec 32) : Fin 3 → Nat :=
  let c3_i32_142 : BitVec 32 := 3#32
  let c0_i32_8 : BitVec 32 := 0#32
  let c1_i32 : BitVec 32 := 1#32
  let arg11 : BitVec 32 := Scf.iv c0_i32_8 c1_i32 k1_t1
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k1_off29 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v301 : Index := Scalar.indexCast arg11
  let c128 : Index := 128#32
  ![v301.toNat, 128]
def k1_off30 (k1_t1 : Fin k1_t1_loop.trips) : Fin 3 → Nat :=
  let c3_i32_150 : BitVec 32 := 3#32
  let c0_i32_8 : BitVec 32 := 0#32
  let c1_i32 : BitVec 32 := 1#32
  let arg11 : BitVec 32 := Scf.iv c0_i32_8 c1_i32 k1_t1
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k1_off31 (k1_t1 : Fin k1_t1_loop.trips) (c1_i32_154 : BitVec 32) : Fin 3 → Nat :=
  let c3_i32_153 : BitVec 32 := 3#32
  let c0_i32_8 : BitVec 32 := 0#32
  let c1_i32 : BitVec 32 := 1#32
  let arg11 : BitVec 32 := Scf.iv c0_i32_8 c1_i32 k1_t1
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k1_off32 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v330 : Index := Scalar.indexCast arg11
  let c144 : Index := 144#32
  ![v330.toNat, 144]
def k1_off33 (k1_t1 : Fin k1_t1_loop.trips) : Fin 3 → Nat :=
  let c3_i32_161 : BitVec 32 := 3#32
  let c0_i32_8 : BitVec 32 := 0#32
  let c1_i32 : BitVec 32 := 1#32
  let arg11 : BitVec 32 := Scf.iv c0_i32_8 c1_i32 k1_t1
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k1_off34 (k1_t1 : Fin k1_t1_loop.trips) (c1_i32_165 : BitVec 32) : Fin 3 → Nat :=
  let c3_i32_164 : BitVec 32 := 3#32
  let c0_i32_8 : BitVec 32 := 0#32
  let c1_i32 : BitVec 32 := 1#32
  let arg11 : BitVec 32 := Scf.iv c0_i32_8 c1_i32 k1_t1
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k1_off35 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v359 : Index := Scalar.indexCast arg11
  let c160 : Index := 160#32
  ![v359.toNat, 160]
def k1_off36 (k1_t1 : Fin k1_t1_loop.trips) : Fin 3 → Nat :=
  let c3_i32_172 : BitVec 32 := 3#32
  let c0_i32_8 : BitVec 32 := 0#32
  let c1_i32 : BitVec 32 := 1#32
  let arg11 : BitVec 32 := Scf.iv c0_i32_8 c1_i32 k1_t1
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k1_off37 (k1_t1 : Fin k1_t1_loop.trips) (c1_i32_176 : BitVec 32) : Fin 3 → Nat :=
  let c3_i32_175 : BitVec 32 := 3#32
  let c0_i32_8 : BitVec 32 := 0#32
  let c1_i32 : BitVec 32 := 1#32
  let arg11 : BitVec 32 := Scf.iv c0_i32_8 c1_i32 k1_t1
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k1_off38 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v388 : Index := Scalar.indexCast arg11
  let c176 : Index := 176#32
  ![v388.toNat, 176]
def k1_off39 (k1_t1 : Fin k1_t1_loop.trips) : Fin 3 → Nat :=
  let c3_i32_183 : BitVec 32 := 3#32
  let c0_i32_8 : BitVec 32 := 0#32
  let c1_i32 : BitVec 32 := 1#32
  let arg11 : BitVec 32 := Scf.iv c0_i32_8 c1_i32 k1_t1
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k1_off40 (k1_t1 : Fin k1_t1_loop.trips) (c1_i32_187 : BitVec 32) : Fin 3 → Nat :=
  let c3_i32_186 : BitVec 32 := 3#32
  let c0_i32_8 : BitVec 32 := 0#32
  let c1_i32 : BitVec 32 := 1#32
  let arg11 : BitVec 32 := Scf.iv c0_i32_8 c1_i32 k1_t1
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k1_off41 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v417 : Index := Scalar.indexCast arg11
  let c192 : Index := 192#32
  ![v417.toNat, 192]
def k1_off42 (k1_t1 : Fin k1_t1_loop.trips) : Fin 3 → Nat :=
  let c3_i32_194 : BitVec 32 := 3#32
  let c0_i32_8 : BitVec 32 := 0#32
  let c1_i32 : BitVec 32 := 1#32
  let arg11 : BitVec 32 := Scf.iv c0_i32_8 c1_i32 k1_t1
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k1_off43 (k1_t1 : Fin k1_t1_loop.trips) (c1_i32_198 : BitVec 32) : Fin 3 → Nat :=
  let c3_i32_197 : BitVec 32 := 3#32
  let c0_i32_8 : BitVec 32 := 0#32
  let c1_i32 : BitVec 32 := 1#32
  let arg11 : BitVec 32 := Scf.iv c0_i32_8 c1_i32 k1_t1
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k1_off44 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v446 : Index := Scalar.indexCast arg11
  let c208 : Index := 208#32
  ![v446.toNat, 208]
def k1_off45 (k1_t1 : Fin k1_t1_loop.trips) : Fin 3 → Nat :=
  let c3_i32_205 : BitVec 32 := 3#32
  let c0_i32_8 : BitVec 32 := 0#32
  let c1_i32 : BitVec 32 := 1#32
  let arg11 : BitVec 32 := Scf.iv c0_i32_8 c1_i32 k1_t1
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k1_off46 (k1_t1 : Fin k1_t1_loop.trips) (c1_i32_209 : BitVec 32) : Fin 3 → Nat :=
  let c3_i32_208 : BitVec 32 := 3#32
  let c0_i32_8 : BitVec 32 := 0#32
  let c1_i32 : BitVec 32 := 1#32
  let arg11 : BitVec 32 := Scf.iv c0_i32_8 c1_i32 k1_t1
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k1_off47 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v475 : Index := Scalar.indexCast arg11
  let c224 : Index := 224#32
  ![v475.toNat, 224]
def k1_off48 (k1_t1 : Fin k1_t1_loop.trips) : Fin 3 → Nat :=
  let c3_i32_216 : BitVec 32 := 3#32
  let c0_i32_8 : BitVec 32 := 0#32
  let c1_i32 : BitVec 32 := 1#32
  let arg11 : BitVec 32 := Scf.iv c0_i32_8 c1_i32 k1_t1
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k1_off49 (k1_t1 : Fin k1_t1_loop.trips) (c1_i32_220 : BitVec 32) : Fin 3 → Nat :=
  let c3_i32_219 : BitVec 32 := 3#32
  let c0_i32_8 : BitVec 32 := 0#32
  let c1_i32 : BitVec 32 := 1#32
  let arg11 : BitVec 32 := Scf.iv c0_i32_8 c1_i32 k1_t1
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k1_off50 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v504 : Index := Scalar.indexCast arg11
  let c240 : Index := 240#32
  ![v504.toNat, 240]
def k1_off51 (i : grid1.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v4 : BitVec 32 := Scalar.muli v1 c256_i32
  let v5 : BitVec 32 := Scalar.addi v4 c0_i32_0
  let c0_i32_51_r2 : BitVec 32 := 0#32
  ![v5.toNat, 0]
@[reducible] def k1_t2_loop : Scf.Loop 32 :=
  let c0_i32_20 : BitVec 32 := 0#32
  let c64_i32_21 : BitVec 32 := 64#32
  let v16 : BitVec 32 := Scalar.addi c0_i32_20 c64_i32_21
  let c1_i32_22 : BitVec 32 := 1#32
  ⟨c0_i32_20, v16, c1_i32_22⟩
def k1_off52 (k1_t2 : Fin k1_t2_loop.trips) : Fin 1 → Nat :=
  let c3_i32 : BitVec 32 := 3#32
  let c0_i32_20 : BitVec 32 := 0#32
  let c1_i32_22 : BitVec 32 := 1#32
  let arg11 : BitVec 32 := Scf.iv c0_i32_20 c1_i32_22 k1_t2
  let v34 : BitVec 32 := Scalar.muli c3_i32 arg11
  let v35 : Index := Scalar.indexCast v34
  ![v35.toNat]
def k1_off53 (k1_t2 : Fin k1_t2_loop.trips) : Fin 3 → Nat :=
  let c3_i32_51 : BitVec 32 := 3#32
  let c0_i32_20 : BitVec 32 := 0#32
  let c1_i32_22 : BitVec 32 := 1#32
  let arg11 : BitVec 32 := Scf.iv c0_i32_20 c1_i32_22 k1_t2
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k1_off54 (k1_t2 : Fin k1_t2_loop.trips) (c1_i32_54 : BitVec 32) : Fin 3 → Nat :=
  let c3_i32_53 : BitVec 32 := 3#32
  let c0_i32_20 : BitVec 32 := 0#32
  let c1_i32_22 : BitVec 32 := 1#32
  let arg11 : BitVec 32 := Scf.iv c0_i32_20 c1_i32_22 k1_t2
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k1_off55 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v69 : Index := Scalar.indexCast arg11
  let c0_61 : Index := 0#32
  ![v69.toNat, 0]
def k1_off56 (k1_t2 : Fin k1_t2_loop.trips) : Fin 3 → Nat :=
  let c3_i32_62 : BitVec 32 := 3#32
  let c0_i32_20 : BitVec 32 := 0#32
  let c1_i32_22 : BitVec 32 := 1#32
  let arg11 : BitVec 32 := Scf.iv c0_i32_20 c1_i32_22 k1_t2
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k1_off57 (k1_t2 : Fin k1_t2_loop.trips) (c1_i32_65 : BitVec 32) : Fin 3 → Nat :=
  let c3_i32_64 : BitVec 32 := 3#32
  let c0_i32_20 : BitVec 32 := 0#32
  let c1_i32_22 : BitVec 32 := 1#32
  let arg11 : BitVec 32 := Scf.iv c0_i32_20 c1_i32_22 k1_t2
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k1_off58 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v98 : Index := Scalar.indexCast arg11
  let c16_72 : Index := 16#32
  ![v98.toNat, 16]
def k1_off59 (k1_t2 : Fin k1_t2_loop.trips) : Fin 3 → Nat :=
  let c3_i32_73 : BitVec 32 := 3#32
  let c0_i32_20 : BitVec 32 := 0#32
  let c1_i32_22 : BitVec 32 := 1#32
  let arg11 : BitVec 32 := Scf.iv c0_i32_20 c1_i32_22 k1_t2
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k1_off60 (k1_t2 : Fin k1_t2_loop.trips) (c1_i32_76 : BitVec 32) : Fin 3 → Nat :=
  let c3_i32_75 : BitVec 32 := 3#32
  let c0_i32_20 : BitVec 32 := 0#32
  let c1_i32_22 : BitVec 32 := 1#32
  let arg11 : BitVec 32 := Scf.iv c0_i32_20 c1_i32_22 k1_t2
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k1_off61 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v127 : Index := Scalar.indexCast arg11
  let c32_83 : Index := 32#32
  ![v127.toNat, 32]
def k1_off62 (k1_t2 : Fin k1_t2_loop.trips) : Fin 3 → Nat :=
  let c3_i32_84 : BitVec 32 := 3#32
  let c0_i32_20 : BitVec 32 := 0#32
  let c1_i32_22 : BitVec 32 := 1#32
  let arg11 : BitVec 32 := Scf.iv c0_i32_20 c1_i32_22 k1_t2
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k1_off63 (k1_t2 : Fin k1_t2_loop.trips) (c1_i32_87 : BitVec 32) : Fin 3 → Nat :=
  let c3_i32_86 : BitVec 32 := 3#32
  let c0_i32_20 : BitVec 32 := 0#32
  let c1_i32_22 : BitVec 32 := 1#32
  let arg11 : BitVec 32 := Scf.iv c0_i32_20 c1_i32_22 k1_t2
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k1_off64 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v156 : Index := Scalar.indexCast arg11
  let c48_94 : Index := 48#32
  ![v156.toNat, 48]
def k1_off65 (k1_t2 : Fin k1_t2_loop.trips) : Fin 3 → Nat :=
  let c3_i32_95 : BitVec 32 := 3#32
  let c0_i32_20 : BitVec 32 := 0#32
  let c1_i32_22 : BitVec 32 := 1#32
  let arg11 : BitVec 32 := Scf.iv c0_i32_20 c1_i32_22 k1_t2
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k1_off66 (k1_t2 : Fin k1_t2_loop.trips) (c1_i32_98 : BitVec 32) : Fin 3 → Nat :=
  let c3_i32_97 : BitVec 32 := 3#32
  let c0_i32_20 : BitVec 32 := 0#32
  let c1_i32_22 : BitVec 32 := 1#32
  let arg11 : BitVec 32 := Scf.iv c0_i32_20 c1_i32_22 k1_t2
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k1_off67 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v185 : Index := Scalar.indexCast arg11
  let c64_105 : Index := 64#32
  ![v185.toNat, 64]
def k1_off68 (k1_t2 : Fin k1_t2_loop.trips) : Fin 3 → Nat :=
  let c3_i32_106 : BitVec 32 := 3#32
  let c0_i32_20 : BitVec 32 := 0#32
  let c1_i32_22 : BitVec 32 := 1#32
  let arg11 : BitVec 32 := Scf.iv c0_i32_20 c1_i32_22 k1_t2
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k1_off69 (k1_t2 : Fin k1_t2_loop.trips) (c1_i32_109 : BitVec 32) : Fin 3 → Nat :=
  let c3_i32_108 : BitVec 32 := 3#32
  let c0_i32_20 : BitVec 32 := 0#32
  let c1_i32_22 : BitVec 32 := 1#32
  let arg11 : BitVec 32 := Scf.iv c0_i32_20 c1_i32_22 k1_t2
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k1_off70 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v214 : Index := Scalar.indexCast arg11
  let c80_116 : Index := 80#32
  ![v214.toNat, 80]
def k1_off71 (k1_t2 : Fin k1_t2_loop.trips) : Fin 3 → Nat :=
  let c3_i32_117 : BitVec 32 := 3#32
  let c0_i32_20 : BitVec 32 := 0#32
  let c1_i32_22 : BitVec 32 := 1#32
  let arg11 : BitVec 32 := Scf.iv c0_i32_20 c1_i32_22 k1_t2
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k1_off72 (k1_t2 : Fin k1_t2_loop.trips) (c1_i32_120 : BitVec 32) : Fin 3 → Nat :=
  let c3_i32_119 : BitVec 32 := 3#32
  let c0_i32_20 : BitVec 32 := 0#32
  let c1_i32_22 : BitVec 32 := 1#32
  let arg11 : BitVec 32 := Scf.iv c0_i32_20 c1_i32_22 k1_t2
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k1_off73 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v243 : Index := Scalar.indexCast arg11
  let c96_127 : Index := 96#32
  ![v243.toNat, 96]
def k1_off74 (k1_t2 : Fin k1_t2_loop.trips) : Fin 3 → Nat :=
  let c3_i32_128 : BitVec 32 := 3#32
  let c0_i32_20 : BitVec 32 := 0#32
  let c1_i32_22 : BitVec 32 := 1#32
  let arg11 : BitVec 32 := Scf.iv c0_i32_20 c1_i32_22 k1_t2
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k1_off75 (k1_t2 : Fin k1_t2_loop.trips) (c1_i32_131 : BitVec 32) : Fin 3 → Nat :=
  let c3_i32_130 : BitVec 32 := 3#32
  let c0_i32_20 : BitVec 32 := 0#32
  let c1_i32_22 : BitVec 32 := 1#32
  let arg11 : BitVec 32 := Scf.iv c0_i32_20 c1_i32_22 k1_t2
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k1_off76 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v272 : Index := Scalar.indexCast arg11
  let c112_138 : Index := 112#32
  ![v272.toNat, 112]
def k1_off77 (k1_t2 : Fin k1_t2_loop.trips) : Fin 3 → Nat :=
  let c3_i32_139 : BitVec 32 := 3#32
  let c0_i32_20 : BitVec 32 := 0#32
  let c1_i32_22 : BitVec 32 := 1#32
  let arg11 : BitVec 32 := Scf.iv c0_i32_20 c1_i32_22 k1_t2
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k1_off78 (k1_t2 : Fin k1_t2_loop.trips) (c1_i32_143 : BitVec 32) : Fin 3 → Nat :=
  let c3_i32_142 : BitVec 32 := 3#32
  let c0_i32_20 : BitVec 32 := 0#32
  let c1_i32_22 : BitVec 32 := 1#32
  let arg11 : BitVec 32 := Scf.iv c0_i32_20 c1_i32_22 k1_t2
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k1_off79 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v301 : Index := Scalar.indexCast arg11
  let c128 : Index := 128#32
  ![v301.toNat, 128]
def k1_off80 (k1_t2 : Fin k1_t2_loop.trips) : Fin 3 → Nat :=
  let c3_i32_150 : BitVec 32 := 3#32
  let c0_i32_20 : BitVec 32 := 0#32
  let c1_i32_22 : BitVec 32 := 1#32
  let arg11 : BitVec 32 := Scf.iv c0_i32_20 c1_i32_22 k1_t2
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k1_off81 (k1_t2 : Fin k1_t2_loop.trips) (c1_i32_154 : BitVec 32) : Fin 3 → Nat :=
  let c3_i32_153 : BitVec 32 := 3#32
  let c0_i32_20 : BitVec 32 := 0#32
  let c1_i32_22 : BitVec 32 := 1#32
  let arg11 : BitVec 32 := Scf.iv c0_i32_20 c1_i32_22 k1_t2
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k1_off82 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v330 : Index := Scalar.indexCast arg11
  let c144 : Index := 144#32
  ![v330.toNat, 144]
def k1_off83 (k1_t2 : Fin k1_t2_loop.trips) : Fin 3 → Nat :=
  let c3_i32_161 : BitVec 32 := 3#32
  let c0_i32_20 : BitVec 32 := 0#32
  let c1_i32_22 : BitVec 32 := 1#32
  let arg11 : BitVec 32 := Scf.iv c0_i32_20 c1_i32_22 k1_t2
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k1_off84 (k1_t2 : Fin k1_t2_loop.trips) (c1_i32_165 : BitVec 32) : Fin 3 → Nat :=
  let c3_i32_164 : BitVec 32 := 3#32
  let c0_i32_20 : BitVec 32 := 0#32
  let c1_i32_22 : BitVec 32 := 1#32
  let arg11 : BitVec 32 := Scf.iv c0_i32_20 c1_i32_22 k1_t2
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k1_off85 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v359 : Index := Scalar.indexCast arg11
  let c160 : Index := 160#32
  ![v359.toNat, 160]
def k1_off86 (k1_t2 : Fin k1_t2_loop.trips) : Fin 3 → Nat :=
  let c3_i32_172 : BitVec 32 := 3#32
  let c0_i32_20 : BitVec 32 := 0#32
  let c1_i32_22 : BitVec 32 := 1#32
  let arg11 : BitVec 32 := Scf.iv c0_i32_20 c1_i32_22 k1_t2
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k1_off87 (k1_t2 : Fin k1_t2_loop.trips) (c1_i32_176 : BitVec 32) : Fin 3 → Nat :=
  let c3_i32_175 : BitVec 32 := 3#32
  let c0_i32_20 : BitVec 32 := 0#32
  let c1_i32_22 : BitVec 32 := 1#32
  let arg11 : BitVec 32 := Scf.iv c0_i32_20 c1_i32_22 k1_t2
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k1_off88 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v388 : Index := Scalar.indexCast arg11
  let c176 : Index := 176#32
  ![v388.toNat, 176]
def k1_off89 (k1_t2 : Fin k1_t2_loop.trips) : Fin 3 → Nat :=
  let c3_i32_183 : BitVec 32 := 3#32
  let c0_i32_20 : BitVec 32 := 0#32
  let c1_i32_22 : BitVec 32 := 1#32
  let arg11 : BitVec 32 := Scf.iv c0_i32_20 c1_i32_22 k1_t2
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k1_off90 (k1_t2 : Fin k1_t2_loop.trips) (c1_i32_187 : BitVec 32) : Fin 3 → Nat :=
  let c3_i32_186 : BitVec 32 := 3#32
  let c0_i32_20 : BitVec 32 := 0#32
  let c1_i32_22 : BitVec 32 := 1#32
  let arg11 : BitVec 32 := Scf.iv c0_i32_20 c1_i32_22 k1_t2
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k1_off91 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v417 : Index := Scalar.indexCast arg11
  let c192 : Index := 192#32
  ![v417.toNat, 192]
def k1_off92 (k1_t2 : Fin k1_t2_loop.trips) : Fin 3 → Nat :=
  let c3_i32_194 : BitVec 32 := 3#32
  let c0_i32_20 : BitVec 32 := 0#32
  let c1_i32_22 : BitVec 32 := 1#32
  let arg11 : BitVec 32 := Scf.iv c0_i32_20 c1_i32_22 k1_t2
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k1_off93 (k1_t2 : Fin k1_t2_loop.trips) (c1_i32_198 : BitVec 32) : Fin 3 → Nat :=
  let c3_i32_197 : BitVec 32 := 3#32
  let c0_i32_20 : BitVec 32 := 0#32
  let c1_i32_22 : BitVec 32 := 1#32
  let arg11 : BitVec 32 := Scf.iv c0_i32_20 c1_i32_22 k1_t2
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k1_off94 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v446 : Index := Scalar.indexCast arg11
  let c208 : Index := 208#32
  ![v446.toNat, 208]
def k1_off95 (k1_t2 : Fin k1_t2_loop.trips) : Fin 3 → Nat :=
  let c3_i32_205 : BitVec 32 := 3#32
  let c0_i32_20 : BitVec 32 := 0#32
  let c1_i32_22 : BitVec 32 := 1#32
  let arg11 : BitVec 32 := Scf.iv c0_i32_20 c1_i32_22 k1_t2
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k1_off96 (k1_t2 : Fin k1_t2_loop.trips) (c1_i32_209 : BitVec 32) : Fin 3 → Nat :=
  let c3_i32_208 : BitVec 32 := 3#32
  let c0_i32_20 : BitVec 32 := 0#32
  let c1_i32_22 : BitVec 32 := 1#32
  let arg11 : BitVec 32 := Scf.iv c0_i32_20 c1_i32_22 k1_t2
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k1_off97 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v475 : Index := Scalar.indexCast arg11
  let c224 : Index := 224#32
  ![v475.toNat, 224]
def k1_off98 (k1_t2 : Fin k1_t2_loop.trips) : Fin 3 → Nat :=
  let c3_i32_216 : BitVec 32 := 3#32
  let c0_i32_20 : BitVec 32 := 0#32
  let c1_i32_22 : BitVec 32 := 1#32
  let arg11 : BitVec 32 := Scf.iv c0_i32_20 c1_i32_22 k1_t2
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k1_off99 (k1_t2 : Fin k1_t2_loop.trips) (c1_i32_220 : BitVec 32) : Fin 3 → Nat :=
  let c3_i32_219 : BitVec 32 := 3#32
  let c0_i32_20 : BitVec 32 := 0#32
  let c1_i32_22 : BitVec 32 := 1#32
  let arg11 : BitVec 32 := Scf.iv c0_i32_20 c1_i32_22 k1_t2
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k1_off100 (k1_t2 : Fin k1_t2_loop.trips) : Fin 2 → Nat :=
  let c0_i32_20 : BitVec 32 := 0#32
  let c1_i32_22 : BitVec 32 := 1#32
  let arg11 : BitVec 32 := Scf.iv c0_i32_20 c1_i32_22 k1_t2
  let v504 : Index := Scalar.indexCast arg11
  let c240 : Index := 240#32
  ![v504.toNat, 240]
@[reducible] def k1_t3_loop : Scf.Loop 32 :=
  let c0_i32_33 : BitVec 32 := 0#32
  let c64_i32_34 : BitVec 32 := 64#32
  let v24 : BitVec 32 := Scalar.addi c0_i32_33 c64_i32_34
  let c1_i32_35 : BitVec 32 := 1#32
  ⟨c0_i32_33, v24, c1_i32_35⟩
def k1_off101 (k1_t3 : Fin k1_t3_loop.trips) : Fin 1 → Nat :=
  let c3_i32 : BitVec 32 := 3#32
  let c0_i32_33 : BitVec 32 := 0#32
  let c1_i32_35 : BitVec 32 := 1#32
  let arg11 : BitVec 32 := Scf.iv c0_i32_33 c1_i32_35 k1_t3
  let v34 : BitVec 32 := Scalar.muli c3_i32 arg11
  let v35 : Index := Scalar.indexCast v34
  ![v35.toNat]
def k1_off102 (k1_t3 : Fin k1_t3_loop.trips) : Fin 3 → Nat :=
  let c3_i32_51 : BitVec 32 := 3#32
  let c0_i32_33 : BitVec 32 := 0#32
  let c1_i32_35 : BitVec 32 := 1#32
  let arg11 : BitVec 32 := Scf.iv c0_i32_33 c1_i32_35 k1_t3
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k1_off103 (k1_t3 : Fin k1_t3_loop.trips) (c1_i32_54 : BitVec 32) : Fin 3 → Nat :=
  let c3_i32_53 : BitVec 32 := 3#32
  let c0_i32_33 : BitVec 32 := 0#32
  let c1_i32_35 : BitVec 32 := 1#32
  let arg11 : BitVec 32 := Scf.iv c0_i32_33 c1_i32_35 k1_t3
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k1_off104 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v69 : Index := Scalar.indexCast arg11
  let c0_61 : Index := 0#32
  ![v69.toNat, 0]
def k1_off105 (k1_t3 : Fin k1_t3_loop.trips) : Fin 3 → Nat :=
  let c3_i32_62 : BitVec 32 := 3#32
  let c0_i32_33 : BitVec 32 := 0#32
  let c1_i32_35 : BitVec 32 := 1#32
  let arg11 : BitVec 32 := Scf.iv c0_i32_33 c1_i32_35 k1_t3
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k1_off106 (k1_t3 : Fin k1_t3_loop.trips) (c1_i32_65 : BitVec 32) : Fin 3 → Nat :=
  let c3_i32_64 : BitVec 32 := 3#32
  let c0_i32_33 : BitVec 32 := 0#32
  let c1_i32_35 : BitVec 32 := 1#32
  let arg11 : BitVec 32 := Scf.iv c0_i32_33 c1_i32_35 k1_t3
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k1_off107 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v98 : Index := Scalar.indexCast arg11
  let c16_72 : Index := 16#32
  ![v98.toNat, 16]
def k1_off108 (k1_t3 : Fin k1_t3_loop.trips) : Fin 3 → Nat :=
  let c3_i32_73 : BitVec 32 := 3#32
  let c0_i32_33 : BitVec 32 := 0#32
  let c1_i32_35 : BitVec 32 := 1#32
  let arg11 : BitVec 32 := Scf.iv c0_i32_33 c1_i32_35 k1_t3
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k1_off109 (k1_t3 : Fin k1_t3_loop.trips) (c1_i32_76 : BitVec 32) : Fin 3 → Nat :=
  let c3_i32_75 : BitVec 32 := 3#32
  let c0_i32_33 : BitVec 32 := 0#32
  let c1_i32_35 : BitVec 32 := 1#32
  let arg11 : BitVec 32 := Scf.iv c0_i32_33 c1_i32_35 k1_t3
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k1_off110 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v127 : Index := Scalar.indexCast arg11
  let c32_83 : Index := 32#32
  ![v127.toNat, 32]
def k1_off111 (k1_t3 : Fin k1_t3_loop.trips) : Fin 3 → Nat :=
  let c3_i32_84 : BitVec 32 := 3#32
  let c0_i32_33 : BitVec 32 := 0#32
  let c1_i32_35 : BitVec 32 := 1#32
  let arg11 : BitVec 32 := Scf.iv c0_i32_33 c1_i32_35 k1_t3
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k1_off112 (k1_t3 : Fin k1_t3_loop.trips) (c1_i32_87 : BitVec 32) : Fin 3 → Nat :=
  let c3_i32_86 : BitVec 32 := 3#32
  let c0_i32_33 : BitVec 32 := 0#32
  let c1_i32_35 : BitVec 32 := 1#32
  let arg11 : BitVec 32 := Scf.iv c0_i32_33 c1_i32_35 k1_t3
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k1_off113 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v156 : Index := Scalar.indexCast arg11
  let c48_94 : Index := 48#32
  ![v156.toNat, 48]
def k1_off114 (k1_t3 : Fin k1_t3_loop.trips) : Fin 3 → Nat :=
  let c3_i32_95 : BitVec 32 := 3#32
  let c0_i32_33 : BitVec 32 := 0#32
  let c1_i32_35 : BitVec 32 := 1#32
  let arg11 : BitVec 32 := Scf.iv c0_i32_33 c1_i32_35 k1_t3
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k1_off115 (k1_t3 : Fin k1_t3_loop.trips) (c1_i32_98 : BitVec 32) : Fin 3 → Nat :=
  let c3_i32_97 : BitVec 32 := 3#32
  let c0_i32_33 : BitVec 32 := 0#32
  let c1_i32_35 : BitVec 32 := 1#32
  let arg11 : BitVec 32 := Scf.iv c0_i32_33 c1_i32_35 k1_t3
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k1_off116 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v185 : Index := Scalar.indexCast arg11
  let c64_105 : Index := 64#32
  ![v185.toNat, 64]
def k1_off117 (k1_t3 : Fin k1_t3_loop.trips) : Fin 3 → Nat :=
  let c3_i32_106 : BitVec 32 := 3#32
  let c0_i32_33 : BitVec 32 := 0#32
  let c1_i32_35 : BitVec 32 := 1#32
  let arg11 : BitVec 32 := Scf.iv c0_i32_33 c1_i32_35 k1_t3
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k1_off118 (k1_t3 : Fin k1_t3_loop.trips) (c1_i32_109 : BitVec 32) : Fin 3 → Nat :=
  let c3_i32_108 : BitVec 32 := 3#32
  let c0_i32_33 : BitVec 32 := 0#32
  let c1_i32_35 : BitVec 32 := 1#32
  let arg11 : BitVec 32 := Scf.iv c0_i32_33 c1_i32_35 k1_t3
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k1_off119 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v214 : Index := Scalar.indexCast arg11
  let c80_116 : Index := 80#32
  ![v214.toNat, 80]
def k1_off120 (k1_t3 : Fin k1_t3_loop.trips) : Fin 3 → Nat :=
  let c3_i32_117 : BitVec 32 := 3#32
  let c0_i32_33 : BitVec 32 := 0#32
  let c1_i32_35 : BitVec 32 := 1#32
  let arg11 : BitVec 32 := Scf.iv c0_i32_33 c1_i32_35 k1_t3
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k1_off121 (k1_t3 : Fin k1_t3_loop.trips) (c1_i32_120 : BitVec 32) : Fin 3 → Nat :=
  let c3_i32_119 : BitVec 32 := 3#32
  let c0_i32_33 : BitVec 32 := 0#32
  let c1_i32_35 : BitVec 32 := 1#32
  let arg11 : BitVec 32 := Scf.iv c0_i32_33 c1_i32_35 k1_t3
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k1_off122 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v243 : Index := Scalar.indexCast arg11
  let c96_127 : Index := 96#32
  ![v243.toNat, 96]
def k1_off123 (k1_t3 : Fin k1_t3_loop.trips) : Fin 3 → Nat :=
  let c3_i32_128 : BitVec 32 := 3#32
  let c0_i32_33 : BitVec 32 := 0#32
  let c1_i32_35 : BitVec 32 := 1#32
  let arg11 : BitVec 32 := Scf.iv c0_i32_33 c1_i32_35 k1_t3
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k1_off124 (k1_t3 : Fin k1_t3_loop.trips) (c1_i32_131 : BitVec 32) : Fin 3 → Nat :=
  let c3_i32_130 : BitVec 32 := 3#32
  let c0_i32_33 : BitVec 32 := 0#32
  let c1_i32_35 : BitVec 32 := 1#32
  let arg11 : BitVec 32 := Scf.iv c0_i32_33 c1_i32_35 k1_t3
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k1_off125 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v272 : Index := Scalar.indexCast arg11
  let c112_138 : Index := 112#32
  ![v272.toNat, 112]
def k1_off126 (k1_t3 : Fin k1_t3_loop.trips) : Fin 3 → Nat :=
  let c3_i32_139 : BitVec 32 := 3#32
  let c0_i32_33 : BitVec 32 := 0#32
  let c1_i32_35 : BitVec 32 := 1#32
  let arg11 : BitVec 32 := Scf.iv c0_i32_33 c1_i32_35 k1_t3
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k1_off127 (k1_t3 : Fin k1_t3_loop.trips) (c1_i32_143 : BitVec 32) : Fin 3 → Nat :=
  let c3_i32_142 : BitVec 32 := 3#32
  let c0_i32_33 : BitVec 32 := 0#32
  let c1_i32_35 : BitVec 32 := 1#32
  let arg11 : BitVec 32 := Scf.iv c0_i32_33 c1_i32_35 k1_t3
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k1_off128 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v301 : Index := Scalar.indexCast arg11
  let c128 : Index := 128#32
  ![v301.toNat, 128]
def k1_off129 (k1_t3 : Fin k1_t3_loop.trips) : Fin 3 → Nat :=
  let c3_i32_150 : BitVec 32 := 3#32
  let c0_i32_33 : BitVec 32 := 0#32
  let c1_i32_35 : BitVec 32 := 1#32
  let arg11 : BitVec 32 := Scf.iv c0_i32_33 c1_i32_35 k1_t3
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k1_off130 (k1_t3 : Fin k1_t3_loop.trips) (c1_i32_154 : BitVec 32) : Fin 3 → Nat :=
  let c3_i32_153 : BitVec 32 := 3#32
  let c0_i32_33 : BitVec 32 := 0#32
  let c1_i32_35 : BitVec 32 := 1#32
  let arg11 : BitVec 32 := Scf.iv c0_i32_33 c1_i32_35 k1_t3
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k1_off131 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v330 : Index := Scalar.indexCast arg11
  let c144 : Index := 144#32
  ![v330.toNat, 144]
def k1_off132 (k1_t3 : Fin k1_t3_loop.trips) : Fin 3 → Nat :=
  let c3_i32_161 : BitVec 32 := 3#32
  let c0_i32_33 : BitVec 32 := 0#32
  let c1_i32_35 : BitVec 32 := 1#32
  let arg11 : BitVec 32 := Scf.iv c0_i32_33 c1_i32_35 k1_t3
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k1_off133 (k1_t3 : Fin k1_t3_loop.trips) (c1_i32_165 : BitVec 32) : Fin 3 → Nat :=
  let c3_i32_164 : BitVec 32 := 3#32
  let c0_i32_33 : BitVec 32 := 0#32
  let c1_i32_35 : BitVec 32 := 1#32
  let arg11 : BitVec 32 := Scf.iv c0_i32_33 c1_i32_35 k1_t3
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k1_off134 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v359 : Index := Scalar.indexCast arg11
  let c160 : Index := 160#32
  ![v359.toNat, 160]
def k1_off135 (k1_t3 : Fin k1_t3_loop.trips) : Fin 3 → Nat :=
  let c3_i32_172 : BitVec 32 := 3#32
  let c0_i32_33 : BitVec 32 := 0#32
  let c1_i32_35 : BitVec 32 := 1#32
  let arg11 : BitVec 32 := Scf.iv c0_i32_33 c1_i32_35 k1_t3
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k1_off136 (k1_t3 : Fin k1_t3_loop.trips) (c1_i32_176 : BitVec 32) : Fin 3 → Nat :=
  let c3_i32_175 : BitVec 32 := 3#32
  let c0_i32_33 : BitVec 32 := 0#32
  let c1_i32_35 : BitVec 32 := 1#32
  let arg11 : BitVec 32 := Scf.iv c0_i32_33 c1_i32_35 k1_t3
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k1_off137 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v388 : Index := Scalar.indexCast arg11
  let c176 : Index := 176#32
  ![v388.toNat, 176]
def k1_off138 (k1_t3 : Fin k1_t3_loop.trips) : Fin 3 → Nat :=
  let c3_i32_183 : BitVec 32 := 3#32
  let c0_i32_33 : BitVec 32 := 0#32
  let c1_i32_35 : BitVec 32 := 1#32
  let arg11 : BitVec 32 := Scf.iv c0_i32_33 c1_i32_35 k1_t3
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k1_off139 (k1_t3 : Fin k1_t3_loop.trips) (c1_i32_187 : BitVec 32) : Fin 3 → Nat :=
  let c3_i32_186 : BitVec 32 := 3#32
  let c0_i32_33 : BitVec 32 := 0#32
  let c1_i32_35 : BitVec 32 := 1#32
  let arg11 : BitVec 32 := Scf.iv c0_i32_33 c1_i32_35 k1_t3
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k1_off140 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v417 : Index := Scalar.indexCast arg11
  let c192 : Index := 192#32
  ![v417.toNat, 192]
def k1_off141 (k1_t3 : Fin k1_t3_loop.trips) : Fin 3 → Nat :=
  let c3_i32_194 : BitVec 32 := 3#32
  let c0_i32_33 : BitVec 32 := 0#32
  let c1_i32_35 : BitVec 32 := 1#32
  let arg11 : BitVec 32 := Scf.iv c0_i32_33 c1_i32_35 k1_t3
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k1_off142 (k1_t3 : Fin k1_t3_loop.trips) (c1_i32_198 : BitVec 32) : Fin 3 → Nat :=
  let c3_i32_197 : BitVec 32 := 3#32
  let c0_i32_33 : BitVec 32 := 0#32
  let c1_i32_35 : BitVec 32 := 1#32
  let arg11 : BitVec 32 := Scf.iv c0_i32_33 c1_i32_35 k1_t3
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k1_off143 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v446 : Index := Scalar.indexCast arg11
  let c208 : Index := 208#32
  ![v446.toNat, 208]
def k1_off144 (k1_t3 : Fin k1_t3_loop.trips) : Fin 3 → Nat :=
  let c3_i32_205 : BitVec 32 := 3#32
  let c0_i32_33 : BitVec 32 := 0#32
  let c1_i32_35 : BitVec 32 := 1#32
  let arg11 : BitVec 32 := Scf.iv c0_i32_33 c1_i32_35 k1_t3
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k1_off145 (k1_t3 : Fin k1_t3_loop.trips) (c1_i32_209 : BitVec 32) : Fin 3 → Nat :=
  let c3_i32_208 : BitVec 32 := 3#32
  let c0_i32_33 : BitVec 32 := 0#32
  let c1_i32_35 : BitVec 32 := 1#32
  let arg11 : BitVec 32 := Scf.iv c0_i32_33 c1_i32_35 k1_t3
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k1_off146 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v475 : Index := Scalar.indexCast arg11
  let c224 : Index := 224#32
  ![v475.toNat, 224]
def k1_off147 (k1_t3 : Fin k1_t3_loop.trips) : Fin 3 → Nat :=
  let c3_i32_216 : BitVec 32 := 3#32
  let c0_i32_33 : BitVec 32 := 0#32
  let c1_i32_35 : BitVec 32 := 1#32
  let arg11 : BitVec 32 := Scf.iv c0_i32_33 c1_i32_35 k1_t3
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k1_off148 (k1_t3 : Fin k1_t3_loop.trips) (c1_i32_220 : BitVec 32) : Fin 3 → Nat :=
  let c3_i32_219 : BitVec 32 := 3#32
  let c0_i32_33 : BitVec 32 := 0#32
  let c1_i32_35 : BitVec 32 := 1#32
  let arg11 : BitVec 32 := Scf.iv c0_i32_33 c1_i32_35 k1_t3
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k1_off149 (k1_t3 : Fin k1_t3_loop.trips) : Fin 2 → Nat :=
  let c0_i32_33 : BitVec 32 := 0#32
  let c1_i32_35 : BitVec 32 := 1#32
  let arg11 : BitVec 32 := Scf.iv c0_i32_33 c1_i32_35 k1_t3
  let v504 : Index := Scalar.indexCast arg11
  let c240 : Index := 240#32
  ![v504.toNat, 240]
@[reducible] def k1_t4_loop : Scf.Loop 32 :=
  let c0_i32_47 : BitVec 32 := 0#32
  let c64_i32_48 : BitVec 32 := 64#32
  let v32 : BitVec 32 := Scalar.addi c0_i32_47 c64_i32_48
  let c1_i32_49 : BitVec 32 := 1#32
  ⟨c0_i32_47, v32, c1_i32_49⟩
def k1_off150 (k1_t4 : Fin k1_t4_loop.trips) : Fin 1 → Nat :=
  let c3_i32 : BitVec 32 := 3#32
  let c0_i32_47 : BitVec 32 := 0#32
  let c1_i32_49 : BitVec 32 := 1#32
  let arg11 : BitVec 32 := Scf.iv c0_i32_47 c1_i32_49 k1_t4
  let v34 : BitVec 32 := Scalar.muli c3_i32 arg11
  let v35 : Index := Scalar.indexCast v34
  ![v35.toNat]
def k1_off151 (k1_t4 : Fin k1_t4_loop.trips) : Fin 3 → Nat :=
  let c3_i32_51 : BitVec 32 := 3#32
  let c0_i32_47 : BitVec 32 := 0#32
  let c1_i32_49 : BitVec 32 := 1#32
  let arg11 : BitVec 32 := Scf.iv c0_i32_47 c1_i32_49 k1_t4
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k1_off152 (k1_t4 : Fin k1_t4_loop.trips) (c1_i32_54 : BitVec 32) : Fin 3 → Nat :=
  let c3_i32_53 : BitVec 32 := 3#32
  let c0_i32_47 : BitVec 32 := 0#32
  let c1_i32_49 : BitVec 32 := 1#32
  let arg11 : BitVec 32 := Scf.iv c0_i32_47 c1_i32_49 k1_t4
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k1_off153 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v69 : Index := Scalar.indexCast arg11
  let c0_61 : Index := 0#32
  ![v69.toNat, 0]
def k1_off154 (k1_t4 : Fin k1_t4_loop.trips) : Fin 3 → Nat :=
  let c3_i32_62 : BitVec 32 := 3#32
  let c0_i32_47 : BitVec 32 := 0#32
  let c1_i32_49 : BitVec 32 := 1#32
  let arg11 : BitVec 32 := Scf.iv c0_i32_47 c1_i32_49 k1_t4
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k1_off155 (k1_t4 : Fin k1_t4_loop.trips) (c1_i32_65 : BitVec 32) : Fin 3 → Nat :=
  let c3_i32_64 : BitVec 32 := 3#32
  let c0_i32_47 : BitVec 32 := 0#32
  let c1_i32_49 : BitVec 32 := 1#32
  let arg11 : BitVec 32 := Scf.iv c0_i32_47 c1_i32_49 k1_t4
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k1_off156 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v98 : Index := Scalar.indexCast arg11
  let c16_72 : Index := 16#32
  ![v98.toNat, 16]
def k1_off157 (k1_t4 : Fin k1_t4_loop.trips) : Fin 3 → Nat :=
  let c3_i32_73 : BitVec 32 := 3#32
  let c0_i32_47 : BitVec 32 := 0#32
  let c1_i32_49 : BitVec 32 := 1#32
  let arg11 : BitVec 32 := Scf.iv c0_i32_47 c1_i32_49 k1_t4
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k1_off158 (k1_t4 : Fin k1_t4_loop.trips) (c1_i32_76 : BitVec 32) : Fin 3 → Nat :=
  let c3_i32_75 : BitVec 32 := 3#32
  let c0_i32_47 : BitVec 32 := 0#32
  let c1_i32_49 : BitVec 32 := 1#32
  let arg11 : BitVec 32 := Scf.iv c0_i32_47 c1_i32_49 k1_t4
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k1_off159 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v127 : Index := Scalar.indexCast arg11
  let c32_83 : Index := 32#32
  ![v127.toNat, 32]
def k1_off160 (k1_t4 : Fin k1_t4_loop.trips) : Fin 3 → Nat :=
  let c3_i32_84 : BitVec 32 := 3#32
  let c0_i32_47 : BitVec 32 := 0#32
  let c1_i32_49 : BitVec 32 := 1#32
  let arg11 : BitVec 32 := Scf.iv c0_i32_47 c1_i32_49 k1_t4
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k1_off161 (k1_t4 : Fin k1_t4_loop.trips) (c1_i32_87 : BitVec 32) : Fin 3 → Nat :=
  let c3_i32_86 : BitVec 32 := 3#32
  let c0_i32_47 : BitVec 32 := 0#32
  let c1_i32_49 : BitVec 32 := 1#32
  let arg11 : BitVec 32 := Scf.iv c0_i32_47 c1_i32_49 k1_t4
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k1_off162 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v156 : Index := Scalar.indexCast arg11
  let c48_94 : Index := 48#32
  ![v156.toNat, 48]
def k1_off163 (k1_t4 : Fin k1_t4_loop.trips) : Fin 3 → Nat :=
  let c3_i32_95 : BitVec 32 := 3#32
  let c0_i32_47 : BitVec 32 := 0#32
  let c1_i32_49 : BitVec 32 := 1#32
  let arg11 : BitVec 32 := Scf.iv c0_i32_47 c1_i32_49 k1_t4
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k1_off164 (k1_t4 : Fin k1_t4_loop.trips) (c1_i32_98 : BitVec 32) : Fin 3 → Nat :=
  let c3_i32_97 : BitVec 32 := 3#32
  let c0_i32_47 : BitVec 32 := 0#32
  let c1_i32_49 : BitVec 32 := 1#32
  let arg11 : BitVec 32 := Scf.iv c0_i32_47 c1_i32_49 k1_t4
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k1_off165 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v185 : Index := Scalar.indexCast arg11
  let c64_105 : Index := 64#32
  ![v185.toNat, 64]
def k1_off166 (k1_t4 : Fin k1_t4_loop.trips) : Fin 3 → Nat :=
  let c3_i32_106 : BitVec 32 := 3#32
  let c0_i32_47 : BitVec 32 := 0#32
  let c1_i32_49 : BitVec 32 := 1#32
  let arg11 : BitVec 32 := Scf.iv c0_i32_47 c1_i32_49 k1_t4
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k1_off167 (k1_t4 : Fin k1_t4_loop.trips) (c1_i32_109 : BitVec 32) : Fin 3 → Nat :=
  let c3_i32_108 : BitVec 32 := 3#32
  let c0_i32_47 : BitVec 32 := 0#32
  let c1_i32_49 : BitVec 32 := 1#32
  let arg11 : BitVec 32 := Scf.iv c0_i32_47 c1_i32_49 k1_t4
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k1_off168 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v214 : Index := Scalar.indexCast arg11
  let c80_116 : Index := 80#32
  ![v214.toNat, 80]
def k1_off169 (k1_t4 : Fin k1_t4_loop.trips) : Fin 3 → Nat :=
  let c3_i32_117 : BitVec 32 := 3#32
  let c0_i32_47 : BitVec 32 := 0#32
  let c1_i32_49 : BitVec 32 := 1#32
  let arg11 : BitVec 32 := Scf.iv c0_i32_47 c1_i32_49 k1_t4
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k1_off170 (k1_t4 : Fin k1_t4_loop.trips) (c1_i32_120 : BitVec 32) : Fin 3 → Nat :=
  let c3_i32_119 : BitVec 32 := 3#32
  let c0_i32_47 : BitVec 32 := 0#32
  let c1_i32_49 : BitVec 32 := 1#32
  let arg11 : BitVec 32 := Scf.iv c0_i32_47 c1_i32_49 k1_t4
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k1_off171 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v243 : Index := Scalar.indexCast arg11
  let c96_127 : Index := 96#32
  ![v243.toNat, 96]
def k1_off172 (k1_t4 : Fin k1_t4_loop.trips) : Fin 3 → Nat :=
  let c3_i32_128 : BitVec 32 := 3#32
  let c0_i32_47 : BitVec 32 := 0#32
  let c1_i32_49 : BitVec 32 := 1#32
  let arg11 : BitVec 32 := Scf.iv c0_i32_47 c1_i32_49 k1_t4
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k1_off173 (k1_t4 : Fin k1_t4_loop.trips) (c1_i32_131 : BitVec 32) : Fin 3 → Nat :=
  let c3_i32_130 : BitVec 32 := 3#32
  let c0_i32_47 : BitVec 32 := 0#32
  let c1_i32_49 : BitVec 32 := 1#32
  let arg11 : BitVec 32 := Scf.iv c0_i32_47 c1_i32_49 k1_t4
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k1_off174 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v272 : Index := Scalar.indexCast arg11
  let c112_138 : Index := 112#32
  ![v272.toNat, 112]
def k1_off175 (k1_t4 : Fin k1_t4_loop.trips) : Fin 3 → Nat :=
  let c3_i32_139 : BitVec 32 := 3#32
  let c0_i32_47 : BitVec 32 := 0#32
  let c1_i32_49 : BitVec 32 := 1#32
  let arg11 : BitVec 32 := Scf.iv c0_i32_47 c1_i32_49 k1_t4
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k1_off176 (k1_t4 : Fin k1_t4_loop.trips) (c1_i32_143 : BitVec 32) : Fin 3 → Nat :=
  let c3_i32_142 : BitVec 32 := 3#32
  let c0_i32_47 : BitVec 32 := 0#32
  let c1_i32_49 : BitVec 32 := 1#32
  let arg11 : BitVec 32 := Scf.iv c0_i32_47 c1_i32_49 k1_t4
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k1_off177 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v301 : Index := Scalar.indexCast arg11
  let c128 : Index := 128#32
  ![v301.toNat, 128]
def k1_off178 (k1_t4 : Fin k1_t4_loop.trips) : Fin 3 → Nat :=
  let c3_i32_150 : BitVec 32 := 3#32
  let c0_i32_47 : BitVec 32 := 0#32
  let c1_i32_49 : BitVec 32 := 1#32
  let arg11 : BitVec 32 := Scf.iv c0_i32_47 c1_i32_49 k1_t4
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k1_off179 (k1_t4 : Fin k1_t4_loop.trips) (c1_i32_154 : BitVec 32) : Fin 3 → Nat :=
  let c3_i32_153 : BitVec 32 := 3#32
  let c0_i32_47 : BitVec 32 := 0#32
  let c1_i32_49 : BitVec 32 := 1#32
  let arg11 : BitVec 32 := Scf.iv c0_i32_47 c1_i32_49 k1_t4
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k1_off180 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v330 : Index := Scalar.indexCast arg11
  let c144 : Index := 144#32
  ![v330.toNat, 144]
def k1_off181 (k1_t4 : Fin k1_t4_loop.trips) : Fin 3 → Nat :=
  let c3_i32_161 : BitVec 32 := 3#32
  let c0_i32_47 : BitVec 32 := 0#32
  let c1_i32_49 : BitVec 32 := 1#32
  let arg11 : BitVec 32 := Scf.iv c0_i32_47 c1_i32_49 k1_t4
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k1_off182 (k1_t4 : Fin k1_t4_loop.trips) (c1_i32_165 : BitVec 32) : Fin 3 → Nat :=
  let c3_i32_164 : BitVec 32 := 3#32
  let c0_i32_47 : BitVec 32 := 0#32
  let c1_i32_49 : BitVec 32 := 1#32
  let arg11 : BitVec 32 := Scf.iv c0_i32_47 c1_i32_49 k1_t4
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k1_off183 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v359 : Index := Scalar.indexCast arg11
  let c160 : Index := 160#32
  ![v359.toNat, 160]
def k1_off184 (k1_t4 : Fin k1_t4_loop.trips) : Fin 3 → Nat :=
  let c3_i32_172 : BitVec 32 := 3#32
  let c0_i32_47 : BitVec 32 := 0#32
  let c1_i32_49 : BitVec 32 := 1#32
  let arg11 : BitVec 32 := Scf.iv c0_i32_47 c1_i32_49 k1_t4
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k1_off185 (k1_t4 : Fin k1_t4_loop.trips) (c1_i32_176 : BitVec 32) : Fin 3 → Nat :=
  let c3_i32_175 : BitVec 32 := 3#32
  let c0_i32_47 : BitVec 32 := 0#32
  let c1_i32_49 : BitVec 32 := 1#32
  let arg11 : BitVec 32 := Scf.iv c0_i32_47 c1_i32_49 k1_t4
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k1_off186 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v388 : Index := Scalar.indexCast arg11
  let c176 : Index := 176#32
  ![v388.toNat, 176]
def k1_off187 (k1_t4 : Fin k1_t4_loop.trips) : Fin 3 → Nat :=
  let c3_i32_183 : BitVec 32 := 3#32
  let c0_i32_47 : BitVec 32 := 0#32
  let c1_i32_49 : BitVec 32 := 1#32
  let arg11 : BitVec 32 := Scf.iv c0_i32_47 c1_i32_49 k1_t4
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k1_off188 (k1_t4 : Fin k1_t4_loop.trips) (c1_i32_187 : BitVec 32) : Fin 3 → Nat :=
  let c3_i32_186 : BitVec 32 := 3#32
  let c0_i32_47 : BitVec 32 := 0#32
  let c1_i32_49 : BitVec 32 := 1#32
  let arg11 : BitVec 32 := Scf.iv c0_i32_47 c1_i32_49 k1_t4
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k1_off189 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v417 : Index := Scalar.indexCast arg11
  let c192 : Index := 192#32
  ![v417.toNat, 192]
def k1_off190 (k1_t4 : Fin k1_t4_loop.trips) : Fin 3 → Nat :=
  let c3_i32_194 : BitVec 32 := 3#32
  let c0_i32_47 : BitVec 32 := 0#32
  let c1_i32_49 : BitVec 32 := 1#32
  let arg11 : BitVec 32 := Scf.iv c0_i32_47 c1_i32_49 k1_t4
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k1_off191 (k1_t4 : Fin k1_t4_loop.trips) (c1_i32_198 : BitVec 32) : Fin 3 → Nat :=
  let c3_i32_197 : BitVec 32 := 3#32
  let c0_i32_47 : BitVec 32 := 0#32
  let c1_i32_49 : BitVec 32 := 1#32
  let arg11 : BitVec 32 := Scf.iv c0_i32_47 c1_i32_49 k1_t4
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k1_off192 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v446 : Index := Scalar.indexCast arg11
  let c208 : Index := 208#32
  ![v446.toNat, 208]
def k1_off193 (k1_t4 : Fin k1_t4_loop.trips) : Fin 3 → Nat :=
  let c3_i32_205 : BitVec 32 := 3#32
  let c0_i32_47 : BitVec 32 := 0#32
  let c1_i32_49 : BitVec 32 := 1#32
  let arg11 : BitVec 32 := Scf.iv c0_i32_47 c1_i32_49 k1_t4
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k1_off194 (k1_t4 : Fin k1_t4_loop.trips) (c1_i32_209 : BitVec 32) : Fin 3 → Nat :=
  let c3_i32_208 : BitVec 32 := 3#32
  let c0_i32_47 : BitVec 32 := 0#32
  let c1_i32_49 : BitVec 32 := 1#32
  let arg11 : BitVec 32 := Scf.iv c0_i32_47 c1_i32_49 k1_t4
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k1_off195 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v475 : Index := Scalar.indexCast arg11
  let c224 : Index := 224#32
  ![v475.toNat, 224]
def k1_off196 (k1_t4 : Fin k1_t4_loop.trips) : Fin 3 → Nat :=
  let c3_i32_216 : BitVec 32 := 3#32
  let c0_i32_47 : BitVec 32 := 0#32
  let c1_i32_49 : BitVec 32 := 1#32
  let arg11 : BitVec 32 := Scf.iv c0_i32_47 c1_i32_49 k1_t4
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k1_off197 (k1_t4 : Fin k1_t4_loop.trips) (c1_i32_220 : BitVec 32) : Fin 3 → Nat :=
  let c3_i32_219 : BitVec 32 := 3#32
  let c0_i32_47 : BitVec 32 := 0#32
  let c1_i32_49 : BitVec 32 := 1#32
  let arg11 : BitVec 32 := Scf.iv c0_i32_47 c1_i32_49 k1_t4
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k1_off198 (k1_t4 : Fin k1_t4_loop.trips) : Fin 2 → Nat :=
  let c0_i32_47 : BitVec 32 := 0#32
  let c1_i32_49 : BitVec 32 := 1#32
  let arg11 : BitVec 32 := Scf.iv c0_i32_47 c1_i32_49 k1_t4
  let v504 : Index := Scalar.indexCast arg11
  let c240 : Index := 240#32
  ![v504.toNat, 240]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x256 : Shape := ⟨2, ![2048, 256]⟩
abbrev S2048x3 : Shape := ⟨2, ![2048, 3]⟩
abbrev S2048 : Shape := ⟨1, ![2048]⟩
abbrev S8192x128 : Shape := ⟨2, ![8192, 128]⟩
abbrev S8192x3 : Shape := ⟨2, ![8192, 3]⟩
abbrev S8192 : Shape := ⟨1, ![8192]⟩
abbrev S384x256 : Shape := ⟨2, ![384, 256]⟩
abbrev S256 : Shape := ⟨1, ![256]⟩
abbrev S256x256 : Shape := ⟨2, ![256, 256]⟩
abbrev S_ : Shape := ⟨0, ![]⟩
abbrev S8192x1 : Shape := ⟨2, ![8192, 1]⟩
abbrev S1x2048 : Shape := ⟨2, ![1, 2048]⟩
abbrev S3x2048 : Shape := ⟨2, ![3, 2048]⟩
abbrev S8192x2048 : Shape := ⟨2, ![8192, 2048]⟩
abbrev S8192x3x1 : Shape := ⟨3, ![8192, 3, 1]⟩
abbrev S1 : Shape := ⟨1, ![1]⟩
abbrev S1x1x1 : Shape := ⟨3, ![1, 1, 1]⟩
abbrev S8192x3x256 : Shape := ⟨3, ![8192, 3, 256]⟩
abbrev S8192x256 : Shape := ⟨2, ![8192, 256]⟩
abbrev S8192x384 : Shape := ⟨2, ![8192, 384]⟩
abbrev S1x256 : Shape := ⟨2, ![1, 256]⟩

abbrev nBuf : Space → Nat
  | .hbm => 88
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x3, .f32⟩
  | .hbm, ⟨2, _⟩ => ⟨S2048, .i32⟩
  | .hbm, ⟨3, _⟩ => ⟨S8192x128, .f32⟩
  | .hbm, ⟨4, _⟩ => ⟨S8192x3, .f32⟩
  | .hbm, ⟨5, _⟩ => ⟨S8192, .i32⟩
  | .hbm, ⟨6, _⟩ => ⟨S384x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S8192x3, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S2048x3, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S3x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x3, .f32⟩
  | .hbm, ⟨28, _⟩ => ⟨S8192x3, .i32⟩
  | .hbm, ⟨29, _⟩ => ⟨S8192x3, .f32⟩
  | .hbm, ⟨30, _⟩ => ⟨S_, .f32⟩
  | .hbm, ⟨31, _⟩ => ⟨S8192x3, .f32⟩
  | .hbm, ⟨32, _⟩ => ⟨S8192x3, .f32⟩
  | .hbm, ⟨33, _⟩ => ⟨S_, .f32⟩
  | .hbm, ⟨34, _⟩ => ⟨S_, .f32⟩
  | .hbm, ⟨35, _⟩ => ⟨S8192x3, .f32⟩
  | .hbm, ⟨36, _⟩ => ⟨S8192x3, .f32⟩
  | .hbm, ⟨37, _⟩ => ⟨S_, .f32⟩
  | .hbm, ⟨38, _⟩ => ⟨S8192x3, .f32⟩
  | .hbm, ⟨39, _⟩ => ⟨S8192x3, .f32⟩
  | .hbm, ⟨40, _⟩ => ⟨S_, .i32⟩
  | .hbm, ⟨41, _⟩ => ⟨S8192x3, .i32⟩
  | .hbm, ⟨42, _⟩ => ⟨S8192x3, .i1⟩
  | .hbm, ⟨43, _⟩ => ⟨S_, .i32⟩
  | .hbm, ⟨44, _⟩ => ⟨S8192x3, .i32⟩
  | .hbm, ⟨45, _⟩ => ⟨S8192x3, .i32⟩
  | .hbm, ⟨46, _⟩ => ⟨S8192x3, .i32⟩
  | .hbm, ⟨47, _⟩ => ⟨S8192x3x1, .i32⟩
  | .hbm, ⟨48, _⟩ => ⟨S1, .i32⟩
  | .hbm, ⟨49, _⟩ => ⟨S_, .i32⟩
  | .hbm, ⟨50, _⟩ => ⟨S8192x3x1, .i32⟩
  | .hbm, ⟨51, _⟩ => ⟨S8192x3x1, .i1⟩
  | .hbm, ⟨52, _⟩ => ⟨S1x1x1, .i32⟩
  | .hbm, ⟨53, _⟩ => ⟨S8192x3x1, .i32⟩
  | .hbm, ⟨54, _⟩ => ⟨S8192x3x1, .i1⟩
  | .hbm, ⟨55, _⟩ => ⟨S8192x3x1, .i1⟩
  | .hbm, ⟨56, _⟩ => ⟨S_, .i1⟩
  | .hbm, ⟨57, _⟩ => ⟨S8192x3, .i1⟩
  | .hbm, ⟨58, _⟩ => ⟨S8192x3x256, .f32⟩
  | .hbm, ⟨59, _⟩ => ⟨S8192x3x256, .i1⟩
  | .hbm, ⟨60, _⟩ => ⟨S_, .f32⟩
  | .hbm, ⟨61, _⟩ => ⟨S8192x3x256, .f32⟩
  | .hbm, ⟨62, _⟩ => ⟨S8192x3x256, .f32⟩
  | .hbm, ⟨63, _⟩ => ⟨S8192x3x1, .f32⟩
  | .hbm, ⟨64, _⟩ => ⟨S8192x3x256, .f32⟩
  | .hbm, ⟨65, _⟩ => ⟨S8192x3x256, .f32⟩
  | .hbm, ⟨66, _⟩ => ⟨S_, .f32⟩
  | .hbm, ⟨67, _⟩ => ⟨S8192x256, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x256, .f32⟩
  | .hbm, ⟨72, _⟩ => ⟨S8192x256, .f32⟩
  | .hbm, ⟨73, _⟩ => ⟨S8192x384, .f32⟩
  | .hbm, ⟨74, _⟩ => ⟨S8192x256, .f32⟩
  | .hbm, ⟨75, _⟩ => ⟨S1x256, .f32⟩
  | .hbm, ⟨76, _⟩ => ⟨S8192x256, .f32⟩
  | .hbm, ⟨77, _⟩ => ⟨S8192x256, .f32⟩
  | .hbm, ⟨78, _⟩ => ⟨S_, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S1x256, .f32⟩
  | .hbm, ⟨83, _⟩ => ⟨S8192x256, .f32⟩
  | .hbm, ⟨84, _⟩ => ⟨S8192x256, .f32⟩
  | .hbm, ⟨85, _⟩ => ⟨S_, .f32⟩
  | .hbm, ⟨86, _⟩ => ⟨S8192x256, .f32⟩
  | .hbm, ⟨87, _⟩ => ⟨S8192x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_5 : Ref sig .tc := ⟨.hbm, 66, rfl⟩
abbrev main_v24 : Ref sig .tc := ⟨.hbm, 67, rfl⟩
abbrev main_cst_6 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call2_cst : Ref sig .tc := ⟨.hbm, 78, rfl⟩
abbrev main_call2_v0 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_call3_cst : Ref sig .tc := ⟨.hbm, 85, rfl⟩
abbrev main_call3_v0 : Ref sig .tc := ⟨.hbm, 86, rfl⟩
abbrev main_v39 : Ref sig .tc := ⟨.hbm, 87, rfl⟩

abbrev nD : Nat := 1
abbrev τ : Topo := Topo.v7x

variable {F : FTy → Type} [FloatOps F]
-- ==== Interp.lean ====
abbrev S2048x256 : Shape := ⟨2, ![2048, 256]⟩
abbrev S8192x3 : Shape := ⟨2, ![8192, 3]⟩
abbrev S2048x2x128 : Shape := ⟨3, ![2048, 2, 128]⟩
abbrev S24576 : Shape := ⟨1, ![24576]⟩
abbrev S8192x256 : Shape := ⟨2, ![8192, 256]⟩
abbrev S192 : Shape := ⟨1, ![192]⟩
abbrev S208 : Shape := ⟨1, ![208]⟩
abbrev S192x2x128 : Shape := ⟨3, ![192, 2, 128]⟩
abbrev S64x256 : Shape := ⟨2, ![64, 256]⟩
abbrev S_ : Shape := ⟨0, ![]⟩
abbrev S16 : Shape := ⟨1, ![16]⟩
abbrev S1 : Shape := ⟨1, ![1]⟩
abbrev S1x1x16 : Shape := ⟨3, ![1, 1, 16]⟩
abbrev S1x16 : Shape := ⟨2, ![1, 16]⟩

abbrev nBuf : Table → Nat
  | .hbm => 7
  | .local .scVector .vmem => 4
  | _ => 0

abbrev bufTy : (tb : Table) → Fin (nBuf tb) → BufTy
  | .hbm, ⟨0, _⟩ => ⟨S2048x256, .f32⟩
  | .hbm, ⟨1, _⟩ => ⟨S8192x3, .i32⟩
  | .hbm, ⟨2, _⟩ => ⟨S8192x3, .f32⟩
  | .hbm, ⟨3, _⟩ => ⟨S2048x2x128, .f32⟩
  | .hbm, ⟨4, _⟩ => ⟨S24576, .i32⟩
  | .hbm, ⟨5, _⟩ => ⟨S24576, .f32⟩
  | .hbm, ⟨6, _⟩ => ⟨S8192x256, .f32⟩
  | .local .scVector .vmem, ⟨0, _⟩ => ⟨S192, .i32⟩
  | .local .scVector .vmem, ⟨1, _⟩ => ⟨S208, .f32⟩
  | .local .scVector .vmem, ⟨2, _⟩ => ⟨S192x2x128, .f32⟩
  | .local .scVector .vmem, ⟨3, _⟩ => ⟨S64x256, .f32⟩
  | _, _ => ⟨S2048x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let v2 : BitVec 32 := Scalar.muli v1 c768_i32
  let v3 : BitVec 32 := Scalar.addi v2 c0_i32
  ![v3.toNat]
@[reducible] def k0_t1_loop : Scf.Loop 32 :=
  let c0_i32_8 : BitVec 32 := 0#32
  let c64_i32 : BitVec 32 := 64#32
  let v8 : BitVec 32 := Scalar.addi c0_i32_8 c64_i32
  let c1_i32 : BitVec 32 := 1#32
  ⟨c0_i32_8, v8, c1_i32⟩
def k0_off2 (k0_t1 : Fin k0_t1_loop.trips) : Fin 1 → Nat :=
  let c3_i32 : BitVec 32 := 3#32
  let c0_i32_8 : BitVec 32 := 0#32
  let c1_i32 : BitVec 32 := 1#32
  let arg11 : BitVec 32 := Scf.iv c0_i32_8 c1_i32 k0_t1
  let v34 : BitVec 32 := Scalar.muli c3_i32 arg11
  let v35 : Index := Scalar.indexCast v34
  ![v35.toNat]
def k0_off3 (k0_t1 : Fin k0_t1_loop.trips) : Fin 3 → Nat :=
  let c3_i32_51 : BitVec 32 := 3#32
  let c0_i32_8 : BitVec 32 := 0#32
  let c1_i32 : BitVec 32 := 1#32
  let arg11 : BitVec 32 := Scf.iv c0_i32_8 c1_i32 k0_t1
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k0_off4 (k0_t1 : Fin k0_t1_loop.trips) (c1_i32_54 : BitVec 32) : Fin 3 → Nat :=
  let c3_i32_53 : BitVec 32 := 3#32
  let c0_i32_8 : BitVec 32 := 0#32
  let c1_i32 : BitVec 32 := 1#32
  let arg11 : BitVec 32 := Scf.iv c0_i32_8 c1_i32 k0_t1
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k0_off5 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v69 : Index := Scalar.indexCast arg11
  let c0_61 : Index := 0#32
  ![v69.toNat, 0]
def k0_off6 (k0_t1 : Fin k0_t1_loop.trips) : Fin 3 → Nat :=
  let c3_i32_62 : BitVec 32 := 3#32
  let c0_i32_8 : BitVec 32 := 0#32
  let c1_i32 : BitVec 32 := 1#32
  let arg11 : BitVec 32 := Scf.iv c0_i32_8 c1_i32 k0_t1
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k0_off7 (k0_t1 : Fin k0_t1_loop.trips) (c1_i32_65 : BitVec 32) : Fin 3 → Nat :=
  let c3_i32_64 : BitVec 32 := 3#32
  let c0_i32_8 : BitVec 32 := 0#32
  let c1_i32 : BitVec 32 := 1#32
  let arg11 : BitVec 32 := Scf.iv c0_i32_8 c1_i32 k0_t1
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k0_off8 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v98 : Index := Scalar.indexCast arg11
  let c16_72 : Index := 16#32
  ![v98.toNat, 16]
def k0_off9 (k0_t1 : Fin k0_t1_loop.trips) : Fin 3 → Nat :=
  let c3_i32_73 : BitVec 32 := 3#32
  let c0_i32_8 : BitVec 32 := 0#32
  let c1_i32 : BitVec 32 := 1#32
  let arg11 : BitVec 32 := Scf.iv c0_i32_8 c1_i32 k0_t1
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k0_off10 (k0_t1 : Fin k0_t1_loop.trips) (c1_i32_76 : BitVec 32) : Fin 3 → Nat :=
  let c3_i32_75 : BitVec 32 := 3#32
  let c0_i32_8 : BitVec 32 := 0#32
  let c1_i32 : BitVec 32 := 1#32
  let arg11 : BitVec 32 := Scf.iv c0_i32_8 c1_i32 k0_t1
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k0_off11 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v127 : Index := Scalar.indexCast arg11
  let c32_83 : Index := 32#32
  ![v127.toNat, 32]
def k0_off12 (k0_t1 : Fin k0_t1_loop.trips) : Fin 3 → Nat :=
  let c3_i32_84 : BitVec 32 := 3#32
  let c0_i32_8 : BitVec 32 := 0#32
  let c1_i32 : BitVec 32 := 1#32
  let arg11 : BitVec 32 := Scf.iv c0_i32_8 c1_i32 k0_t1
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k0_off13 (k0_t1 : Fin k0_t1_loop.trips) (c1_i32_87 : BitVec 32) : Fin 3 → Nat :=
  let c3_i32_86 : BitVec 32 := 3#32
  let c0_i32_8 : BitVec 32 := 0#32
  let c1_i32 : BitVec 32 := 1#32
  let arg11 : BitVec 32 := Scf.iv c0_i32_8 c1_i32 k0_t1
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k0_off14 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v156 : Index := Scalar.indexCast arg11
  let c48_94 : Index := 48#32
  ![v156.toNat, 48]
def k0_off15 (k0_t1 : Fin k0_t1_loop.trips) : Fin 3 → Nat :=
  let c3_i32_95 : BitVec 32 := 3#32
  let c0_i32_8 : BitVec 32 := 0#32
  let c1_i32 : BitVec 32 := 1#32
  let arg11 : BitVec 32 := Scf.iv c0_i32_8 c1_i32 k0_t1
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k0_off16 (k0_t1 : Fin k0_t1_loop.trips) (c1_i32_98 : BitVec 32) : Fin 3 → Nat :=
  let c3_i32_97 : BitVec 32 := 3#32
  let c0_i32_8 : BitVec 32 := 0#32
  let c1_i32 : BitVec 32 := 1#32
  let arg11 : BitVec 32 := Scf.iv c0_i32_8 c1_i32 k0_t1
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k0_off17 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v185 : Index := Scalar.indexCast arg11
  let c64_105 : Index := 64#32
  ![v185.toNat, 64]
def k0_off18 (k0_t1 : Fin k0_t1_loop.trips) : Fin 3 → Nat :=
  let c3_i32_106 : BitVec 32 := 3#32
  let c0_i32_8 : BitVec 32 := 0#32
  let c1_i32 : BitVec 32 := 1#32
  let arg11 : BitVec 32 := Scf.iv c0_i32_8 c1_i32 k0_t1
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k0_off19 (k0_t1 : Fin k0_t1_loop.trips) (c1_i32_109 : BitVec 32) : Fin 3 → Nat :=
  let c3_i32_108 : BitVec 32 := 3#32
  let c0_i32_8 : BitVec 32 := 0#32
  let c1_i32 : BitVec 32 := 1#32
  let arg11 : BitVec 32 := Scf.iv c0_i32_8 c1_i32 k0_t1
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k0_off20 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v214 : Index := Scalar.indexCast arg11
  let c80_116 : Index := 80#32
  ![v214.toNat, 80]
def k0_off21 (k0_t1 : Fin k0_t1_loop.trips) : Fin 3 → Nat :=
  let c3_i32_117 : BitVec 32 := 3#32
  let c0_i32_8 : BitVec 32 := 0#32
  let c1_i32 : BitVec 32 := 1#32
  let arg11 : BitVec 32 := Scf.iv c0_i32_8 c1_i32 k0_t1
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k0_off22 (k0_t1 : Fin k0_t1_loop.trips) (c1_i32_120 : BitVec 32) : Fin 3 → Nat :=
  let c3_i32_119 : BitVec 32 := 3#32
  let c0_i32_8 : BitVec 32 := 0#32
  let c1_i32 : BitVec 32 := 1#32
  let arg11 : BitVec 32 := Scf.iv c0_i32_8 c1_i32 k0_t1
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k0_off23 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v243 : Index := Scalar.indexCast arg11
  let c96_127 : Index := 96#32
  ![v243.toNat, 96]
def k0_off24 (k0_t1 : Fin k0_t1_loop.trips) : Fin 3 → Nat :=
  let c3_i32_128 : BitVec 32 := 3#32
  let c0_i32_8 : BitVec 32 := 0#32
  let c1_i32 : BitVec 32 := 1#32
  let arg11 : BitVec 32 := Scf.iv c0_i32_8 c1_i32 k0_t1
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k0_off25 (k0_t1 : Fin k0_t1_loop.trips) (c1_i32_131 : BitVec 32) : Fin 3 → Nat :=
  let c3_i32_130 : BitVec 32 := 3#32
  let c0_i32_8 : BitVec 32 := 0#32
  let c1_i32 : BitVec 32 := 1#32
  let arg11 : BitVec 32 := Scf.iv c0_i32_8 c1_i32 k0_t1
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k0_off26 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v272 : Index := Scalar.indexCast arg11
  let c112_138 : Index := 112#32
  ![v272.toNat, 112]
def k0_off27 (k0_t1 : Fin k0_t1_loop.trips) : Fin 3 → Nat :=
  let c3_i32_139 : BitVec 32 := 3#32
  let c0_i32_8 : BitVec 32 := 0#32
  let c1_i32 : BitVec 32 := 1#32
  let arg11 : BitVec 32 := Scf.iv c0_i32_8 c1_i32 k0_t1
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k0_off28 (k0_t1 : Fin k0_t1_loop.trips) (c1_i32_143 : BitVec 32) : Fin 3 → Nat :=
  let c3_i32_142 : BitVec 32 := 3#32
  let c0_i32_8 : BitVec 32 := 0#32
  let c1_i32 : BitVec 32 := 1#32
  let arg11 : BitVec 32 := Scf.iv c0_i32_8 c1_i32 k0_t1
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k0_off29 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v301 : Index := Scalar.indexCast arg11
  let c128 : Index := 128#32
  ![v301.toNat, 128]
def k0_off30 (k0_t1 : Fin k0_t1_loop.trips) : Fin 3 → Nat :=
  let c3_i32_150 : BitVec 32 := 3#32
  let c0_i32_8 : BitVec 32 := 0#32
  let c1_i32 : BitVec 32 := 1#32
  let arg11 : BitVec 32 := Scf.iv c0_i32_8 c1_i32 k0_t1
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k0_off31 (k0_t1 : Fin k0_t1_loop.trips) (c1_i32_154 : BitVec 32) : Fin 3 → Nat :=
  let c3_i32_153 : BitVec 32 := 3#32
  let c0_i32_8 : BitVec 32 := 0#32
  let c1_i32 : BitVec 32 := 1#32
  let arg11 : BitVec 32 := Scf.iv c0_i32_8 c1_i32 k0_t1
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k0_off32 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v330 : Index := Scalar.indexCast arg11
  let c144 : Index := 144#32
  ![v330.toNat, 144]
def k0_off33 (k0_t1 : Fin k0_t1_loop.trips) : Fin 3 → Nat :=
  let c3_i32_161 : BitVec 32 := 3#32
  let c0_i32_8 : BitVec 32 := 0#32
  let c1_i32 : BitVec 32 := 1#32
  let arg11 : BitVec 32 := Scf.iv c0_i32_8 c1_i32 k0_t1
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k0_off34 (k0_t1 : Fin k0_t1_loop.trips) (c1_i32_165 : BitVec 32) : Fin 3 → Nat :=
  let c3_i32_164 : BitVec 32 := 3#32
  let c0_i32_8 : BitVec 32 := 0#32
  let c1_i32 : BitVec 32 := 1#32
  let arg11 : BitVec 32 := Scf.iv c0_i32_8 c1_i32 k0_t1
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k0_off35 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v359 : Index := Scalar.indexCast arg11
  let c160 : Index := 160#32
  ![v359.toNat, 160]
def k0_off36 (k0_t1 : Fin k0_t1_loop.trips) : Fin 3 → Nat :=
  let c3_i32_172 : BitVec 32 := 3#32
  let c0_i32_8 : BitVec 32 := 0#32
  let c1_i32 : BitVec 32 := 1#32
  let arg11 : BitVec 32 := Scf.iv c0_i32_8 c1_i32 k0_t1
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k0_off37 (k0_t1 : Fin k0_t1_loop.trips) (c1_i32_176 : BitVec 32) : Fin 3 → Nat :=
  let c3_i32_175 : BitVec 32 := 3#32
  let c0_i32_8 : BitVec 32 := 0#32
  let c1_i32 : BitVec 32 := 1#32
  let arg11 : BitVec 32 := Scf.iv c0_i32_8 c1_i32 k0_t1
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k0_off38 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v388 : Index := Scalar.indexCast arg11
  let c176 : Index := 176#32
  ![v388.toNat, 176]
def k0_off39 (k0_t1 : Fin k0_t1_loop.trips) : Fin 3 → Nat :=
  let c3_i32_183 : BitVec 32 := 3#32
  let c0_i32_8 : BitVec 32 := 0#32
  let c1_i32 : BitVec 32 := 1#32
  let arg11 : BitVec 32 := Scf.iv c0_i32_8 c1_i32 k0_t1
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k0_off40 (k0_t1 : Fin k0_t1_loop.trips) (c1_i32_187 : BitVec 32) : Fin 3 → Nat :=
  let c3_i32_186 : BitVec 32 := 3#32
  let c0_i32_8 : BitVec 32 := 0#32
  let c1_i32 : BitVec 32 := 1#32
  let arg11 : BitVec 32 := Scf.iv c0_i32_8 c1_i32 k0_t1
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k0_off41 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v417 : Index := Scalar.indexCast arg11
  let c192 : Index := 192#32
  ![v417.toNat, 192]
def k0_off42 (k0_t1 : Fin k0_t1_loop.trips) : Fin 3 → Nat :=
  let c3_i32_194 : BitVec 32 := 3#32
  let c0_i32_8 : BitVec 32 := 0#32
  let c1_i32 : BitVec 32 := 1#32
  let arg11 : BitVec 32 := Scf.iv c0_i32_8 c1_i32 k0_t1
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k0_off43 (k0_t1 : Fin k0_t1_loop.trips) (c1_i32_198 : BitVec 32) : Fin 3 → Nat :=
  let c3_i32_197 : BitVec 32 := 3#32
  let c0_i32_8 : BitVec 32 := 0#32
  let c1_i32 : BitVec 32 := 1#32
  let arg11 : BitVec 32 := Scf.iv c0_i32_8 c1_i32 k0_t1
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k0_off44 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v446 : Index := Scalar.indexCast arg11
  let c208 : Index := 208#32
  ![v446.toNat, 208]
def k0_off45 (k0_t1 : Fin k0_t1_loop.trips) : Fin 3 → Nat :=
  let c3_i32_205 : BitVec 32 := 3#32
  let c0_i32_8 : BitVec 32 := 0#32
  let c1_i32 : BitVec 32 := 1#32
  let arg11 : BitVec 32 := Scf.iv c0_i32_8 c1_i32 k0_t1
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k0_off46 (k0_t1 : Fin k0_t1_loop.trips) (c1_i32_209 : BitVec 32) : Fin 3 → Nat :=
  let c3_i32_208 : BitVec 32 := 3#32
  let c0_i32_8 : BitVec 32 := 0#32
  let c1_i32 : BitVec 32 := 1#32
  let arg11 : BitVec 32 := Scf.iv c0_i32_8 c1_i32 k0_t1
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k0_off47 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v475 : Index := Scalar.indexCast arg11
  let c224 : Index := 224#32
  ![v475.toNat, 224]
def k0_off48 (k0_t1 : Fin k0_t1_loop.trips) : Fin 3 → Nat :=
  let c3_i32_216 : BitVec 32 := 3#32
  let c0_i32_8 : BitVec 32 := 0#32
  let c1_i32 : BitVec 32 := 1#32
  let arg11 : BitVec 32 := Scf.iv c0_i32_8 c1_i32 k0_t1
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k0_off49 (k0_t1 : Fin k0_t1_loop.trips) (c1_i32_220 : BitVec 32) : Fin 3 → Nat :=
  let c3_i32_219 : BitVec 32 := 3#32
  let c0_i32_8 : BitVec 32 := 0#32
  let c1_i32 : BitVec 32 := 1#32
  let arg11 : BitVec 32 := Scf.iv c0_i32_8 c1_i32 k0_t1
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k0_off50 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v504 : Index := Scalar.indexCast arg11
  let c240 : Index := 240#32
  ![v504.toNat, 240]
def k0_off51 (i : grid0.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v4 : BitVec 32 := Scalar.muli v1 c256_i32
  let v5 : BitVec 32 := Scalar.addi v4 c0_i32_0
  let c0_i32_51_r2 : BitVec 32 := 0#32
  ![v5.toNat, 0]
@[reducible] def k0_t2_loop : Scf.Loop 32 :=
  let c0_i32_20 : BitVec 32 := 0#32
  let c64_i32_21 : BitVec 32 := 64#32
  let v16 : BitVec 32 := Scalar.addi c0_i32_20 c64_i32_21
  let c1_i32_22 : BitVec 32 := 1#32
  ⟨c0_i32_20, v16, c1_i32_22⟩
def k0_off52 (k0_t2 : Fin k0_t2_loop.trips) : Fin 1 → Nat :=
  let c3_i32 : BitVec 32 := 3#32
  let c0_i32_20 : BitVec 32 := 0#32
  let c1_i32_22 : BitVec 32 := 1#32
  let arg11 : BitVec 32 := Scf.iv c0_i32_20 c1_i32_22 k0_t2
  let v34 : BitVec 32 := Scalar.muli c3_i32 arg11
  let v35 : Index := Scalar.indexCast v34
  ![v35.toNat]
def k0_off53 (k0_t2 : Fin k0_t2_loop.trips) : Fin 3 → Nat :=
  let c3_i32_51 : BitVec 32 := 3#32
  let c0_i32_20 : BitVec 32 := 0#32
  let c1_i32_22 : BitVec 32 := 1#32
  let arg11 : BitVec 32 := Scf.iv c0_i32_20 c1_i32_22 k0_t2
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k0_off54 (k0_t2 : Fin k0_t2_loop.trips) (c1_i32_54 : BitVec 32) : Fin 3 → Nat :=
  let c3_i32_53 : BitVec 32 := 3#32
  let c0_i32_20 : BitVec 32 := 0#32
  let c1_i32_22 : BitVec 32 := 1#32
  let arg11 : BitVec 32 := Scf.iv c0_i32_20 c1_i32_22 k0_t2
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k0_off55 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v69 : Index := Scalar.indexCast arg11
  let c0_61 : Index := 0#32
  ![v69.toNat, 0]
def k0_off56 (k0_t2 : Fin k0_t2_loop.trips) : Fin 3 → Nat :=
  let c3_i32_62 : BitVec 32 := 3#32
  let c0_i32_20 : BitVec 32 := 0#32
  let c1_i32_22 : BitVec 32 := 1#32
  let arg11 : BitVec 32 := Scf.iv c0_i32_20 c1_i32_22 k0_t2
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k0_off57 (k0_t2 : Fin k0_t2_loop.trips) (c1_i32_65 : BitVec 32) : Fin 3 → Nat :=
  let c3_i32_64 : BitVec 32 := 3#32
  let c0_i32_20 : BitVec 32 := 0#32
  let c1_i32_22 : BitVec 32 := 1#32
  let arg11 : BitVec 32 := Scf.iv c0_i32_20 c1_i32_22 k0_t2
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k0_off58 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v98 : Index := Scalar.indexCast arg11
  let c16_72 : Index := 16#32
  ![v98.toNat, 16]
def k0_off59 (k0_t2 : Fin k0_t2_loop.trips) : Fin 3 → Nat :=
  let c3_i32_73 : BitVec 32 := 3#32
  let c0_i32_20 : BitVec 32 := 0#32
  let c1_i32_22 : BitVec 32 := 1#32
  let arg11 : BitVec 32 := Scf.iv c0_i32_20 c1_i32_22 k0_t2
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k0_off60 (k0_t2 : Fin k0_t2_loop.trips) (c1_i32_76 : BitVec 32) : Fin 3 → Nat :=
  let c3_i32_75 : BitVec 32 := 3#32
  let c0_i32_20 : BitVec 32 := 0#32
  let c1_i32_22 : BitVec 32 := 1#32
  let arg11 : BitVec 32 := Scf.iv c0_i32_20 c1_i32_22 k0_t2
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k0_off61 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v127 : Index := Scalar.indexCast arg11
  let c32_83 : Index := 32#32
  ![v127.toNat, 32]
def k0_off62 (k0_t2 : Fin k0_t2_loop.trips) : Fin 3 → Nat :=
  let c3_i32_84 : BitVec 32 := 3#32
  let c0_i32_20 : BitVec 32 := 0#32
  let c1_i32_22 : BitVec 32 := 1#32
  let arg11 : BitVec 32 := Scf.iv c0_i32_20 c1_i32_22 k0_t2
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k0_off63 (k0_t2 : Fin k0_t2_loop.trips) (c1_i32_87 : BitVec 32) : Fin 3 → Nat :=
  let c3_i32_86 : BitVec 32 := 3#32
  let c0_i32_20 : BitVec 32 := 0#32
  let c1_i32_22 : BitVec 32 := 1#32
  let arg11 : BitVec 32 := Scf.iv c0_i32_20 c1_i32_22 k0_t2
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k0_off64 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v156 : Index := Scalar.indexCast arg11
  let c48_94 : Index := 48#32
  ![v156.toNat, 48]
def k0_off65 (k0_t2 : Fin k0_t2_loop.trips) : Fin 3 → Nat :=
  let c3_i32_95 : BitVec 32 := 3#32
  let c0_i32_20 : BitVec 32 := 0#32
  let c1_i32_22 : BitVec 32 := 1#32
  let arg11 : BitVec 32 := Scf.iv c0_i32_20 c1_i32_22 k0_t2
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k0_off66 (k0_t2 : Fin k0_t2_loop.trips) (c1_i32_98 : BitVec 32) : Fin 3 → Nat :=
  let c3_i32_97 : BitVec 32 := 3#32
  let c0_i32_20 : BitVec 32 := 0#32
  let c1_i32_22 : BitVec 32 := 1#32
  let arg11 : BitVec 32 := Scf.iv c0_i32_20 c1_i32_22 k0_t2
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k0_off67 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v185 : Index := Scalar.indexCast arg11
  let c64_105 : Index := 64#32
  ![v185.toNat, 64]
def k0_off68 (k0_t2 : Fin k0_t2_loop.trips) : Fin 3 → Nat :=
  let c3_i32_106 : BitVec 32 := 3#32
  let c0_i32_20 : BitVec 32 := 0#32
  let c1_i32_22 : BitVec 32 := 1#32
  let arg11 : BitVec 32 := Scf.iv c0_i32_20 c1_i32_22 k0_t2
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k0_off69 (k0_t2 : Fin k0_t2_loop.trips) (c1_i32_109 : BitVec 32) : Fin 3 → Nat :=
  let c3_i32_108 : BitVec 32 := 3#32
  let c0_i32_20 : BitVec 32 := 0#32
  let c1_i32_22 : BitVec 32 := 1#32
  let arg11 : BitVec 32 := Scf.iv c0_i32_20 c1_i32_22 k0_t2
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k0_off70 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v214 : Index := Scalar.indexCast arg11
  let c80_116 : Index := 80#32
  ![v214.toNat, 80]
def k0_off71 (k0_t2 : Fin k0_t2_loop.trips) : Fin 3 → Nat :=
  let c3_i32_117 : BitVec 32 := 3#32
  let c0_i32_20 : BitVec 32 := 0#32
  let c1_i32_22 : BitVec 32 := 1#32
  let arg11 : BitVec 32 := Scf.iv c0_i32_20 c1_i32_22 k0_t2
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k0_off72 (k0_t2 : Fin k0_t2_loop.trips) (c1_i32_120 : BitVec 32) : Fin 3 → Nat :=
  let c3_i32_119 : BitVec 32 := 3#32
  let c0_i32_20 : BitVec 32 := 0#32
  let c1_i32_22 : BitVec 32 := 1#32
  let arg11 : BitVec 32 := Scf.iv c0_i32_20 c1_i32_22 k0_t2
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k0_off73 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v243 : Index := Scalar.indexCast arg11
  let c96_127 : Index := 96#32
  ![v243.toNat, 96]
def k0_off74 (k0_t2 : Fin k0_t2_loop.trips) : Fin 3 → Nat :=
  let c3_i32_128 : BitVec 32 := 3#32
  let c0_i32_20 : BitVec 32 := 0#32
  let c1_i32_22 : BitVec 32 := 1#32
  let arg11 : BitVec 32 := Scf.iv c0_i32_20 c1_i32_22 k0_t2
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k0_off75 (k0_t2 : Fin k0_t2_loop.trips) (c1_i32_131 : BitVec 32) : Fin 3 → Nat :=
  let c3_i32_130 : BitVec 32 := 3#32
  let c0_i32_20 : BitVec 32 := 0#32
  let c1_i32_22 : BitVec 32 := 1#32
  let arg11 : BitVec 32 := Scf.iv c0_i32_20 c1_i32_22 k0_t2
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k0_off76 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v272 : Index := Scalar.indexCast arg11
  let c112_138 : Index := 112#32
  ![v272.toNat, 112]
def k0_off77 (k0_t2 : Fin k0_t2_loop.trips) : Fin 3 → Nat :=
  let c3_i32_139 : BitVec 32 := 3#32
  let c0_i32_20 : BitVec 32 := 0#32
  let c1_i32_22 : BitVec 32 := 1#32
  let arg11 : BitVec 32 := Scf.iv c0_i32_20 c1_i32_22 k0_t2
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k0_off78 (k0_t2 : Fin k0_t2_loop.trips) (c1_i32_143 : BitVec 32) : Fin 3 → Nat :=
  let c3_i32_142 : BitVec 32 := 3#32
  let c0_i32_20 : BitVec 32 := 0#32
  let c1_i32_22 : BitVec 32 := 1#32
  let arg11 : BitVec 32 := Scf.iv c0_i32_20 c1_i32_22 k0_t2
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k0_off79 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v301 : Index := Scalar.indexCast arg11
  let c128 : Index := 128#32
  ![v301.toNat, 128]
def k0_off80 (k0_t2 : Fin k0_t2_loop.trips) : Fin 3 → Nat :=
  let c3_i32_150 : BitVec 32 := 3#32
  let c0_i32_20 : BitVec 32 := 0#32
  let c1_i32_22 : BitVec 32 := 1#32
  let arg11 : BitVec 32 := Scf.iv c0_i32_20 c1_i32_22 k0_t2
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k0_off81 (k0_t2 : Fin k0_t2_loop.trips) (c1_i32_154 : BitVec 32) : Fin 3 → Nat :=
  let c3_i32_153 : BitVec 32 := 3#32
  let c0_i32_20 : BitVec 32 := 0#32
  let c1_i32_22 : BitVec 32 := 1#32
  let arg11 : BitVec 32 := Scf.iv c0_i32_20 c1_i32_22 k0_t2
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k0_off82 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v330 : Index := Scalar.indexCast arg11
  let c144 : Index := 144#32
  ![v330.toNat, 144]
def k0_off83 (k0_t2 : Fin k0_t2_loop.trips) : Fin 3 → Nat :=
  let c3_i32_161 : BitVec 32 := 3#32
  let c0_i32_20 : BitVec 32 := 0#32
  let c1_i32_22 : BitVec 32 := 1#32
  let arg11 : BitVec 32 := Scf.iv c0_i32_20 c1_i32_22 k0_t2
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k0_off84 (k0_t2 : Fin k0_t2_loop.trips) (c1_i32_165 : BitVec 32) : Fin 3 → Nat :=
  let c3_i32_164 : BitVec 32 := 3#32
  let c0_i32_20 : BitVec 32 := 0#32
  let c1_i32_22 : BitVec 32 := 1#32
  let arg11 : BitVec 32 := Scf.iv c0_i32_20 c1_i32_22 k0_t2
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k0_off85 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v359 : Index := Scalar.indexCast arg11
  let c160 : Index := 160#32
  ![v359.toNat, 160]
def k0_off86 (k0_t2 : Fin k0_t2_loop.trips) : Fin 3 → Nat :=
  let c3_i32_172 : BitVec 32 := 3#32
  let c0_i32_20 : BitVec 32 := 0#32
  let c1_i32_22 : BitVec 32 := 1#32
  let arg11 : BitVec 32 := Scf.iv c0_i32_20 c1_i32_22 k0_t2
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k0_off87 (k0_t2 : Fin k0_t2_loop.trips) (c1_i32_176 : BitVec 32) : Fin 3 → Nat :=
  let c3_i32_175 : BitVec 32 := 3#32
  let c0_i32_20 : BitVec 32 := 0#32
  let c1_i32_22 : BitVec 32 := 1#32
  let arg11 : BitVec 32 := Scf.iv c0_i32_20 c1_i32_22 k0_t2
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k0_off88 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v388 : Index := Scalar.indexCast arg11
  let c176 : Index := 176#32
  ![v388.toNat, 176]
def k0_off89 (k0_t2 : Fin k0_t2_loop.trips) : Fin 3 → Nat :=
  let c3_i32_183 : BitVec 32 := 3#32
  let c0_i32_20 : BitVec 32 := 0#32
  let c1_i32_22 : BitVec 32 := 1#32
  let arg11 : BitVec 32 := Scf.iv c0_i32_20 c1_i32_22 k0_t2
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k0_off90 (k0_t2 : Fin k0_t2_loop.trips) (c1_i32_187 : BitVec 32) : Fin 3 → Nat :=
  let c3_i32_186 : BitVec 32 := 3#32
  let c0_i32_20 : BitVec 32 := 0#32
  let c1_i32_22 : BitVec 32 := 1#32
  let arg11 : BitVec 32 := Scf.iv c0_i32_20 c1_i32_22 k0_t2
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k0_off91 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v417 : Index := Scalar.indexCast arg11
  let c192 : Index := 192#32
  ![v417.toNat, 192]
def k0_off92 (k0_t2 : Fin k0_t2_loop.trips) : Fin 3 → Nat :=
  let c3_i32_194 : BitVec 32 := 3#32
  let c0_i32_20 : BitVec 32 := 0#32
  let c1_i32_22 : BitVec 32 := 1#32
  let arg11 : BitVec 32 := Scf.iv c0_i32_20 c1_i32_22 k0_t2
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k0_off93 (k0_t2 : Fin k0_t2_loop.trips) (c1_i32_198 : BitVec 32) : Fin 3 → Nat :=
  let c3_i32_197 : BitVec 32 := 3#32
  let c0_i32_20 : BitVec 32 := 0#32
  let c1_i32_22 : BitVec 32 := 1#32
  let arg11 : BitVec 32 := Scf.iv c0_i32_20 c1_i32_22 k0_t2
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k0_off94 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v446 : Index := Scalar.indexCast arg11
  let c208 : Index := 208#32
  ![v446.toNat, 208]
def k0_off95 (k0_t2 : Fin k0_t2_loop.trips) : Fin 3 → Nat :=
  let c3_i32_205 : BitVec 32 := 3#32
  let c0_i32_20 : BitVec 32 := 0#32
  let c1_i32_22 : BitVec 32 := 1#32
  let arg11 : BitVec 32 := Scf.iv c0_i32_20 c1_i32_22 k0_t2
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k0_off96 (k0_t2 : Fin k0_t2_loop.trips) (c1_i32_209 : BitVec 32) : Fin 3 → Nat :=
  let c3_i32_208 : BitVec 32 := 3#32
  let c0_i32_20 : BitVec 32 := 0#32
  let c1_i32_22 : BitVec 32 := 1#32
  let arg11 : BitVec 32 := Scf.iv c0_i32_20 c1_i32_22 k0_t2
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k0_off97 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v475 : Index := Scalar.indexCast arg11
  let c224 : Index := 224#32
  ![v475.toNat, 224]
def k0_off98 (k0_t2 : Fin k0_t2_loop.trips) : Fin 3 → Nat :=
  let c3_i32_216 : BitVec 32 := 3#32
  let c0_i32_20 : BitVec 32 := 0#32
  let c1_i32_22 : BitVec 32 := 1#32
  let arg11 : BitVec 32 := Scf.iv c0_i32_20 c1_i32_22 k0_t2
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k0_off99 (k0_t2 : Fin k0_t2_loop.trips) (c1_i32_220 : BitVec 32) : Fin 3 → Nat :=
  let c3_i32_219 : BitVec 32 := 3#32
  let c0_i32_20 : BitVec 32 := 0#32
  let c1_i32_22 : BitVec 32 := 1#32
  let arg11 : BitVec 32 := Scf.iv c0_i32_20 c1_i32_22 k0_t2
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k0_off100 (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v504 : Index := Scalar.indexCast arg11
  let c240 : Index := 240#32
  ![v504.toNat, 240]
@[reducible] def k0_t3_loop : Scf.Loop 32 :=
  let c0_i32_33 : BitVec 32 := 0#32
  let c64_i32_34 : BitVec 32 := 64#32
  let v24 : BitVec 32 := Scalar.addi c0_i32_33 c64_i32_34
  let c1_i32_35 : BitVec 32 := 1#32
  ⟨c0_i32_33, v24, c1_i32_35⟩
def k0_off101 (k0_t3 : Fin k0_t3_loop.trips) : Fin 1 → Nat :=
  let c3_i32 : BitVec 32 := 3#32
  let c0_i32_33 : BitVec 32 := 0#32
  let c1_i32_35 : BitVec 32 := 1#32
  let arg11 : BitVec 32 := Scf.iv c0_i32_33 c1_i32_35 k0_t3
  let v34 : BitVec 32 := Scalar.muli c3_i32 arg11
  let v35 : Index := Scalar.indexCast v34
  ![v35.toNat]
def k0_off102 (k0_t3 : Fin k0_t3_loop.trips) : Fin 3 → Nat :=
  let c3_i32_51 : BitVec 32 := 3#32
  let c0_i32_33 : BitVec 32 := 0#32
  let c1_i32_35 : BitVec 32 := 1#32
  let arg11 : BitVec 32 := Scf.iv c0_i32_33 c1_i32_35 k0_t3
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k0_off103 (k0_t3 : Fin k0_t3_loop.trips) (c1_i32_54 : BitVec 32) : Fin 3 → Nat :=
  let c3_i32_53 : BitVec 32 := 3#32
  let c0_i32_33 : BitVec 32 := 0#32
  let c1_i32_35 : BitVec 32 := 1#32
  let arg11 : BitVec 32 := Scf.iv c0_i32_33 c1_i32_35 k0_t3
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k0_off104 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v69 : Index := Scalar.indexCast arg11
  let c0_61 : Index := 0#32
  ![v69.toNat, 0]
def k0_off105 (k0_t3 : Fin k0_t3_loop.trips) : Fin 3 → Nat :=
  let c3_i32_62 : BitVec 32 := 3#32
  let c0_i32_33 : BitVec 32 := 0#32
  let c1_i32_35 : BitVec 32 := 1#32
  let arg11 : BitVec 32 := Scf.iv c0_i32_33 c1_i32_35 k0_t3
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k0_off106 (k0_t3 : Fin k0_t3_loop.trips) (c1_i32_65 : BitVec 32) : Fin 3 → Nat :=
  let c3_i32_64 : BitVec 32 := 3#32
  let c0_i32_33 : BitVec 32 := 0#32
  let c1_i32_35 : BitVec 32 := 1#32
  let arg11 : BitVec 32 := Scf.iv c0_i32_33 c1_i32_35 k0_t3
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k0_off107 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v98 : Index := Scalar.indexCast arg11
  let c16_72 : Index := 16#32
  ![v98.toNat, 16]
def k0_off108 (k0_t3 : Fin k0_t3_loop.trips) : Fin 3 → Nat :=
  let c3_i32_73 : BitVec 32 := 3#32
  let c0_i32_33 : BitVec 32 := 0#32
  let c1_i32_35 : BitVec 32 := 1#32
  let arg11 : BitVec 32 := Scf.iv c0_i32_33 c1_i32_35 k0_t3
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k0_off109 (k0_t3 : Fin k0_t3_loop.trips) (c1_i32_76 : BitVec 32) : Fin 3 → Nat :=
  let c3_i32_75 : BitVec 32 := 3#32
  let c0_i32_33 : BitVec 32 := 0#32
  let c1_i32_35 : BitVec 32 := 1#32
  let arg11 : BitVec 32 := Scf.iv c0_i32_33 c1_i32_35 k0_t3
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k0_off110 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v127 : Index := Scalar.indexCast arg11
  let c32_83 : Index := 32#32
  ![v127.toNat, 32]
def k0_off111 (k0_t3 : Fin k0_t3_loop.trips) : Fin 3 → Nat :=
  let c3_i32_84 : BitVec 32 := 3#32
  let c0_i32_33 : BitVec 32 := 0#32
  let c1_i32_35 : BitVec 32 := 1#32
  let arg11 : BitVec 32 := Scf.iv c0_i32_33 c1_i32_35 k0_t3
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k0_off112 (k0_t3 : Fin k0_t3_loop.trips) (c1_i32_87 : BitVec 32) : Fin 3 → Nat :=
  let c3_i32_86 : BitVec 32 := 3#32
  let c0_i32_33 : BitVec 32 := 0#32
  let c1_i32_35 : BitVec 32 := 1#32
  let arg11 : BitVec 32 := Scf.iv c0_i32_33 c1_i32_35 k0_t3
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k0_off113 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v156 : Index := Scalar.indexCast arg11
  let c48_94 : Index := 48#32
  ![v156.toNat, 48]
def k0_off114 (k0_t3 : Fin k0_t3_loop.trips) : Fin 3 → Nat :=
  let c3_i32_95 : BitVec 32 := 3#32
  let c0_i32_33 : BitVec 32 := 0#32
  let c1_i32_35 : BitVec 32 := 1#32
  let arg11 : BitVec 32 := Scf.iv c0_i32_33 c1_i32_35 k0_t3
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k0_off115 (k0_t3 : Fin k0_t3_loop.trips) (c1_i32_98 : BitVec 32) : Fin 3 → Nat :=
  let c3_i32_97 : BitVec 32 := 3#32
  let c0_i32_33 : BitVec 32 := 0#32
  let c1_i32_35 : BitVec 32 := 1#32
  let arg11 : BitVec 32 := Scf.iv c0_i32_33 c1_i32_35 k0_t3
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k0_off116 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v185 : Index := Scalar.indexCast arg11
  let c64_105 : Index := 64#32
  ![v185.toNat, 64]
def k0_off117 (k0_t3 : Fin k0_t3_loop.trips) : Fin 3 → Nat :=
  let c3_i32_106 : BitVec 32 := 3#32
  let c0_i32_33 : BitVec 32 := 0#32
  let c1_i32_35 : BitVec 32 := 1#32
  let arg11 : BitVec 32 := Scf.iv c0_i32_33 c1_i32_35 k0_t3
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k0_off118 (k0_t3 : Fin k0_t3_loop.trips) (c1_i32_109 : BitVec 32) : Fin 3 → Nat :=
  let c3_i32_108 : BitVec 32 := 3#32
  let c0_i32_33 : BitVec 32 := 0#32
  let c1_i32_35 : BitVec 32 := 1#32
  let arg11 : BitVec 32 := Scf.iv c0_i32_33 c1_i32_35 k0_t3
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k0_off119 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v214 : Index := Scalar.indexCast arg11
  let c80_116 : Index := 80#32
  ![v214.toNat, 80]
def k0_off120 (k0_t3 : Fin k0_t3_loop.trips) : Fin 3 → Nat :=
  let c3_i32_117 : BitVec 32 := 3#32
  let c0_i32_33 : BitVec 32 := 0#32
  let c1_i32_35 : BitVec 32 := 1#32
  let arg11 : BitVec 32 := Scf.iv c0_i32_33 c1_i32_35 k0_t3
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k0_off121 (k0_t3 : Fin k0_t3_loop.trips) (c1_i32_120 : BitVec 32) : Fin 3 → Nat :=
  let c3_i32_119 : BitVec 32 := 3#32
  let c0_i32_33 : BitVec 32 := 0#32
  let c1_i32_35 : BitVec 32 := 1#32
  let arg11 : BitVec 32 := Scf.iv c0_i32_33 c1_i32_35 k0_t3
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k0_off122 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v243 : Index := Scalar.indexCast arg11
  let c96_127 : Index := 96#32
  ![v243.toNat, 96]
def k0_off123 (k0_t3 : Fin k0_t3_loop.trips) : Fin 3 → Nat :=
  let c3_i32_128 : BitVec 32 := 3#32
  let c0_i32_33 : BitVec 32 := 0#32
  let c1_i32_35 : BitVec 32 := 1#32
  let arg11 : BitVec 32 := Scf.iv c0_i32_33 c1_i32_35 k0_t3
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k0_off124 (k0_t3 : Fin k0_t3_loop.trips) (c1_i32_131 : BitVec 32) : Fin 3 → Nat :=
  let c3_i32_130 : BitVec 32 := 3#32
  let c0_i32_33 : BitVec 32 := 0#32
  let c1_i32_35 : BitVec 32 := 1#32
  let arg11 : BitVec 32 := Scf.iv c0_i32_33 c1_i32_35 k0_t3
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k0_off125 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v272 : Index := Scalar.indexCast arg11
  let c112_138 : Index := 112#32
  ![v272.toNat, 112]
def k0_off126 (k0_t3 : Fin k0_t3_loop.trips) : Fin 3 → Nat :=
  let c3_i32_139 : BitVec 32 := 3#32
  let c0_i32_33 : BitVec 32 := 0#32
  let c1_i32_35 : BitVec 32 := 1#32
  let arg11 : BitVec 32 := Scf.iv c0_i32_33 c1_i32_35 k0_t3
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k0_off127 (k0_t3 : Fin k0_t3_loop.trips) (c1_i32_143 : BitVec 32) : Fin 3 → Nat :=
  let c3_i32_142 : BitVec 32 := 3#32
  let c0_i32_33 : BitVec 32 := 0#32
  let c1_i32_35 : BitVec 32 := 1#32
  let arg11 : BitVec 32 := Scf.iv c0_i32_33 c1_i32_35 k0_t3
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k0_off128 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v301 : Index := Scalar.indexCast arg11
  let c128 : Index := 128#32
  ![v301.toNat, 128]
def k0_off129 (k0_t3 : Fin k0_t3_loop.trips) : Fin 3 → Nat :=
  let c3_i32_150 : BitVec 32 := 3#32
  let c0_i32_33 : BitVec 32 := 0#32
  let c1_i32_35 : BitVec 32 := 1#32
  let arg11 : BitVec 32 := Scf.iv c0_i32_33 c1_i32_35 k0_t3
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k0_off130 (k0_t3 : Fin k0_t3_loop.trips) (c1_i32_154 : BitVec 32) : Fin 3 → Nat :=
  let c3_i32_153 : BitVec 32 := 3#32
  let c0_i32_33 : BitVec 32 := 0#32
  let c1_i32_35 : BitVec 32 := 1#32
  let arg11 : BitVec 32 := Scf.iv c0_i32_33 c1_i32_35 k0_t3
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k0_off131 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v330 : Index := Scalar.indexCast arg11
  let c144 : Index := 144#32
  ![v330.toNat, 144]
def k0_off132 (k0_t3 : Fin k0_t3_loop.trips) : Fin 3 → Nat :=
  let c3_i32_161 : BitVec 32 := 3#32
  let c0_i32_33 : BitVec 32 := 0#32
  let c1_i32_35 : BitVec 32 := 1#32
  let arg11 : BitVec 32 := Scf.iv c0_i32_33 c1_i32_35 k0_t3
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k0_off133 (k0_t3 : Fin k0_t3_loop.trips) (c1_i32_165 : BitVec 32) : Fin 3 → Nat :=
  let c3_i32_164 : BitVec 32 := 3#32
  let c0_i32_33 : BitVec 32 := 0#32
  let c1_i32_35 : BitVec 32 := 1#32
  let arg11 : BitVec 32 := Scf.iv c0_i32_33 c1_i32_35 k0_t3
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k0_off134 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v359 : Index := Scalar.indexCast arg11
  let c160 : Index := 160#32
  ![v359.toNat, 160]
def k0_off135 (k0_t3 : Fin k0_t3_loop.trips) : Fin 3 → Nat :=
  let c3_i32_172 : BitVec 32 := 3#32
  let c0_i32_33 : BitVec 32 := 0#32
  let c1_i32_35 : BitVec 32 := 1#32
  let arg11 : BitVec 32 := Scf.iv c0_i32_33 c1_i32_35 k0_t3
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k0_off136 (k0_t3 : Fin k0_t3_loop.trips) (c1_i32_176 : BitVec 32) : Fin 3 → Nat :=
  let c3_i32_175 : BitVec 32 := 3#32
  let c0_i32_33 : BitVec 32 := 0#32
  let c1_i32_35 : BitVec 32 := 1#32
  let arg11 : BitVec 32 := Scf.iv c0_i32_33 c1_i32_35 k0_t3
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k0_off137 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v388 : Index := Scalar.indexCast arg11
  let c176 : Index := 176#32
  ![v388.toNat, 176]
def k0_off138 (k0_t3 : Fin k0_t3_loop.trips) : Fin 3 → Nat :=
  let c3_i32_183 : BitVec 32 := 3#32
  let c0_i32_33 : BitVec 32 := 0#32
  let c1_i32_35 : BitVec 32 := 1#32
  let arg11 : BitVec 32 := Scf.iv c0_i32_33 c1_i32_35 k0_t3
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k0_off139 (k0_t3 : Fin k0_t3_loop.trips) (c1_i32_187 : BitVec 32) : Fin 3 → Nat :=
  let c3_i32_186 : BitVec 32 := 3#32
  let c0_i32_33 : BitVec 32 := 0#32
  let c1_i32_35 : BitVec 32 := 1#32
  let arg11 : BitVec 32 := Scf.iv c0_i32_33 c1_i32_35 k0_t3
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k0_off140 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v417 : Index := Scalar.indexCast arg11
  let c192 : Index := 192#32
  ![v417.toNat, 192]
def k0_off141 (k0_t3 : Fin k0_t3_loop.trips) : Fin 3 → Nat :=
  let c3_i32_194 : BitVec 32 := 3#32
  let c0_i32_33 : BitVec 32 := 0#32
  let c1_i32_35 : BitVec 32 := 1#32
  let arg11 : BitVec 32 := Scf.iv c0_i32_33 c1_i32_35 k0_t3
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k0_off142 (k0_t3 : Fin k0_t3_loop.trips) (c1_i32_198 : BitVec 32) : Fin 3 → Nat :=
  let c3_i32_197 : BitVec 32 := 3#32
  let c0_i32_33 : BitVec 32 := 0#32
  let c1_i32_35 : BitVec 32 := 1#32
  let arg11 : BitVec 32 := Scf.iv c0_i32_33 c1_i32_35 k0_t3
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k0_off143 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v446 : Index := Scalar.indexCast arg11
  let c208 : Index := 208#32
  ![v446.toNat, 208]
def k0_off144 (k0_t3 : Fin k0_t3_loop.trips) : Fin 3 → Nat :=
  let c3_i32_205 : BitVec 32 := 3#32
  let c0_i32_33 : BitVec 32 := 0#32
  let c1_i32_35 : BitVec 32 := 1#32
  let arg11 : BitVec 32 := Scf.iv c0_i32_33 c1_i32_35 k0_t3
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k0_off145 (k0_t3 : Fin k0_t3_loop.trips) (c1_i32_209 : BitVec 32) : Fin 3 → Nat :=
  let c3_i32_208 : BitVec 32 := 3#32
  let c0_i32_33 : BitVec 32 := 0#32
  let c1_i32_35 : BitVec 32 := 1#32
  let arg11 : BitVec 32 := Scf.iv c0_i32_33 c1_i32_35 k0_t3
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k0_off146 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v475 : Index := Scalar.indexCast arg11
  let c224 : Index := 224#32
  ![v475.toNat, 224]
def k0_off147 (k0_t3 : Fin k0_t3_loop.trips) : Fin 3 → Nat :=
  let c3_i32_216 : BitVec 32 := 3#32
  let c0_i32_33 : BitVec 32 := 0#32
  let c1_i32_35 : BitVec 32 := 1#32
  let arg11 : BitVec 32 := Scf.iv c0_i32_33 c1_i32_35 k0_t3
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k0_off148 (k0_t3 : Fin k0_t3_loop.trips) (c1_i32_220 : BitVec 32) : Fin 3 → Nat :=
  let c3_i32_219 : BitVec 32 := 3#32
  let c0_i32_33 : BitVec 32 := 0#32
  let c1_i32_35 : BitVec 32 := 1#32
  let arg11 : BitVec 32 := Scf.iv c0_i32_33 c1_i32_35 k0_t3
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k0_off149 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v504 : Index := Scalar.indexCast arg11
  let c240 : Index := 240#32
  ![v504.toNat, 240]
@[reducible] def k0_t4_loop : Scf.Loop 32 :=
  let c0_i32_47 : BitVec 32 := 0#32
  let c64_i32_48 : BitVec 32 := 64#32
  let v32 : BitVec 32 := Scalar.addi c0_i32_47 c64_i32_48
  let c1_i32_49 : BitVec 32 := 1#32
  ⟨c0_i32_47, v32, c1_i32_49⟩
def k0_off150 (k0_t4 : Fin k0_t4_loop.trips) : Fin 1 → Nat :=
  let c3_i32 : BitVec 32 := 3#32
  let c0_i32_47 : BitVec 32 := 0#32
  let c1_i32_49 : BitVec 32 := 1#32
  let arg11 : BitVec 32 := Scf.iv c0_i32_47 c1_i32_49 k0_t4
  let v34 : BitVec 32 := Scalar.muli c3_i32 arg11
  let v35 : Index := Scalar.indexCast v34
  ![v35.toNat]
def k0_off151 (k0_t4 : Fin k0_t4_loop.trips) : Fin 3 → Nat :=
  let c3_i32_51 : BitVec 32 := 3#32
  let c0_i32_47 : BitVec 32 := 0#32
  let c1_i32_49 : BitVec 32 := 1#32
  let arg11 : BitVec 32 := Scf.iv c0_i32_47 c1_i32_49 k0_t4
  let v44 : BitVec 32 := Scalar.muli c3_i32_51 arg11
  let v45 : Index := Scalar.indexCast v44
  let c0_i32_52 : BitVec 32 := 0#32
  let v46 : Index := Scalar.indexCast c0_i32_52
  let c0 : Index := 0#32
  ![v45.toNat, 0, 0]
def k0_off152 (k0_t4 : Fin k0_t4_loop.trips) (c1_i32_54 : BitVec 32) : Fin 3 → Nat :=
  let c3_i32_53 : BitVec 32 := 3#32
  let c0_i32_47 : BitVec 32 := 0#32
  let c1_i32_49 : BitVec 32 := 1#32
  let arg11 : BitVec 32 := Scf.iv c0_i32_47 c1_i32_49 k0_t4
  let v51 : BitVec 32 := Scalar.muli c3_i32_53 arg11
  let v52 : BitVec 32 := Scalar.addi v51 c1_i32_54
  let v53 : Index := Scalar.indexCast v52
  let c0_i32_55 : BitVec 32 := 0#32
  let v54 : Index := Scalar.indexCast c0_i32_55
  let c0_56 : Index := 0#32
  ![v53.toNat, 0, 0]
def k0_off153 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v69 : Index := Scalar.indexCast arg11
  let c0_61 : Index := 0#32
  ![v69.toNat, 0]
def k0_off154 (k0_t4 : Fin k0_t4_loop.trips) : Fin 3 → Nat :=
  let c3_i32_62 : BitVec 32 := 3#32
  let c0_i32_47 : BitVec 32 := 0#32
  let c1_i32_49 : BitVec 32 := 1#32
  let arg11 : BitVec 32 := Scf.iv c0_i32_47 c1_i32_49 k0_t4
  let v73 : BitVec 32 := Scalar.muli c3_i32_62 arg11
  let v74 : Index := Scalar.indexCast v73
  let c0_i32_63 : BitVec 32 := 0#32
  let v75 : Index := Scalar.indexCast c0_i32_63
  let c16 : Index := 16#32
  ![v74.toNat, 0, 16]
def k0_off155 (k0_t4 : Fin k0_t4_loop.trips) (c1_i32_65 : BitVec 32) : Fin 3 → Nat :=
  let c3_i32_64 : BitVec 32 := 3#32
  let c0_i32_47 : BitVec 32 := 0#32
  let c1_i32_49 : BitVec 32 := 1#32
  let arg11 : BitVec 32 := Scf.iv c0_i32_47 c1_i32_49 k0_t4
  let v80 : BitVec 32 := Scalar.muli c3_i32_64 arg11
  let v81 : BitVec 32 := Scalar.addi v80 c1_i32_65
  let v82 : Index := Scalar.indexCast v81
  let c0_i32_66 : BitVec 32 := 0#32
  let v83 : Index := Scalar.indexCast c0_i32_66
  let c16_67 : Index := 16#32
  ![v82.toNat, 0, 16]
def k0_off156 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v98 : Index := Scalar.indexCast arg11
  let c16_72 : Index := 16#32
  ![v98.toNat, 16]
def k0_off157 (k0_t4 : Fin k0_t4_loop.trips) : Fin 3 → Nat :=
  let c3_i32_73 : BitVec 32 := 3#32
  let c0_i32_47 : BitVec 32 := 0#32
  let c1_i32_49 : BitVec 32 := 1#32
  let arg11 : BitVec 32 := Scf.iv c0_i32_47 c1_i32_49 k0_t4
  let v102 : BitVec 32 := Scalar.muli c3_i32_73 arg11
  let v103 : Index := Scalar.indexCast v102
  let c0_i32_74 : BitVec 32 := 0#32
  let v104 : Index := Scalar.indexCast c0_i32_74
  let c32 : Index := 32#32
  ![v103.toNat, 0, 32]
def k0_off158 (k0_t4 : Fin k0_t4_loop.trips) (c1_i32_76 : BitVec 32) : Fin 3 → Nat :=
  let c3_i32_75 : BitVec 32 := 3#32
  let c0_i32_47 : BitVec 32 := 0#32
  let c1_i32_49 : BitVec 32 := 1#32
  let arg11 : BitVec 32 := Scf.iv c0_i32_47 c1_i32_49 k0_t4
  let v109 : BitVec 32 := Scalar.muli c3_i32_75 arg11
  let v110 : BitVec 32 := Scalar.addi v109 c1_i32_76
  let v111 : Index := Scalar.indexCast v110
  let c0_i32_77 : BitVec 32 := 0#32
  let v112 : Index := Scalar.indexCast c0_i32_77
  let c32_78 : Index := 32#32
  ![v111.toNat, 0, 32]
def k0_off159 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v127 : Index := Scalar.indexCast arg11
  let c32_83 : Index := 32#32
  ![v127.toNat, 32]
def k0_off160 (k0_t4 : Fin k0_t4_loop.trips) : Fin 3 → Nat :=
  let c3_i32_84 : BitVec 32 := 3#32
  let c0_i32_47 : BitVec 32 := 0#32
  let c1_i32_49 : BitVec 32 := 1#32
  let arg11 : BitVec 32 := Scf.iv c0_i32_47 c1_i32_49 k0_t4
  let v131 : BitVec 32 := Scalar.muli c3_i32_84 arg11
  let v132 : Index := Scalar.indexCast v131
  let c0_i32_85 : BitVec 32 := 0#32
  let v133 : Index := Scalar.indexCast c0_i32_85
  let c48 : Index := 48#32
  ![v132.toNat, 0, 48]
def k0_off161 (k0_t4 : Fin k0_t4_loop.trips) (c1_i32_87 : BitVec 32) : Fin 3 → Nat :=
  let c3_i32_86 : BitVec 32 := 3#32
  let c0_i32_47 : BitVec 32 := 0#32
  let c1_i32_49 : BitVec 32 := 1#32
  let arg11 : BitVec 32 := Scf.iv c0_i32_47 c1_i32_49 k0_t4
  let v138 : BitVec 32 := Scalar.muli c3_i32_86 arg11
  let v139 : BitVec 32 := Scalar.addi v138 c1_i32_87
  let v140 : Index := Scalar.indexCast v139
  let c0_i32_88 : BitVec 32 := 0#32
  let v141 : Index := Scalar.indexCast c0_i32_88
  let c48_89 : Index := 48#32
  ![v140.toNat, 0, 48]
def k0_off162 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v156 : Index := Scalar.indexCast arg11
  let c48_94 : Index := 48#32
  ![v156.toNat, 48]
def k0_off163 (k0_t4 : Fin k0_t4_loop.trips) : Fin 3 → Nat :=
  let c3_i32_95 : BitVec 32 := 3#32
  let c0_i32_47 : BitVec 32 := 0#32
  let c1_i32_49 : BitVec 32 := 1#32
  let arg11 : BitVec 32 := Scf.iv c0_i32_47 c1_i32_49 k0_t4
  let v160 : BitVec 32 := Scalar.muli c3_i32_95 arg11
  let v161 : Index := Scalar.indexCast v160
  let c0_i32_96 : BitVec 32 := 0#32
  let v162 : Index := Scalar.indexCast c0_i32_96
  let c64 : Index := 64#32
  ![v161.toNat, 0, 64]
def k0_off164 (k0_t4 : Fin k0_t4_loop.trips) (c1_i32_98 : BitVec 32) : Fin 3 → Nat :=
  let c3_i32_97 : BitVec 32 := 3#32
  let c0_i32_47 : BitVec 32 := 0#32
  let c1_i32_49 : BitVec 32 := 1#32
  let arg11 : BitVec 32 := Scf.iv c0_i32_47 c1_i32_49 k0_t4
  let v167 : BitVec 32 := Scalar.muli c3_i32_97 arg11
  let v168 : BitVec 32 := Scalar.addi v167 c1_i32_98
  let v169 : Index := Scalar.indexCast v168
  let c0_i32_99 : BitVec 32 := 0#32
  let v170 : Index := Scalar.indexCast c0_i32_99
  let c64_100 : Index := 64#32
  ![v169.toNat, 0, 64]
def k0_off165 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v185 : Index := Scalar.indexCast arg11
  let c64_105 : Index := 64#32
  ![v185.toNat, 64]
def k0_off166 (k0_t4 : Fin k0_t4_loop.trips) : Fin 3 → Nat :=
  let c3_i32_106 : BitVec 32 := 3#32
  let c0_i32_47 : BitVec 32 := 0#32
  let c1_i32_49 : BitVec 32 := 1#32
  let arg11 : BitVec 32 := Scf.iv c0_i32_47 c1_i32_49 k0_t4
  let v189 : BitVec 32 := Scalar.muli c3_i32_106 arg11
  let v190 : Index := Scalar.indexCast v189
  let c0_i32_107 : BitVec 32 := 0#32
  let v191 : Index := Scalar.indexCast c0_i32_107
  let c80 : Index := 80#32
  ![v190.toNat, 0, 80]
def k0_off167 (k0_t4 : Fin k0_t4_loop.trips) (c1_i32_109 : BitVec 32) : Fin 3 → Nat :=
  let c3_i32_108 : BitVec 32 := 3#32
  let c0_i32_47 : BitVec 32 := 0#32
  let c1_i32_49 : BitVec 32 := 1#32
  let arg11 : BitVec 32 := Scf.iv c0_i32_47 c1_i32_49 k0_t4
  let v196 : BitVec 32 := Scalar.muli c3_i32_108 arg11
  let v197 : BitVec 32 := Scalar.addi v196 c1_i32_109
  let v198 : Index := Scalar.indexCast v197
  let c0_i32_110 : BitVec 32 := 0#32
  let v199 : Index := Scalar.indexCast c0_i32_110
  let c80_111 : Index := 80#32
  ![v198.toNat, 0, 80]
def k0_off168 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v214 : Index := Scalar.indexCast arg11
  let c80_116 : Index := 80#32
  ![v214.toNat, 80]
def k0_off169 (k0_t4 : Fin k0_t4_loop.trips) : Fin 3 → Nat :=
  let c3_i32_117 : BitVec 32 := 3#32
  let c0_i32_47 : BitVec 32 := 0#32
  let c1_i32_49 : BitVec 32 := 1#32
  let arg11 : BitVec 32 := Scf.iv c0_i32_47 c1_i32_49 k0_t4
  let v218 : BitVec 32 := Scalar.muli c3_i32_117 arg11
  let v219 : Index := Scalar.indexCast v218
  let c0_i32_118 : BitVec 32 := 0#32
  let v220 : Index := Scalar.indexCast c0_i32_118
  let c96 : Index := 96#32
  ![v219.toNat, 0, 96]
def k0_off170 (k0_t4 : Fin k0_t4_loop.trips) (c1_i32_120 : BitVec 32) : Fin 3 → Nat :=
  let c3_i32_119 : BitVec 32 := 3#32
  let c0_i32_47 : BitVec 32 := 0#32
  let c1_i32_49 : BitVec 32 := 1#32
  let arg11 : BitVec 32 := Scf.iv c0_i32_47 c1_i32_49 k0_t4
  let v225 : BitVec 32 := Scalar.muli c3_i32_119 arg11
  let v226 : BitVec 32 := Scalar.addi v225 c1_i32_120
  let v227 : Index := Scalar.indexCast v226
  let c0_i32_121 : BitVec 32 := 0#32
  let v228 : Index := Scalar.indexCast c0_i32_121
  let c96_122 : Index := 96#32
  ![v227.toNat, 0, 96]
def k0_off171 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v243 : Index := Scalar.indexCast arg11
  let c96_127 : Index := 96#32
  ![v243.toNat, 96]
def k0_off172 (k0_t4 : Fin k0_t4_loop.trips) : Fin 3 → Nat :=
  let c3_i32_128 : BitVec 32 := 3#32
  let c0_i32_47 : BitVec 32 := 0#32
  let c1_i32_49 : BitVec 32 := 1#32
  let arg11 : BitVec 32 := Scf.iv c0_i32_47 c1_i32_49 k0_t4
  let v247 : BitVec 32 := Scalar.muli c3_i32_128 arg11
  let v248 : Index := Scalar.indexCast v247
  let c0_i32_129 : BitVec 32 := 0#32
  let v249 : Index := Scalar.indexCast c0_i32_129
  let c112 : Index := 112#32
  ![v248.toNat, 0, 112]
def k0_off173 (k0_t4 : Fin k0_t4_loop.trips) (c1_i32_131 : BitVec 32) : Fin 3 → Nat :=
  let c3_i32_130 : BitVec 32 := 3#32
  let c0_i32_47 : BitVec 32 := 0#32
  let c1_i32_49 : BitVec 32 := 1#32
  let arg11 : BitVec 32 := Scf.iv c0_i32_47 c1_i32_49 k0_t4
  let v254 : BitVec 32 := Scalar.muli c3_i32_130 arg11
  let v255 : BitVec 32 := Scalar.addi v254 c1_i32_131
  let v256 : Index := Scalar.indexCast v255
  let c0_i32_132 : BitVec 32 := 0#32
  let v257 : Index := Scalar.indexCast c0_i32_132
  let c112_133 : Index := 112#32
  ![v256.toNat, 0, 112]
def k0_off174 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v272 : Index := Scalar.indexCast arg11
  let c112_138 : Index := 112#32
  ![v272.toNat, 112]
def k0_off175 (k0_t4 : Fin k0_t4_loop.trips) : Fin 3 → Nat :=
  let c3_i32_139 : BitVec 32 := 3#32
  let c0_i32_47 : BitVec 32 := 0#32
  let c1_i32_49 : BitVec 32 := 1#32
  let arg11 : BitVec 32 := Scf.iv c0_i32_47 c1_i32_49 k0_t4
  let v276 : BitVec 32 := Scalar.muli c3_i32_139 arg11
  let v277 : Index := Scalar.indexCast v276
  let c1_i32_140 : BitVec 32 := 1#32
  let v278 : Index := Scalar.indexCast c1_i32_140
  let c0_141 : Index := 0#32
  ![v277.toNat, 1, 0]
def k0_off176 (k0_t4 : Fin k0_t4_loop.trips) (c1_i32_143 : BitVec 32) : Fin 3 → Nat :=
  let c3_i32_142 : BitVec 32 := 3#32
  let c0_i32_47 : BitVec 32 := 0#32
  let c1_i32_49 : BitVec 32 := 1#32
  let arg11 : BitVec 32 := Scf.iv c0_i32_47 c1_i32_49 k0_t4
  let v283 : BitVec 32 := Scalar.muli c3_i32_142 arg11
  let v284 : BitVec 32 := Scalar.addi v283 c1_i32_143
  let v285 : Index := Scalar.indexCast v284
  let c1_i32_144 : BitVec 32 := 1#32
  let v286 : Index := Scalar.indexCast c1_i32_144
  let c0_145 : Index := 0#32
  ![v285.toNat, 1, 0]
def k0_off177 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v301 : Index := Scalar.indexCast arg11
  let c128 : Index := 128#32
  ![v301.toNat, 128]
def k0_off178 (k0_t4 : Fin k0_t4_loop.trips) : Fin 3 → Nat :=
  let c3_i32_150 : BitVec 32 := 3#32
  let c0_i32_47 : BitVec 32 := 0#32
  let c1_i32_49 : BitVec 32 := 1#32
  let arg11 : BitVec 32 := Scf.iv c0_i32_47 c1_i32_49 k0_t4
  let v305 : BitVec 32 := Scalar.muli c3_i32_150 arg11
  let v306 : Index := Scalar.indexCast v305
  let c1_i32_151 : BitVec 32 := 1#32
  let v307 : Index := Scalar.indexCast c1_i32_151
  let c16_152 : Index := 16#32
  ![v306.toNat, 1, 16]
def k0_off179 (k0_t4 : Fin k0_t4_loop.trips) (c1_i32_154 : BitVec 32) : Fin 3 → Nat :=
  let c3_i32_153 : BitVec 32 := 3#32
  let c0_i32_47 : BitVec 32 := 0#32
  let c1_i32_49 : BitVec 32 := 1#32
  let arg11 : BitVec 32 := Scf.iv c0_i32_47 c1_i32_49 k0_t4
  let v312 : BitVec 32 := Scalar.muli c3_i32_153 arg11
  let v313 : BitVec 32 := Scalar.addi v312 c1_i32_154
  let v314 : Index := Scalar.indexCast v313
  let c1_i32_155 : BitVec 32 := 1#32
  let v315 : Index := Scalar.indexCast c1_i32_155
  let c16_156 : Index := 16#32
  ![v314.toNat, 1, 16]
def k0_off180 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v330 : Index := Scalar.indexCast arg11
  let c144 : Index := 144#32
  ![v330.toNat, 144]
def k0_off181 (k0_t4 : Fin k0_t4_loop.trips) : Fin 3 → Nat :=
  let c3_i32_161 : BitVec 32 := 3#32
  let c0_i32_47 : BitVec 32 := 0#32
  let c1_i32_49 : BitVec 32 := 1#32
  let arg11 : BitVec 32 := Scf.iv c0_i32_47 c1_i32_49 k0_t4
  let v334 : BitVec 32 := Scalar.muli c3_i32_161 arg11
  let v335 : Index := Scalar.indexCast v334
  let c1_i32_162 : BitVec 32 := 1#32
  let v336 : Index := Scalar.indexCast c1_i32_162
  let c32_163 : Index := 32#32
  ![v335.toNat, 1, 32]
def k0_off182 (k0_t4 : Fin k0_t4_loop.trips) (c1_i32_165 : BitVec 32) : Fin 3 → Nat :=
  let c3_i32_164 : BitVec 32 := 3#32
  let c0_i32_47 : BitVec 32 := 0#32
  let c1_i32_49 : BitVec 32 := 1#32
  let arg11 : BitVec 32 := Scf.iv c0_i32_47 c1_i32_49 k0_t4
  let v341 : BitVec 32 := Scalar.muli c3_i32_164 arg11
  let v342 : BitVec 32 := Scalar.addi v341 c1_i32_165
  let v343 : Index := Scalar.indexCast v342
  let c1_i32_166 : BitVec 32 := 1#32
  let v344 : Index := Scalar.indexCast c1_i32_166
  let c32_167 : Index := 32#32
  ![v343.toNat, 1, 32]
def k0_off183 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v359 : Index := Scalar.indexCast arg11
  let c160 : Index := 160#32
  ![v359.toNat, 160]
def k0_off184 (k0_t4 : Fin k0_t4_loop.trips) : Fin 3 → Nat :=
  let c3_i32_172 : BitVec 32 := 3#32
  let c0_i32_47 : BitVec 32 := 0#32
  let c1_i32_49 : BitVec 32 := 1#32
  let arg11 : BitVec 32 := Scf.iv c0_i32_47 c1_i32_49 k0_t4
  let v363 : BitVec 32 := Scalar.muli c3_i32_172 arg11
  let v364 : Index := Scalar.indexCast v363
  let c1_i32_173 : BitVec 32 := 1#32
  let v365 : Index := Scalar.indexCast c1_i32_173
  let c48_174 : Index := 48#32
  ![v364.toNat, 1, 48]
def k0_off185 (k0_t4 : Fin k0_t4_loop.trips) (c1_i32_176 : BitVec 32) : Fin 3 → Nat :=
  let c3_i32_175 : BitVec 32 := 3#32
  let c0_i32_47 : BitVec 32 := 0#32
  let c1_i32_49 : BitVec 32 := 1#32
  let arg11 : BitVec 32 := Scf.iv c0_i32_47 c1_i32_49 k0_t4
  let v370 : BitVec 32 := Scalar.muli c3_i32_175 arg11
  let v371 : BitVec 32 := Scalar.addi v370 c1_i32_176
  let v372 : Index := Scalar.indexCast v371
  let c1_i32_177 : BitVec 32 := 1#32
  let v373 : Index := Scalar.indexCast c1_i32_177
  let c48_178 : Index := 48#32
  ![v372.toNat, 1, 48]
def k0_off186 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v388 : Index := Scalar.indexCast arg11
  let c176 : Index := 176#32
  ![v388.toNat, 176]
def k0_off187 (k0_t4 : Fin k0_t4_loop.trips) : Fin 3 → Nat :=
  let c3_i32_183 : BitVec 32 := 3#32
  let c0_i32_47 : BitVec 32 := 0#32
  let c1_i32_49 : BitVec 32 := 1#32
  let arg11 : BitVec 32 := Scf.iv c0_i32_47 c1_i32_49 k0_t4
  let v392 : BitVec 32 := Scalar.muli c3_i32_183 arg11
  let v393 : Index := Scalar.indexCast v392
  let c1_i32_184 : BitVec 32 := 1#32
  let v394 : Index := Scalar.indexCast c1_i32_184
  let c64_185 : Index := 64#32
  ![v393.toNat, 1, 64]
def k0_off188 (k0_t4 : Fin k0_t4_loop.trips) (c1_i32_187 : BitVec 32) : Fin 3 → Nat :=
  let c3_i32_186 : BitVec 32 := 3#32
  let c0_i32_47 : BitVec 32 := 0#32
  let c1_i32_49 : BitVec 32 := 1#32
  let arg11 : BitVec 32 := Scf.iv c0_i32_47 c1_i32_49 k0_t4
  let v399 : BitVec 32 := Scalar.muli c3_i32_186 arg11
  let v400 : BitVec 32 := Scalar.addi v399 c1_i32_187
  let v401 : Index := Scalar.indexCast v400
  let c1_i32_188 : BitVec 32 := 1#32
  let v402 : Index := Scalar.indexCast c1_i32_188
  let c64_189 : Index := 64#32
  ![v401.toNat, 1, 64]
def k0_off189 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v417 : Index := Scalar.indexCast arg11
  let c192 : Index := 192#32
  ![v417.toNat, 192]
def k0_off190 (k0_t4 : Fin k0_t4_loop.trips) : Fin 3 → Nat :=
  let c3_i32_194 : BitVec 32 := 3#32
  let c0_i32_47 : BitVec 32 := 0#32
  let c1_i32_49 : BitVec 32 := 1#32
  let arg11 : BitVec 32 := Scf.iv c0_i32_47 c1_i32_49 k0_t4
  let v421 : BitVec 32 := Scalar.muli c3_i32_194 arg11
  let v422 : Index := Scalar.indexCast v421
  let c1_i32_195 : BitVec 32 := 1#32
  let v423 : Index := Scalar.indexCast c1_i32_195
  let c80_196 : Index := 80#32
  ![v422.toNat, 1, 80]
def k0_off191 (k0_t4 : Fin k0_t4_loop.trips) (c1_i32_198 : BitVec 32) : Fin 3 → Nat :=
  let c3_i32_197 : BitVec 32 := 3#32
  let c0_i32_47 : BitVec 32 := 0#32
  let c1_i32_49 : BitVec 32 := 1#32
  let arg11 : BitVec 32 := Scf.iv c0_i32_47 c1_i32_49 k0_t4
  let v428 : BitVec 32 := Scalar.muli c3_i32_197 arg11
  let v429 : BitVec 32 := Scalar.addi v428 c1_i32_198
  let v430 : Index := Scalar.indexCast v429
  let c1_i32_199 : BitVec 32 := 1#32
  let v431 : Index := Scalar.indexCast c1_i32_199
  let c80_200 : Index := 80#32
  ![v430.toNat, 1, 80]
def k0_off192 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v446 : Index := Scalar.indexCast arg11
  let c208 : Index := 208#32
  ![v446.toNat, 208]
def k0_off193 (k0_t4 : Fin k0_t4_loop.trips) : Fin 3 → Nat :=
  let c3_i32_205 : BitVec 32 := 3#32
  let c0_i32_47 : BitVec 32 := 0#32
  let c1_i32_49 : BitVec 32 := 1#32
  let arg11 : BitVec 32 := Scf.iv c0_i32_47 c1_i32_49 k0_t4
  let v450 : BitVec 32 := Scalar.muli c3_i32_205 arg11
  let v451 : Index := Scalar.indexCast v450
  let c1_i32_206 : BitVec 32 := 1#32
  let v452 : Index := Scalar.indexCast c1_i32_206
  let c96_207 : Index := 96#32
  ![v451.toNat, 1, 96]
def k0_off194 (k0_t4 : Fin k0_t4_loop.trips) (c1_i32_209 : BitVec 32) : Fin 3 → Nat :=
  let c3_i32_208 : BitVec 32 := 3#32
  let c0_i32_47 : BitVec 32 := 0#32
  let c1_i32_49 : BitVec 32 := 1#32
  let arg11 : BitVec 32 := Scf.iv c0_i32_47 c1_i32_49 k0_t4
  let v457 : BitVec 32 := Scalar.muli c3_i32_208 arg11
  let v458 : BitVec 32 := Scalar.addi v457 c1_i32_209
  let v459 : Index := Scalar.indexCast v458
  let c1_i32_210 : BitVec 32 := 1#32
  let v460 : Index := Scalar.indexCast c1_i32_210
  let c96_211 : Index := 96#32
  ![v459.toNat, 1, 96]
def k0_off195 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v475 : Index := Scalar.indexCast arg11
  let c224 : Index := 224#32
  ![v475.toNat, 224]
def k0_off196 (k0_t4 : Fin k0_t4_loop.trips) : Fin 3 → Nat :=
  let c3_i32_216 : BitVec 32 := 3#32
  let c0_i32_47 : BitVec 32 := 0#32
  let c1_i32_49 : BitVec 32 := 1#32
  let arg11 : BitVec 32 := Scf.iv c0_i32_47 c1_i32_49 k0_t4
  let v479 : BitVec 32 := Scalar.muli c3_i32_216 arg11
  let v480 : Index := Scalar.indexCast v479
  let c1_i32_217 : BitVec 32 := 1#32
  let v481 : Index := Scalar.indexCast c1_i32_217
  let c112_218 : Index := 112#32
  ![v480.toNat, 1, 112]
def k0_off197 (k0_t4 : Fin k0_t4_loop.trips) (c1_i32_220 : BitVec 32) : Fin 3 → Nat :=
  let c3_i32_219 : BitVec 32 := 3#32
  let c0_i32_47 : BitVec 32 := 0#32
  let c1_i32_49 : BitVec 32 := 1#32
  let arg11 : BitVec 32 := Scf.iv c0_i32_47 c1_i32_49 k0_t4
  let v486 : BitVec 32 := Scalar.muli c3_i32_219 arg11
  let v487 : BitVec 32 := Scalar.addi v486 c1_i32_220
  let v488 : Index := Scalar.indexCast v487
  let c1_i32_221 : BitVec 32 := 1#32
  let v489 : Index := Scalar.indexCast c1_i32_221
  let c112_222 : Index := 112#32
  ![v488.toNat, 1, 112]
def k0_off198 (k0_t4 : Fin k0_t4_loop.trips) : Fin 2 → Nat :=
  let c0_i32_47 : BitVec 32 := 0#32
  let c1_i32_49 : BitVec 32 := 1#32
  let arg11 : BitVec 32 := Scf.iv c0_i32_47 c1_i32_49 k0_t4
  let v504 : Index := Scalar.indexCast arg11
  let c240 : Index := 240#32
  ![v504.toNat, 240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== InterpReferenceIdeal.lean ====
abbrev S2048x256 : Shape := ⟨2, ![2048, 256]⟩
abbrev S8192x3 : Shape := ⟨2, ![8192, 3]⟩
abbrev S_ : Shape := ⟨0, ![]⟩
abbrev S8192x3x1 : Shape := ⟨3, ![8192, 3, 1]⟩
abbrev S1 : Shape := ⟨1, ![1]⟩
abbrev S1x1x1 : Shape := ⟨3, ![1, 1, 1]⟩
abbrev S8192x3x256 : Shape := ⟨3, ![8192, 3, 256]⟩
abbrev S8192x256 : Shape := ⟨2, ![8192, 256]⟩

abbrev nBuf : Space → Nat
  | .hbm => 31
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8192x3, .i32⟩
  | .hbm, ⟨2, _⟩ => ⟨S8192x3, .f32⟩
  | .hbm, ⟨3, _⟩ => ⟨S_, .i32⟩
  | .hbm, ⟨4, _⟩ => ⟨S8192x3, .i32⟩
  | .hbm, ⟨5, _⟩ => ⟨S8192x3, .i1⟩
  | .hbm, ⟨6, _⟩ => ⟨S_, .i32⟩
  | .hbm, ⟨7, _⟩ => ⟨S8192x3, .i32⟩
  | .hbm, ⟨8, _⟩ => ⟨S8192x3, .i32⟩
  | .hbm, ⟨9, _⟩ => ⟨S8192x3, .i32⟩
  | .hbm, ⟨10, _⟩ => ⟨S8192x3x1, .i32⟩
  | .hbm, ⟨11, _⟩ => ⟨S1, .i32⟩
  | .hbm, ⟨12, _⟩ => ⟨S_, .i32⟩
  | .hbm, ⟨13, _⟩ => ⟨S8192x3x1, .i32⟩
  | .hbm, ⟨14, _⟩ => ⟨S8192x3x1, .i1⟩
  | .hbm, ⟨15, _⟩ => ⟨S1x1x1, .i32⟩
  | .hbm, ⟨16, _⟩ => ⟨S8192x3x1, .i32⟩
  | .hbm, ⟨17, _⟩ => ⟨S8192x3x1, .i1⟩
  | .hbm, ⟨18, _⟩ => ⟨S8192x3x1, .i1⟩
  | .hbm, ⟨19, _⟩ => ⟨S_, .i1⟩
  | .hbm, ⟨20, _⟩ => ⟨S8192x3, .i1⟩
  | .hbm, ⟨21, _⟩ => ⟨S8192x3x256, .f32⟩
  | .hbm, ⟨22, _⟩ => ⟨S8192x3x256, .i1⟩
  | .hbm, ⟨23, _⟩ => ⟨S_, .f32⟩
  | .hbm, ⟨24, _⟩ => ⟨S8192x3x256, .f32⟩
  | .hbm, ⟨25, _⟩ => ⟨S8192x3x256, .f32⟩
  | .hbm, ⟨26, _⟩ => ⟨S8192x3x1, .f32⟩
  | .hbm, ⟨27, _⟩ => ⟨S8192x3x256, .f32⟩
  | .hbm, ⟨28, _⟩ => ⟨S8192x3x256, .f32⟩
  | .hbm, ⟨29, _⟩ => ⟨S_, .f32⟩
  | .hbm, ⟨30, _⟩ => ⟨S8192x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Trip.lean ====
/-
  One trip of the task's loop over the queries of a chunk, written once. The kernel's body has the loop over a chunk's
  64 queries four times, each trip unrolled into sixteen groups of sixteen columns; `trip` is that text as a counted
  list of groups, `chunk` a chunk's text around it, and `body_eq` says that the printed body is four chunks.
-/
module

public import proofs.«01_k».proof.Proof.Gen.InterpIdeal.Skeleton

@[expose] public section

noncomputable section

namespace Cert.Proof.Sc

open Cert.InterpIdeal Cert.InterpIdeal.Gen
open Idealize.ShloMosaic Idealize.SL.Sem

variable {F : FTy → Type} [FloatOps F]

/-- The first of query `k`'s three rows in the chunk's gathered rows, as the kernel computes it. -/
abbrev qRow (k : ℕ) : BitVec 32 := Scalar.muli 3#32 (Scf.iv 0#32 1#32 k)

/-- Where group `tt` of row `3 k`, of row `3 k + r`, and of the result's row `k` begin. -/
abbrev offA (k tt : ℕ) : Fin 3 → ℕ := ![(Scalar.indexCast (qRow k)).toNat, tt / 8, 16 * (tt % 8)]
abbrev offB (k : ℕ) (r : BitVec 32) (tt : ℕ) : Fin 3 → ℕ :=
  ![(Scalar.indexCast (Scalar.addi (qRow k) r)).toNat, tt / 8, 16 * (tt % 8)]
abbrev offC (k tt : ℕ) : Fin 2 → ℕ := ![(Scalar.indexCast (Scf.iv 0#32 1#32 k)).toNat, 16 * tt]

theorem iv_toNat {k : ℕ} (hk : k < 64) : (Scf.iv 0#32 1#32 k).toNat = k := by
  simp only [Scf.iv]
  bv_omega

theorem qRow_toNat {k : ℕ} (hk : k < 64) : (qRow k).toNat = 3 * k := by
  have := iv_toNat hk
  simp only [qRow, Scalar.muli, IntOp.muli]
  bv_omega

theorem qRowB_toNat {k : ℕ} (hk : k < 64) (r : BitVec 32) (hr : r.toNat < 3) : (Scalar.addi (qRow k) r).toNat = 3 * k + r.toNat := by
  have := qRow_toNat hk
  simp only [Scalar.addi, IntOp.addi]
  bv_omega

theorem offA_inb {k tt : ℕ} (hk : k < 64) (ht : tt < 16) : ∀ a, offA k tt a + S1x1x16.size a ≤ S192x2x128.size a := by
  have := qRow_toNat hk
  intro a; fin_cases a
  · show (qRow k).toNat + 1 ≤ 192; omega
  · show tt / 8 + 1 ≤ 2; omega
  · show 16 * (tt % 8) + 16 ≤ 128; omega

theorem offB_inb {k tt : ℕ} (hk : k < 64) (r : BitVec 32) (hr : r.toNat < 3) (ht : tt < 16) :
    ∀ a, offB k r tt a + S1x1x16.size a ≤ S192x2x128.size a := by
  have := qRowB_toNat hk r hr
  intro a; fin_cases a
  · show (Scalar.addi (qRow k) r).toNat + 1 ≤ 192; omega
  · show tt / 8 + 1 ≤ 2; omega
  · show 16 * (tt % 8) + 16 ≤ 128; omega

theorem offC_inb {k tt : ℕ} (hk : k < 64) (ht : tt < 16) : ∀ a, offC k tt a + S1x16.size a ≤ S64x256.size a := by
  have := iv_toNat hk
  intro a; fin_cases a
  · show (Scf.iv 0#32 1#32 k).toNat + 1 ≤ 64; omega
  · show 16 * tt + 16 ≤ 256; omega

theorem offW_inb {k : ℕ} (hk : k < 64) : ∀ a, (![(Scalar.indexCast (qRow k)).toNat] : Fin 1 → ℕ) a + S16.size a ≤ S208.size a := by
  have := qRow_toNat hk
  intro a; fin_cases a
  show (qRow k).toNat + 16 ≤ 208; omega

/-- The sixteen sums a group stores: three weights times three groups of sixteen entries, added in order. -/
def mix (w0 w1 w2 : F .f32) (r0 r1 r2 : Vec F S1x1x16 .f32) : FVec F S1x16 .f32 :=
  shapeCast S1x16
    (addf (addf (mulf (broadcast S16 w0) (shapeCast S16 r0 shapeCasts_S1x1x16_S16 : FVec F S16 .f32))
        (mulf (broadcast S16 w1) (shapeCast S16 r1 shapeCasts_S1x1x16_S16 : FVec F S16 .f32)))
      (mulf (broadcast S16 w2) (shapeCast S16 r2 shapeCasts_S1x1x16_S16 : FVec F S16 .f32)) : FVec F S16 .f32)
    shapeCasts_S16_S1x16

/-- The effects of a task's body on one vector subcore. -/
abbrev Eff (F : FTy → Type) (i : grid0.Coords) : Type → Type :=
  TpuEff nD τ sig (Elt F) Λ₀ (.scVector ((i 0).castLE hcore0) ((i 1).castLE hsub0))

section Text

variable (i : grid0.Coords) (aw : Memref sig .scVector .vmem S208 .f32) (ar : Memref sig .scVector .vmem S192x2x128 .f32)
  (ao : Memref sig .scVector .vmem S64x256 .f32)

/-- The groups from `tt` on of query `k`'s row. -/
def groups (k : ℕ) (hk : k < 64) (w0 w1 w2 : F .f32) : (n tt : ℕ) → tt + n = 16 → Prog (Eff F i) (BitVec 32)
  | 0, _, _ => pure 0#32
  | n + 1, tt, h => do
    let r0 : Vec F S1x1x16 .f32 ← Prog.lift (.load ar (Rect.unit (s := S192x2x128) (offA k tt) S1x1x16.size (offA_inb hk (by omega))).toLoadRect (View.loadsAt_vmem h_S1x1x16))
    let r1 : Vec F S1x1x16 .f32 ← Prog.lift (.load ar (Rect.unit (s := S192x2x128) (offB k 1#32 tt) S1x1x16.size (offB_inb hk _ (by decide) (by omega))).toLoadRect (View.loadsAt_vmem h_S1x1x16))
    let r2 : Vec F S1x1x16 .f32 ← Prog.lift (.load ar (Rect.unit (s := S192x2x128) (offB k 2#32 tt) S1x1x16.size (offB_inb hk _ (by decide) (by omega))).toLoadRect (View.loadsAt_vmem h_S1x1x16))
    let _ : Vec F S1x16 .f32 ← Prog.lift (.load ao (Rect.unit (s := S64x256) (offC k tt) S1x16.size (offC_inb hk (by omega))).toLoadRect (View.loadsAt_vmem h_S1x16))
    Prog.lift (.store ao (Rect.unit (s := S64x256) (offC k tt) S1x16.size (offC_inb hk (by omega))) (mix w0 w1 w2 r0 r1 r2) Finset.univ (View.stores_vmem_bits_univ h_S1x16 rfl) (.inl rfl))
    groups k hk w0 w1 w2 n (tt + 1) (by omega)

/-- The trip for query `k`: its sixteen weights loaded, the first three taken, the sixteen groups of its row. -/
def trip (k : ℕ) (hk : k < 64) : Prog (Eff F i) (BitVec 32) := do
  let w : Vec F S16 .f32 ← Prog.lift (.load aw (Rect.unit (s := S208) ![(Scalar.indexCast (qRow k)).toNat] S16.size (offW_inb hk)).toLoadRect (View.loadsAt_vmem h_S16))
  groups i ar ao k hk (k0_pay3 w) (k0_pay4 w) (k0_pay5 w) 16 0 rfl

end Text

section Eqs

variable (i : grid0.Coords) (arg2 : Memref sig .scVector .hbm S2048x2x128 .f32) (harg2 : arg2.IsWhole) (arg3 : Memref sig .scVector .hbm S24576 .i32) (harg3 : arg3.IsWhole) (arg4 : Memref sig .scVector .hbm S24576 .f32) (harg4 : arg4.IsWhole) (arg5 : Memref sig .scVector .hbm S8192x256 .f32) (harg5 : arg5.IsWhole) (arg6 : Memref sig .scVector .vmem S192 .i32) (harg6 : arg6.IsWhole) (arg7 : Memref sig .scVector .vmem S208 .f32) (harg7 : arg7.IsWhole) (arg8 : Memref sig .scVector .vmem S192x2x128 .f32) (harg8 : arg8.IsWhole) (arg9 : Memref sig .scVector .vmem S64x256 .f32) (harg9 : arg9.IsWhole) (arg10 s0 s1 s2 s3 s4 s5 s6 s7 s8 s9 s10 s11 : DmaSems sig S_)

set_option maxRecDepth 65536

/-- Each of the four loops makes 64 trips. -/
theorem trips_eq : k0_t1_loop.trips = 64 := by decide +kernel

/-- One chunk of a task: the chunk's indices and weights fetched, the rows the indices name gathered, the 64 trips, the
    chunk's 64 rows written out. The four chunks of the printed body are this text at `c = 0, 1, 2, 3`, each with three
    semaphores of its own; what a chunk returns is an index the rest does not use. -/
def chunk {α : Type} (c : Fin 4) (sA sB sC : DmaSems sig S_) (ret : α) : Prog (Eff F i) α := do
  let v36 : Memref sig .scVector .hbm S192 .i32 := arg3.slice (Rect.unit (s := S24576) (k0_off1 i (BitVec.ofNat 32 (192 * c.val))) S192.size (k0_off1_inb i c)) (fun _ => rfl)
  Prog.lift (.enqueueDma v36 (.here arg6) (.dma sA.sem) (View.wordExact_bits rfl) harg6.wordExact ⟨Or.inl rfl, trivial⟩)
  Prog.lift (.waitDma2 sA.sem v36 arg6 (View.wordExact_bits rfl) harg6.wordExact)
  let v37 : Memref sig .scVector .vmem S192 .f32 := arg7.slice (Rect.unit (s := S208) ![0] S192.size inb_S208_S192_0) (fun _ => rfl)
  let v38 : Memref sig .scVector .hbm S192 .f32 := arg4.slice (Rect.unit (s := S24576) (k0_off1 i (BitVec.ofNat 32 (192 * c.val))) S192.size (k0_off1_inb i c)) (fun _ => rfl)
  Prog.lift (.enqueueDma v38 (.here v37) (.dma sB.sem) (View.wordExact_bits rfl) (View.wordExact_bits rfl) ⟨Or.inl rfl, trivial⟩)
  Prog.lift (.waitDma2 sB.sem v38 v37 (View.wordExact_bits rfl) (View.wordExact_bits rfl))
  let v6 : Memref sig .scVector .hbm S2048x2x128 .f32 := arg2.slice (Rect.unit (s := S2048x2x128) ![0, 0, 0] S2048x2x128.size inb_S2048x2x128_S2048x2x128_0_0_0) (fun _ => rfl)
  SparseCore.enqueueIndirectGather rfl v6 arg8 gathers_S2048x2x128_S192x2x128 arg6 rfl arg10.sem (View.wordExact_bits rfl) rfl (Or.inl rfl)
  SparseCore.waitIndirectGather arg10.sem v6 arg8 (View.wordExact_bits rfl) harg8.wordExact
  let _ : BitVec 32 ← Scf.Loop.for k0_t1_loop k0_t1_ok 0#32 fun k _ => trip i arg7 arg8 arg9 k.val (lt_of_lt_of_eq k.isLt trips_eq)
  let v39 : Memref sig .scVector .hbm S64x256 .f32 := arg5.slice (Rect.unit (s := S8192x256) (k0_off51 i (BitVec.ofNat 32 (64 * c.val))) S64x256.size (k0_off51_inb i c)) (fun _ => rfl)
  Prog.lift (.enqueueDma arg9 (.here v39) (.dma sC.sem) harg9.wordExact (View.wordExact_bits rfl) ⟨Or.inl rfl, trivial⟩)
  Prog.lift (.waitDma2 sC.sem arg9 v39 harg9.wordExact (View.wordExact_bits rfl))
  pure ret

/-- The task's body is its four chunks, one after another. -/
theorem body_eq :
    cc0__sc_interp (F := F) i arg2 harg2 arg3 harg3 arg4 harg4 arg5 harg5 arg6 harg6 arg7 harg7 arg8 harg8 arg9 harg9 arg10 s0 s1 s2 s3 s4 s5 s6 s7 s8 s9 s10 s11
      = (chunk i arg2 arg3 arg4 arg5 arg6 harg6 arg7 arg8 harg8 arg9 harg9 arg10 0 s0 s1 s2 (Scalar.addi (Scalar.muli (BitVec.ofNat 32 (i 1).val) 2#32) (BitVec.ofNat 32 (i 0).val)) >>= fun _ =>
          chunk i arg2 arg3 arg4 arg5 arg6 harg6 arg7 arg8 harg8 arg9 harg9 arg10 1 s3 s4 s5 256#32 >>= fun _ =>
          chunk i arg2 arg3 arg4 arg5 arg6 harg6 arg7 arg8 harg8 arg9 harg9 arg10 2 s6 s7 s8 PUnit.unit >>= fun _ =>
          chunk i arg2 arg3 arg4 arg5 arg6 harg6 arg7 arg8 harg8 arg9 harg9 arg10 3 s9 s10 s11 PUnit.unit) := rfl

end Eqs

end Cert.Proof.Sc

end
-- ==== Proof.Steps.lean ====
/-
  What one trip of a chunk's loop does to the memory. `xiRow` is the value of one entry of the chunk's result: the
  weighted sum of three gathered entries. `groups_wp` runs the groups of one query's row one after another, by
  induction on how many are left; `trip_wp` is a whole trip.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.VecWindow

@[expose] public section

noncomputable section

namespace Cert.Proof.Sc

open Cert.InterpIdeal Cert.InterpIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters
local notation "𝕄" => MT nD τ sig (HIx 1) (Elt F) ℕ UU ℕ

abbrev 𝒱₀ : Variants := Variants.none

local notation "wV" => (Memref.whole Cert.InterpIdeal.cc0_scratch1 : Memref Cert.InterpIdeal.sig Kind.scVector Space.vmem Cert.InterpIdeal.S208 EltTy.f32)
local notation "rV" => (Memref.whole Cert.InterpIdeal.cc0_scratch2 : Memref Cert.InterpIdeal.sig Kind.scVector Space.vmem Cert.InterpIdeal.S192x2x128 EltTy.f32)
local notation "yV" => (Memref.whole Cert.InterpIdeal.cc0_scratch3 : Memref Cert.InterpIdeal.sig Kind.scVector Space.vmem Cert.InterpIdeal.S64x256 EltTy.f32)

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A place of the gathered rows. -/
def ix3 (a b c : ℕ) (ha : a < 192) (hb : b < 2) (hc : c < 128) : S192x2x128.Idx := fun x =>
  ⟨![a, b, c] x, by fin_cases x <;> assumption⟩

/-- A place of the weights. -/
def ix1 (a : ℕ) (ha : a < 208) : S208.Idx := fun x => ⟨![a] x, by fin_cases x; exact ha⟩

/-- The gathered row `r` of query `j 0`, at column `j 1`. -/
def gath (j : S64x256.Idx) (r : ℕ) (hr : r < 3) : S192x2x128.Idx :=
  ix3 (3 * (j 0).val + r) ((j 1).val / 128) ((j 1).val % 128) (by have : (j 0).val < 64 := (j 0).isLt; omega)
    (by have : (j 1).val < 256 := (j 1).isLt; omega) (Nat.mod_lt _ (by decide))

/-- The weight `r` of query `j 0`. -/
def wgt (j : S64x256.Idx) (r : ℕ) (hr : r < 3) : S208.Idx :=
  ix1 (3 * (j 0).val + r) (by have : (j 0).val < 64 := (j 0).isLt; omega)

/-- One entry of a chunk's result: the weighted sum of the three gathered entries, added in order. -/
def xiRow (fw : S208.Idx → F .f32) (fr : S192x2x128.Idx → F .f32) (j : S64x256.Idx) : F .f32 :=
  FloatOps.addf (FloatOps.addf (FloatOps.mulf (fw (wgt j 0 (by decide))) (fr (gath j 0 (by decide))))
      (FloatOps.mulf (fw (wgt j 1 (by decide))) (fr (gath j 1 (by decide)))))
    (FloatOps.mulf (fw (wgt j 2 (by decide))) (fr (gath j 2 (by decide))))

theorem cast_in (r : Vec F S1x1x16 .f32) (y : S16.Idx) (x : S1x1x16.Idx) (hx : (x 2).val = (y 0).val) :
    shapeCast S16 r shapeCasts_S1x1x16_S16 y = r x := by
  refine shapeCast_apply r _ y x ?_
  have h0 : (x 0).val < 1 := (x 0).isLt
  have h1 : (x 1).val < 1 := (x 1).isLt
  refine (Shape.rowMajor_val_three (d := ![1, 1, 16]) x).trans ((?_ : _ = (y 0).val).trans (Shape.rowMajor_val_one (d := ![16]) y).symm)
  show ((x 0).val * 1 + (x 1).val) * 16 + (x 2).val = _
  omega

theorem mix_apply (w0 w1 w2 : F .f32) (r0 r1 r2 : Vec F S1x1x16 .f32) (x : S1x16.Idx) (y : S1x1x16.Idx) (hy : (y 2).val = (x 1).val) :
    mix w0 w1 w2 r0 r1 r2 x = FloatOps.addf (FloatOps.addf (FloatOps.mulf w0 (r0 y)) (FloatOps.mulf w1 (r1 y))) (FloatOps.mulf w2 (r2 y)) := by
  unfold mix
  rw [shapeCast_apply _ _ x (fun a => ⟨![(x 1).val] a, by fin_cases a; exact (x 1).isLt⟩ : S16.Idx) (by
    have h0 : (x 0).val < 1 := (x 0).isLt
    refine (Shape.rowMajor_val_one (d := ![16]) _).trans ((?_ : (x 1).val = _).trans (Shape.rowMajor_val_two (d := ![1, 16]) x).symm)
    show (x 1).val = (x 0).val * 16 + (x 1).val
    omega)]
  show FloatOps.addf (FloatOps.addf (FloatOps.mulf w0 (shapeCast S16 r0 _ _)) (FloatOps.mulf w1 (shapeCast S16 r1 _ _))) (FloatOps.mulf w2 (shapeCast S16 r2 _ _)) = _
  rw [cast_in r0 _ y hy, cast_in r1 _ y hy, cast_in r2 _ y hy]

/-- The result buffer holds the rows before `k`, and of row `k` the columns before `c`. -/
def Done (t g : S64x256.Idx → F .f32) (k c : ℕ) : Prop :=
  ∀ j : S64x256.Idx, ((j 0).val < k ∨ ((j 0).val = k ∧ (j 1).val < c)) → g j = t j

theorem done_step {fw : S208.Idx → F .f32} {fr : S192x2x128.Idx → F .f32} {g : S64x256.Idx → F .f32} {k tt : ℕ} (hk : k < 64) (ht : tt < 16)
    (hg : Done (xiRow fw fr) g k (16 * tt)) {w0 w1 w2 : F .f32} (hw0 : w0 = fw (ix1 (3 * k) (by omega)))
    (hw1 : w1 = fw (ix1 (3 * k + 1) (by omega))) (hw2 : w2 = fw (ix1 (3 * k + 2) (by omega))) :
    Done (xiRow fw fr) ((yV).view.writes (Elt F) g [⟨Rect.unit (s := S64x256) (offC k tt) S1x16.size (offC_inb hk ht),
      mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr)⟩])
      k (16 * (tt + 1)) := by
  intro j hj
  have hiv := iv_toNat hk
  have hq := qRow_toNat hk
  by_cases hin : (j 0).val = k ∧ 16 * tt ≤ (j 1).val
  · obtain ⟨h0, h1⟩ := hin
    have h2 : (j 1).val < 16 * (tt + 1) := by omega
    have e := View.read_writes_cons_hit_of_coords (Val := Elt F) (yV).view g (Rect.unit (s := S64x256) (offC k tt) S1x16.size (offC_inb hk ht))
      (mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr))
      [] (fun a => ⟨![0, (j 1).val - 16 * tt] a, by fin_cases a <;> [exact Nat.one_pos; (show (j 1).val - 16 * tt < 16; omega)]⟩) j
      (by
        intro a; fin_cases a
        · show (j 0).val = (Scf.iv 0#32 1#32 k).toNat + 1 * 0; omega
        · show (j 1).val = 16 * tt + 1 * ((j 1).val - 16 * tt); omega)
    refine Eq.trans e ?_
    rw [mix_apply _ _ _ _ _ _ _ (fun a => ⟨![0, 0, (j 1).val - 16 * tt] a, by fin_cases a <;> [exact Nat.one_pos; exact Nat.one_pos; (show (j 1).val - 16 * tt < 16; omega)]⟩) rfl]
    subst hw0 hw1 hw2
    refine congrArg₂ _ (congrArg₂ _ (congrArg₂ _ (congrArg fw ?_) (congrArg fr ?_)) (congrArg₂ _ (congrArg fw ?_) (congrArg fr ?_)))
      (congrArg₂ _ (congrArg fw ?_) (congrArg fr ?_))
    all_goals
      funext a
      apply Fin.ext
      fin_cases a
    · show 3 * k = 3 * (j 0).val + 0; omega
    · show (qRow k).toNat + 1 * 0 = 3 * (j 0).val + 0; omega
    · show tt / 8 + 1 * 0 = (j 1).val / 128; omega
    · show 16 * (tt % 8) + 1 * ((j 1).val - 16 * tt) = (j 1).val % 128; omega
    · show 3 * k + 1 = 3 * (j 0).val + 1; omega
    · show (Scalar.addi (qRow k) 1#32).toNat + 1 * 0 = 3 * (j 0).val + 1
      rw [qRowB_toNat hk _ (by decide)]; show 3 * k + 1 + 1 * 0 = _; omega
    · show tt / 8 + 1 * 0 = (j 1).val / 128; omega
    · show 16 * (tt % 8) + 1 * ((j 1).val - 16 * tt) = (j 1).val % 128; omega
    · show 3 * k + 2 = 3 * (j 0).val + 2; omega
    · show (Scalar.addi (qRow k) 2#32).toNat + 1 * 0 = 3 * (j 0).val + 2
      rw [qRowB_toNat hk _ (by decide)]; show 3 * k + 2 + 1 * 0 = _; omega
    · show tt / 8 + 1 * 0 = (j 1).val / 128; omega
    · show 16 * (tt % 8) + 1 * ((j 1).val - 16 * tt) = (j 1).val % 128; omega
  · have e := View.read_writes_cons_miss (Val := Elt F) (yV).view g ⟨Rect.unit (s := S64x256) (offC k tt) S1x16.size (offC_inb hk ht),
      (mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr))⟩
      [] j (by
        by_cases h0 : (j 0).val = k
        · refine Rect.not_mem_set_of_axis _ j 1 (16 * tt) 16 rfl rfl rfl (Or.inl (by omega))
        · refine Rect.not_mem_set_of_axis _ j 0 k 1 hiv rfl rfl ?_
          omega)
    refine Eq.trans e ?_
    exact hg j (by omega)

theorem groups_wp (k : ℕ) (hk : k < 64) (w0 w1 w2 : F .f32) (fw : S208.Idx → F .f32) (fr : Buf (Elt F) ((rV).view.loc (thr d L)))
    (hw0 : w0 = fw (ix1 (3 * k) (by omega))) (hw1 : w1 = fw (ix1 (3 * k + 1) (by omega))) (hw2 : w2 = fw (ix1 (3 * k + 2) (by omega))) :
    ∀ (n tt : ℕ) (h : tt + n = 16) (g : Buf (Elt F) ((yV).view.loc (thr d L))) (hg : Done (xiRow fw fr) g k (16 * tt)),
    iprop(((rV).view.loc (thr d L) ↦{fullShare} fr) ∗ ((yV).view.loc (thr d L) ↦{fullShare} g))
      ⊢ (wp frame (wpE (defs₀ (F := F)) 𝒱₀ (thr d L) none) Set.univ (groups L rV yV k hk w0 w1 w2 n tt h)
          fun _ => iprop(((rV).view.loc (thr d L) ↦{fullShare} fr) ∗ ∃ g' : Buf (Elt F) ((yV).view.loc (thr d L)), ⌜Done (xiRow fw fr) g' (k + 1) 0⌝ ∗ ((yV).view.loc (thr d L) ↦{fullShare} g')) : sProp 𝕄) := by
  intro n
  induction n with
  | zero =>
    intro tt h g hg
    unfold groups
    iintro ⟨Hr, Hy⟩
    sl_step
    isplitl [Hr]; · iexact Hr
    iexists g; isplit
    · ipureintro
      intro j hj
      have : (j 1).val < 256 := (j 1).isLt
      exact hg j (by omega)
    iexact Hy
  | succ n ih =>
    intro tt h g hg
    have hstep := done_step hk (by omega : tt < 16) hg hw0 hw1 hw2
    unfold groups
    iintro ⟨Hr, Hy⟩
    sl_exec
    isplitl [Hgroups_0]; · iexact Hgroups_0
    iexists g'groups_0
    isplit; · ipureintro; exact hgroups_1
    iexact Hgroups_2

theorem trip_wp (k : ℕ) (hk : k < 64) (fw : Buf (Elt F) ((wV).view.loc (thr d L))) (fr : Buf (Elt F) ((rV).view.loc (thr d L)))
    (g : Buf (Elt F) ((yV).view.loc (thr d L))) (hg : Done (xiRow fw fr) g k 0) :
    iprop(((wV).view.loc (thr d L) ↦{fullShare} fw) ∗ ((rV).view.loc (thr d L) ↦{fullShare} fr) ∗ ((yV).view.loc (thr d L) ↦{fullShare} g))
      ⊢ (wp frame (wpE (defs₀ (F := F)) 𝒱₀ (thr d L) none) Set.univ (trip L wV rV yV k hk)
          fun _ => iprop(((wV).view.loc (thr d L) ↦{fullShare} fw) ∗ ((rV).view.loc (thr d L) ↦{fullShare} fr) ∗ ∃ g' : Buf (Elt F) ((yV).view.loc (thr d L)), ⌜Done (xiRow fw fr) g' (k + 1) 0⌝ ∗ ((yV).view.loc (thr d L) ↦{fullShare} g')) : sProp 𝕄) := by
  have hq := qRow_toNat hk
  have h0 : k0_pay3 ((wV).view.readAt (Elt F) (Rect.unit (s := S208) ![(Scalar.indexCast (qRow k)).toNat] S16.size (offW_inb hk)).toLoadRect fw) = fw (ix1 (3 * k) (by omega)) := by
    unfold k0_pay3 k0_pay2
    rw [shapeCast_self]
    refine congrArg fw (funext fun a => Fin.ext ?_)
    fin_cases a
    show (qRow k).toNat + 1 * (0 + 0) = 3 * k
    omega
  have h1 : k0_pay4 ((wV).view.readAt (Elt F) (Rect.unit (s := S208) ![(Scalar.indexCast (qRow k)).toNat] S16.size (offW_inb hk)).toLoadRect fw) = fw (ix1 (3 * k + 1) (by omega)) := by
    unfold k0_pay4 k0_pay2
    rw [shapeCast_self]
    refine congrArg fw (funext fun a => Fin.ext ?_)
    fin_cases a
    show (qRow k).toNat + 1 * (1 + 0) = 3 * k + 1
    omega
  have h2 : k0_pay5 ((wV).view.readAt (Elt F) (Rect.unit (s := S208) ![(Scalar.indexCast (qRow k)).toNat] S16.size (offW_inb hk)).toLoadRect fw) = fw (ix1 (3 * k + 2) (by omega)) := by
    unfold k0_pay5 k0_pay2
    rw [shapeCast_self]
    refine congrArg fw (funext fun a => Fin.ext ?_)
    fin_cases a
    show (qRow k).toNat + 1 * (2 + 0) = 3 * k + 2
    omega
  have hgr := groups_wp d L k hk _ _ _ fw fr h0 h1 h2 16 0 rfl
  unfold trip
  iintro ⟨Hw, Hr, Hy⟩
  sl_exec
  isplitl [Hw]; · iexact Hw
  isplitl [Hgroups_0]; · iexact Hgroups_0
  iexists g'groups_0
  isplit; · ipureintro; exact hgroups_1
  iexact Hgroups_2

/-- What a chunk's loop holds between its trips: the weights and the gathered rows, and the result's first `k` rows done. -/
def LInv (fw : Buf (Elt F) ((wV).view.loc (thr d L))) (fr : Buf (Elt F) ((rV).view.loc (thr d L))) (k : ℕ) (_ : BitVec 32) : sProp 𝕄 :=
  iprop(((wV).view.loc (thr d L) ↦{fullShare} fw) ∗ ((rV).view.loc (thr d L) ↦{fullShare} fr) ∗ ∃ g : Buf (Elt F) ((yV).view.loc (thr d L)), ⌜Done (xiRow fw fr) g k 0⌝ ∗ ((yV).view.loc (thr d L) ↦{fullShare} g))

theorem loop_trip (fw : Buf (Elt F) ((wV).view.loc (thr d L))) (fr : Buf (Elt F) ((rV).view.loc (thr d L))) (k : Fin k0_t1_loop.trips) (acc : BitVec 32) :
    LInv d L fw fr k.val acc ⊢ (wp frame (wpE (defs₀ (F := F)) 𝒱₀ (thr d L) none) Set.univ (trip L wV rV yV k.val (lt_of_lt_of_eq k.isLt trips_eq)) (LInv d L fw fr (k.val + 1)) : sProp 𝕄) := by
  unfold LInv
  iintro ⟨Hw, Hr, %g, %hg, Hy⟩
  iapply (trip_wp d L k.val (lt_of_lt_of_eq k.isLt trips_eq) fw fr g hg)
  isplitl [Hw]; · iexact Hw
  isplitl [Hr]; · iexact Hr
  iexact Hy

end Cert.Proof.Sc

end
-- ==== Proof.Chunk.lean ====
/-
  One chunk of a task, with values: the chunk's indices and weights arrive, the rows the indices name are gathered,
  the loop fills the result rows (`Steps.lean`), the result rows go out to the chunk's block of the output array.
-/
module

public import proofs.«01_k».proof.Proof.Steps
public import Idealize.ShloMosaic.Lib.SparseCore.FromWhole

@[expose] public section

noncomputable section

namespace Cert.Proof.Sc

open Cert.InterpIdeal Cert.InterpIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.InterpIdeal.main_v0_scv : Memref Cert.InterpIdeal.sig Kind.scVector Space.hbm Cert.InterpIdeal.S2048x2x128 EltTy.f32)
local notation "iV" => (Memref.whole Cert.InterpIdeal.main_v1_scv : Memref Cert.InterpIdeal.sig Kind.scVector Space.hbm Cert.InterpIdeal.S24576 EltTy.i32)
local notation "nV" => (Memref.whole Cert.InterpIdeal.main_v2_scv : Memref Cert.InterpIdeal.sig Kind.scVector Space.hbm Cert.InterpIdeal.S24576 EltTy.f32)
local notation "oV" => (Memref.whole Cert.InterpIdeal.main_v3_scv : Memref Cert.InterpIdeal.sig Kind.scVector Space.hbm Cert.InterpIdeal.S8192x256 EltTy.f32)
local notation "sV" => (Memref.whole Cert.InterpIdeal.cc0_scratch0 : Memref Cert.InterpIdeal.sig Kind.scVector Space.vmem Cert.InterpIdeal.S192 EltTy.i32)
local notation "wV" => (Memref.whole Cert.InterpIdeal.cc0_scratch1 : Memref Cert.InterpIdeal.sig Kind.scVector Space.vmem Cert.InterpIdeal.S208 EltTy.f32)
local notation "rV" => (Memref.whole Cert.InterpIdeal.cc0_scratch2 : Memref Cert.InterpIdeal.sig Kind.scVector Space.vmem Cert.InterpIdeal.S192x2x128 EltTy.f32)
local notation "yV" => (Memref.whole Cert.InterpIdeal.cc0_scratch3 : Memref Cert.InterpIdeal.sig Kind.scVector Space.vmem Cert.InterpIdeal.S64x256 EltTy.f32)

variable (d : Dev nD) (L : grid0.Coords)

/-- The block of the output array that chunk `c` of task `L` writes, as the task addresses it. -/
abbrev oChunk (L : grid0.Coords) (c : Fin 4) : Memref sig .scVector .hbm S64x256 .f32 :=
  (oV).slice (Rect.unit (s := S8192x256) (k0_off51 L (BitVec.ofNat 32 (64 * c.val))) S64x256.size (k0_off51_inb L c)) (fun _ => rfl)
/-- The chunk's indices, and its weights. -/
abbrev iChunk (L : grid0.Coords) (c : Fin 4) : Memref sig .scVector .hbm S192 .i32 :=
  (iV).slice (Rect.unit (s := S24576) (k0_off1 L (BitVec.ofNat 32 (192 * c.val))) S192.size (k0_off1_inb L c)) (fun _ => rfl)
abbrev nChunk (L : grid0.Coords) (c : Fin 4) : Memref sig .scVector .hbm S192 .f32 :=
  (nV).slice (Rect.unit (s := S24576) (k0_off1 L (BitVec.ofNat 32 (192 * c.val))) S192.size (k0_off1_inb L c)) (fun _ => rfl)
/-- The table as the task addresses it. -/
abbrev xAll : Memref sig .scVector .hbm S2048x2x128 .f32 :=
  (xV).slice (Rect.unit (s := S2048x2x128) ![0, 0, 0] S2048x2x128.size inb_S2048x2x128_S2048x2x128_0_0_0) (fun _ => rfl)
/-- The part of the weight scratch that the chunk's weights fill. -/
abbrev wPart : Memref sig .scVector .vmem S192 .f32 :=
  (wV).slice (Rect.unit (s := S208) ![0] S192.size inb_S208_S192_0) (fun _ => rfl)

theorem ret_bind_eq {E : Type → Type} {α β : Type} (a : α) (k : α → Prog E β) : (Prog.ret a).bind k = k a := rfl

theorem inb_idx (c : Fin 4) (fi : Buf (Elt F) ((iV).view.loc (thr d L))) (hfi : ∀ j : S24576.Idx, (fi j : BitVec 32).toNat < 2048)
    (fs : Buf (Elt F) ((sV).view.loc (thr d L))) (pay : S192.Idx → Elt F .i32) (hpay : pay = (iChunk L c).view.read (Elt F) fi) :
    ∀ x, ((sV).view.read (Elt F) (View.write (Elt F) (sV).view fs pay Finset.univ) x).toNat < S2048x2x128.size gathers_S2048x2x128_S192x2x128.axis := by
  subst hpay; intro x
  rw [View.write_whole_univ]
  simp only [Memref.view_whole, View.read_whole]
  rw [show ∀ j, (iChunk L c).view.read (Elt F) fi j = fi ((iChunk L c).view.emb j) from fun j => (View.read_apply _ _).trans (cast_eq _ _)]
  exact hfi _

/-- What the weight scratch holds after the chunk's weights have arrived, and the row scratch after the gather. -/
def wLand (c : Fin 4) (fn : Buf (Elt F) ((nV).view.loc (thr d L))) (fw : Buf (Elt F) ((wV).view.loc (thr d L))) : Buf (Elt F) ((wV).view.loc (thr d L)) :=
  (wV).view.writes (Elt F) fw [⟨Rect.unit (s := S208) ![0] S192.size inb_S208_S192_0, (nChunk L c).view.read (Elt F) fn⟩]

def rLand (c : Fin 4) (fx : Buf (Elt F) ((xV).view.loc (thr d L))) (fi : Buf (Elt F) ((iV).view.loc (thr d L))) (hfi : ∀ j : S24576.Idx, (fi j : BitVec 32).toNat < 2048)
    (fs : Buf (Elt F) ((sV).view.loc (thr d L))) (fr : Buf (Elt F) ((rV).view.loc (thr d L))) : Buf (Elt F) ((rV).view.loc (thr d L)) :=
  View.write (Elt F) (rV).view fr
      (SparseCore.gatherPayload gathers_S2048x2x128_S192x2x128 (xAll.view.read (Elt F) fx)
        (SparseCore.rows ((sV).view.read (Elt F) (View.write (Elt F) (sV).view fs ((iChunk L c).view.read (Elt F) fi) Finset.univ)) rfl
          (inb_idx d L c fi hfi fs _ rfl))) Finset.univ

/-- A place of the table's column `b` of row `a`, and a place of the index and weight lists. -/
def ixX (a b : ℕ) (ha : a < 2048) (hb : b < 256) : S2048x2x128.Idx := fun x =>
  ⟨![a, b / 128, b % 128] x, by
    fin_cases x
    · exact ha
    · show b / 128 < 2; omega
    · exact Nat.mod_lt _ (by decide)⟩
def ixN (a : ℕ) (ha : a < 24576) : S24576.Idx := fun x => ⟨![a] x, by fin_cases x; exact ha⟩

/-- One term of an interpolated entry: the weight `r` of query `j 0`, times the entry of the row its index names. -/
def xiTerm (fx : S2048x2x128.Idx → F .f32) (fi : S24576.Idx → BitVec 32) (fn : S24576.Idx → F .f32) (j : S8192x256.Idx) (r : ℕ) (hr : r < 3) : F .f32 :=
  have hq : 3 * (j 0).val + r < 24576 := by have : (j 0).val < 8192 := (j 0).isLt; omega
  FloatOps.mulf (fn (ixN (3 * (j 0).val + r) hq))
    (fx (ixX ((fi (ixN (3 * (j 0).val + r) hq)).toNat % 2048) (j 1).val (Nat.mod_lt _ (by decide)) (j 1).isLt))

/-- The whole output: every entry the weighted sum of three table entries, added in order. -/
def xiAll (fx : S2048x2x128.Idx → F .f32) (fi : S24576.Idx → BitVec 32) (fn : S24576.Idx → F .f32) (j : S8192x256.Idx) : F .f32 :=
  FloatOps.addf (FloatOps.addf (xiTerm fx fi fn j 0 (by decide)) (xiTerm fx fi fn j 1 (by decide))) (xiTerm fx fi fn j 2 (by decide))

theorem oChunk_emb_zero (c : Fin 4) (y : S64x256.Idx) : ((oChunk L c).view.emb y 0).val = 512 * (L 1).val + 256 * (L 0).val + 64 * c.val + (y 0).val := by
  show (k0_off51 L (BitVec.ofNat 32 (64 * c.val))) 0 + 1 * (y 0).val = _
  rw [k0_off51_eq]; show 512 * (L 1).val + 256 * (L 0).val + 64 * c.val + 1 * (y 0).val = _; omega
theorem oChunk_emb_one (c : Fin 4) (y : S64x256.Idx) : ((oChunk L c).view.emb y 1).val = (y 1).val := by
  show (k0_off51 L (BitVec.ofNat 32 (64 * c.val))) 1 + 1 * (y 1).val = _
  rw [k0_off51_eq]; show 0 + 1 * (y 1).val = _; omega
theorem iChunk_emb (c : Fin 4) (y : S192.Idx) : ((iChunk L c).view.emb y 0).val = 1536 * (L 1).val + 768 * (L 0).val + 192 * c.val + (y 0).val := by
  show (k0_off1 L (BitVec.ofNat 32 (192 * c.val))) 0 + 1 * (y 0).val = _
  rw [k0_off1_eq]; show 1536 * (L 1).val + 768 * (L 0).val + 192 * c.val + 1 * (y 0).val = _; omega
theorem nChunk_emb (c : Fin 4) (y : S192.Idx) : ((nChunk L c).view.emb y 0).val = 1536 * (L 1).val + 768 * (L 0).val + 192 * c.val + (y 0).val := by
  show (k0_off1 L (BitVec.ofNat 32 (192 * c.val))) 0 + 1 * (y 0).val = _
  rw [k0_off1_eq]; show 1536 * (L 1).val + 768 * (L 0).val + 192 * c.val + 1 * (y 0).val = _; omega

/-- A place of a list of 192. -/
def ixS (a : ℕ) (ha : a < 192) : S192.Idx := fun x => ⟨![a] x, by fin_cases x; exact ha⟩

/-- The weight scratch at weight `r` of the chunk's query `y 0`: the list's weight `r` of that query. -/
theorem wLand_apply (c : Fin 4) (fn : Buf (Elt F) ((nV).view.loc (thr d L))) (fw : Buf (Elt F) ((wV).view.loc (thr d L))) (y : S64x256.Idx) (r : ℕ) (hr : r < 3)
    (h : 3 * ((oChunk L c).view.emb y 0).val + r < 24576) :
    wLand d L c fn fw (wgt y r hr) = fn (ixN (3 * ((oChunk L c).view.emb y 0).val + r) h) := by
  have hy : (y 0).val < 64 := (y 0).isLt
  have e := View.read_writes_cons_hit_of_coords (Val := Elt F) (wV).view fw (Rect.unit (s := S208) ![0] S192.size inb_S208_S192_0)
    ((nChunk L c).view.read (Elt F) fn) [] (ixS (3 * (y 0).val + r) (by omega)) (wgt y r hr) (by
      intro a; fin_cases a
      show 3 * (y 0).val + r = 0 + 1 * (3 * (y 0).val + r); omega)
  refine Eq.trans e ?_
  refine ((View.read_apply _ _).trans (cast_eq _ _)).trans (congrArg fn (funext fun a => Fin.ext ?_))
  fin_cases a
  refine (nChunk_emb L c _).trans ?_
  have h0 := oChunk_emb_zero L c y
  show 1536 * (L 1).val + 768 * (L 0).val + 192 * c.val + (3 * (y 0).val + r) = 3 * ((oChunk L c).view.emb y 0).val + r
  omega

/-- The gathered row `r` of the chunk's query `y 0`, at column `y 1`: the table's row that the list's index names. -/
theorem rLand_apply (c : Fin 4) (fx : Buf (Elt F) ((xV).view.loc (thr d L))) (fi : Buf (Elt F) ((iV).view.loc (thr d L))) (hfi : ∀ j : S24576.Idx, (fi j : BitVec 32).toNat < 2048)
    (fs : Buf (Elt F) ((sV).view.loc (thr d L))) (fr : Buf (Elt F) ((rV).view.loc (thr d L))) (y : S64x256.Idx) (r : ℕ) (hr : r < 3)
    (h : 3 * ((oChunk L c).view.emb y 0).val + r < 24576) :
    rLand d L c fx fi hfi fs fr (gath y r hr)
      = fx (ixX ((fi (ixN (3 * ((oChunk L c).view.emb y 0).val + r) h) : BitVec 32).toNat % 2048) ((oChunk L c).view.emb y 1).val (Nat.mod_lt _ (by decide)) ((oChunk L c).view.emb y 1).isLt) := by
  have hy : (y 0).val < 64 := (y 0).isLt
  have hy1 : (y 1).val < 256 := (y 1).isLt
  unfold rLand
  rw [View.write_whole_univ (cc0_scratch2 : Ref sig .scVector)]
  unfold SparseCore.gatherPayload
  refine ((View.read_apply _ _).trans (cast_eq _ _)).trans (congrArg fx (funext fun a => Fin.ext ?_))
  have h0 := oChunk_emb_zero L c y
  have h1 := oChunk_emb_one L c y
  fin_cases a
  · show 0 + 1 * (Shape.Gathers.idx gathers_S2048x2x128_S192x2x128 _ (gath y r hr) (gathers_S2048x2x128_S192x2x128).axis).val = _
    rw [Shape.Gathers.idx_axis]
    show 0 + 1 * ((sV).view.read (Elt F) (View.write (Elt F) (sV).view fs ((iChunk L c).view.read (Elt F) fi) Finset.univ)
        (S192.rowMajor.symm ⟨3 * (y 0).val + r, _⟩)).toNat = (fi (ixN (3 * ((oChunk L c).view.emb y 0).val + r) h) : BitVec 32).toNat % 2048
    rw [View.write_whole_univ (cc0_scratch0 : Ref sig .scVector)]
    have e : ∀ k : Fin S192.numel, k.val = 3 * (y 0).val + r →
        (iChunk L c).view.read (Elt F) fi (S192.rowMajor.symm k) = fi (ixN (3 * ((oChunk L c).view.emb y 0).val + r) h) := by
      intro k hk
      refine ((View.read_apply _ _).trans (cast_eq _ _)).trans (congrArg fi (funext fun a => Fin.ext ?_))
      fin_cases a
      refine (iChunk_emb L c _).trans ?_
      have hz : ((S192.rowMajor.symm k) 0).val = 3 * (y 0).val + r := by
        have := Shape.rowMajor_val_one (d := ![192]) (S192.rowMajor.symm k)
        exact (this.symm.trans (congrArg Fin.val (Equiv.apply_symm_apply S192.rowMajor k))).trans hk
      show _ = 3 * ((oChunk L c).view.emb y 0).val + r
      omega
    rw [Nat.mod_eq_of_lt (hfi _), Nat.zero_add, Nat.one_mul]
    exact congrArg BitVec.toNat (e _ rfl)
  · show 0 + 1 * (Shape.Gathers.idx gathers_S2048x2x128_S192x2x128 _ (gath y r hr) 1).val = ((oChunk L c).view.emb y 1).val / 128
    rw [Shape.Gathers.idx_of_ne _ _ _ _ (by decide), h1, Nat.zero_add, Nat.one_mul]
    rfl
  · show 0 + 1 * (Shape.Gathers.idx gathers_S2048x2x128_S192x2x128 _ (gath y r hr) 2).val = ((oChunk L c).view.emb y 1).val % 128
    rw [Shape.Gathers.idx_of_ne _ _ _ _ (by decide), h1, Nat.zero_add, Nat.one_mul]
    rfl

/-- A chunk's result rows are the output's rows at the chunk's block. -/
theorem chunk_value (c : Fin 4) (fx : Buf (Elt F) ((xV).view.loc (thr d L))) (fi : Buf (Elt F) ((iV).view.loc (thr d L))) (hfi : ∀ j : S24576.Idx, (fi j : BitVec 32).toNat < 2048)
    (fn : Buf (Elt F) ((nV).view.loc (thr d L))) (fs : Buf (Elt F) ((sV).view.loc (thr d L))) (fw : Buf (Elt F) ((wV).view.loc (thr d L)))
    (fr : Buf (Elt F) ((rV).view.loc (thr d L))) (y : S64x256.Idx) :
    xiRow (wLand d L c fn fw) (rLand d L c fx fi hfi fs fr) y = xiAll (F := F) fx fi fn ((oChunk L c).view.emb y) := by
  have hq : ((oChunk L c).view.emb y 0).val < 8192 := ((oChunk L c).view.emb y 0).isLt
  unfold xiRow xiAll xiTerm
  rw [wLand_apply d L c fn fw y 0 _ (by omega), wLand_apply d L c fn fw y 1 _ (by omega), wLand_apply d L c fn fw y 2 _ (by omega),
    rLand_apply d L c fx fi hfi fs fr y 0 _ (by omega), rLand_apply d L c fx fi hfi fs fr y 1 _ (by omega), rLand_apply d L c fx fi hfi fs fr y 2 _ (by omega)]

set_option maxHeartbeats 4000000 in
theorem chunk_wp {α : Type} (c : Fin 4) (sA sB sC : DmaSems sig S_) (ret : α) (qx qi qn : PosShare TreeShare)
    (fx : Buf (Elt F) ((xV).view.loc (thr d L))) (fi : Buf (Elt F) ((iV).view.loc (thr d L))) (fn : Buf (Elt F) ((nV).view.loc (thr d L)))
    (fo : Buf (Elt F) ((oV).view.loc (thr d L)))
    (fs : Buf (Elt F) ((sV).view.loc (thr d L))) (fw : Buf (Elt F) ((wV).view.loc (thr d L)))
    (fr : Buf (Elt F) ((rV).view.loc (thr d L))) (fy : Buf (Elt F) ((yV).view.loc (thr d L)))
    (hfi : ∀ j : S24576.Idx, (fi j : BitVec 32).toNat < 2048)
    (O : CellTallies nD τ sig (HIx 1)) (W : Waits sig (HIx 1)) :
    iprop(Transfers.MayWaits (thr d L) (default : HIx 1) O
        ∗ ((xV).view.loc (thr d L) ↦{qx} fx) ∗ ((iV).view.loc (thr d L) ↦{qi} fi) ∗ ((nV).view.loc (thr d L) ↦{qn} fn)
        ∗ ((oChunk L c).view.loc (thr d L) ↦[(oChunk L c).view.set]{fullShare} fo)
        ∗ ((sV).view.loc (thr d L) ↦{fullShare} fs) ∗ ((wV).view.loc (thr d L) ↦{fullShare} fw)
        ∗ ((rV).view.loc (thr d L) ↦{fullShare} fr) ∗ ((yV).view.loc (thr d L) ↦{fullShare} fy)
        ∗ semVal (thr d L, .dma sA.sem) 0 ∗ semVal (thr d L, .dma sB.sem) 0 ∗ semVal (thr d L, .dma sC.sem) 0
        ∗ semVal (thr d L, .dma cc0_scratch4.sem) 0 ∗ owes (thr d L) O W)
      ⊢ (wp frame (wpE (defs₀ (F := F)) 𝒱₀ (thr d L) none) Set.univ
          (chunk L xV iV nV oV sV (Memref.isWhole_whole _) wV rV (Memref.isWhole_whole _) yV (Memref.isWhole_whole _) cc0_scratch4 c sA sB sC ret)
          fun _ => iprop(((xV).view.loc (thr d L) ↦{qx} fx) ∗ ((iV).view.loc (thr d L) ↦{qi} fi) ∗ ((nV).view.loc (thr d L) ↦{qn} fn)
            ∗ ((oChunk L c).view.loc (thr d L) ↦[(oChunk L c).view.set]{fullShare} xiAll (F := F) fx fi fn)
            ∗ (∃ f, (sV).view.loc (thr d L) ↦{fullShare} f) ∗ (∃ f, (wV).view.loc (thr d L) ↦{fullShare} f)
            ∗ (∃ f, (rV).view.loc (thr d L) ↦{fullShare} f) ∗ (∃ f, (yV).view.loc (thr d L) ↦{fullShare} f)
            ∗ semVal (thr d L, .dma sA.sem) 0 ∗ semVal (thr d L, .dma sB.sem) 0 ∗ semVal (thr d L, .dma sC.sem) 0
            ∗ semVal (thr d L, .dma cc0_scratch4.sem) 0 ∗ ∃ W', ⌜∀ p ∈ W', p ∈ W ∨ p.2 = none⌝ ∗ owes (thr d L) O W') : sProp 𝕄) := by
  unfold chunk
  iintro ⟨#Hmw, Hx, Hi, Hn, Ho, Hs, Hw, Hr, Hy, HA, HB, HC, HG, HO⟩
  sl_exec
  have hN : ∀ h : S2048x2x128.Gathers 0 S192x2x128, ∑ j, ((rV).slice (S192x2x128.rowRect h.axis' j) (S192x2x128.stride_rowRect h.axis' j)).view.dmaCredit
      = (rV).view.dmaCredit := by decide +kernel
  iapply (SparseCore.wp_gatherFromWhole countersEmb 𝒱₀ (thr d L) none (hg := gathers_S2048x2x128_S192x2x128) (src := xAll) (dst := rV) (offs := sV) (default : HIx 1)
      (rV).view.dmaCredit (hN _) (by decide) (inb_idx d L c fi hfi fs _ rfl)) $$ [Hx Hr Hs HG]
  · isplitl [Hx]; · iexact Hx
    isplitl [Hr]; · iexact Hr
    isplitl [Hs]; · iexact Hs
    iexact HG
  iintro Hfl
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hr, Hx, Hs⟩, HG, HO⟩
  rw [ret_bind_eq]
  sl_for (LInv d L (wLand d L c fn fw) (rLand d L c fx fi hfi fs fr)) $$ [Hw Hr Hy]
  case region => intro k acc; exact loop_trip d L _ _ k acc
  · unfold LInv
    isplitl [Hw]; · iexact Hw
    isplitl [Hr]; · iexact Hr
    iexists fy
    isplit; · ipureintro; intro j hj; omega
    iexact Hy
  iintro %acc HI
  unfold LInv
  icases HI with ⟨Hw, Hr, %g, %hg, Hy⟩
  sl_exec
  sl_step
  have hval : ∀ i ∈ (oChunk L c).view.set, (oChunk L c).view.writes (Elt F) fo [⟨Rect.whole S64x256, chunk_wp.sl.dma0_2 d L g⟩] i = xiAll (F := F) fx fi fn i := by
    intro i hi
    obtain ⟨y, rfl⟩ : ∃ y, (oChunk L c).view.emb y = i := by
      obtain ⟨y, -, e⟩ := Finset.mem_map.mp hi
      exact ⟨y, e⟩
    have e := View.read_writes_cons_emb (Val := Elt F) (oChunk L c).view fo (Rect.whole S64x256) (chunk_wp.sl.dma0_2 d L g) [] y
    rw [Rect.emb_whole_apply] at e
    refine (((View.read_apply _ _).trans (cast_eq _ _)).symm.trans e).trans ?_
    refine (hg y (Or.inl ?_)).trans (chunk_value d L c fx fi hfi fn fs fw fr y)
    exact lt_of_lt_of_eq (y 0).isLt trips_eq.symm
  ihave Ho := (Entails.of_eq (pointsTo_congr hval)) $$ Ho
  isplitl [Hx]; · iexact Hx
  isplitl [Hi]; · iexact Hi
  isplitl [Hn]; · iexact Hn
  isplitl [Ho]; · iexact Ho
  isplitl [Hs]; · iexists _; iexact Hs
  isplitl [Hw]; · iexists _; iexact Hw
  isplitl [Hr]; · iexists _; iexact Hr
  isplitl [Hy]; · iexists g; iexact Hy
  isplitl [HA]; · iexact HA
  isplitl [HB]; · iexact HB
  isplitl [HC]; · iexact HC
  isplitl [HG]; · iexact HG
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Sc

end
-- ==== Proof.Tile.lean ====
/-
  A task as the launch sees it: its semaphores and scratch buffers among the subcore's own, its body as four chunks
  (`Chunk.lean`) one after another, and the obligation the launch asks of it.
-/
module

public import proofs.«01_k».proof.Proof.Chunk

@[expose] public section

noncomputable section

namespace Cert.Proof.Sc

open Cert.InterpIdeal Cert.InterpIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.InterpIdeal.main_v0_scv : Memref Cert.InterpIdeal.sig Kind.scVector Space.hbm Cert.InterpIdeal.S2048x2x128 EltTy.f32)
local notation "iV" => (Memref.whole Cert.InterpIdeal.main_v1_scv : Memref Cert.InterpIdeal.sig Kind.scVector Space.hbm Cert.InterpIdeal.S24576 EltTy.i32)
local notation "nV" => (Memref.whole Cert.InterpIdeal.main_v2_scv : Memref Cert.InterpIdeal.sig Kind.scVector Space.hbm Cert.InterpIdeal.S24576 EltTy.f32)
local notation "sV" => (Memref.whole Cert.InterpIdeal.cc0_scratch0 : Memref Cert.InterpIdeal.sig Kind.scVector Space.vmem Cert.InterpIdeal.S192 EltTy.i32)
local notation "wV" => (Memref.whole Cert.InterpIdeal.cc0_scratch1 : Memref Cert.InterpIdeal.sig Kind.scVector Space.vmem Cert.InterpIdeal.S208 EltTy.f32)
local notation "rV" => (Memref.whole Cert.InterpIdeal.cc0_scratch2 : Memref Cert.InterpIdeal.sig Kind.scVector Space.vmem Cert.InterpIdeal.S192x2x128 EltTy.f32)
local notation "yV" => (Memref.whole Cert.InterpIdeal.cc0_scratch3 : Memref Cert.InterpIdeal.sig Kind.scVector Space.vmem Cert.InterpIdeal.S64x256 EltTy.f32)
local notation "oV" => (Memref.whole Cert.InterpIdeal.main_v3_scv : Memref Cert.InterpIdeal.sig Kind.scVector Space.hbm Cert.InterpIdeal.S8192x256 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The arrays the call works on. -/
abbrev xLoc (d : Dev nD) : Loc nD τ sig := (SparseCore.T d).loc main_v0
abbrev iLoc (d : Dev nD) : Loc nD τ sig := (SparseCore.T d).loc main_v1
abbrev nLoc (d : Dev nD) : Loc nD τ sig := (SparseCore.T d).loc main_v2
abbrev oLoc (d : Dev nD) : Loc nD τ sig := (SparseCore.T d).loc main_v3

variable (d : Dev nD) (L : grid0.Coords)

/-! ## The task's semaphores and scratch buffers -/

/-- A place of the task's DMA semaphores, from the thirteen numbers. -/
def semCell (k : Fin 13) : GSem nD τ sig := (thr d L, .dma ⟨k.val, k.isLt⟩)

omit [FloatOps F] in
theorem semCell_inj : Function.Injective (semCell d L) := by
  intro a b h
  simp only [semCell, Prod.mk.injEq, SemLoc.dma.injEq, true_and] at h
  exact Fin.ext (congrArg Fin.val h)

/-- The thirteen cells. -/
def semCells : Finset (GSem nD τ sig) := Finset.univ.map ⟨semCell d L, semCell_inj d L⟩

/-- The subcore's semaphores that no chunk uses. -/
abbrev semRest : sProp 𝕄 := bigSep (ownCells (thr d L) \ semCells d L) fun g => semVal g 0

theorem ownSems0_V :
    (ownSems0 (thr d L) : sProp 𝕄)
      = iprop((bigSep Finset.univ fun k : Fin 13 => semVal (semCell d L k) 0) ∗ semRest d L) := by
  unfold SparseCore.Cfg.ownSems0
  have hsub : semCells d L ⊆ ownCells (thr d L) := by
    intro g hg
    obtain ⟨k, -, rfl⟩ := Finset.mem_map.mp hg
    exact mem_ownCells.mpr ⟨rfl, (show ∀ k : Fin 13, (SemLoc.dma (⟨k.val, k.isLt⟩ : DmaSem sig) : SemLoc sig).isScoped .scVector = true by decide) k⟩
  rw [bigSep_sdiff_split hsub, semCells, bigSep_map]
  rfl

theorem sems_list (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  repeat rw [SparseCore.bigSep_insert' (by decide)]
  rw [bigSep_singleton]

/-- The subcore's buffers that are none of the task's four. -/
abbrev bufRest : sProp 𝕄 :=
  bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3)) fun b => iprop(∃ f, ((d, b) : Loc nD τ sig) ↦{fullShare} f)

theorem mem_own (b : Ref sig .scVector) (h : ((Proc.scVector (cV L) (jV L)).devRef b : DevRef τ sig).owner = .proc (.scVector (cV L) (jV L))) :
    ((Proc.scVector (cV L) (jV L)).devRef b : DevRef τ sig) ∈ ownRefs (.scVector (cV L) (jV L)) :=
  SparseCore.Cfg.mem_ownRefs_of_owner h

omit [FloatOps F] in
theorem ref_ne {a b : Ref sig .scVector} (h : a ≠ b) : ((Proc.scVector (cV L) (jV L)).devRef a : DevRef τ sig) ≠ (Proc.scVector (cV L) (jV L)).devRef b :=
  fun e => h (Proc.devRef_injective _ e)

theorem ownBufs_V :
    (ownBufs (thr d L) : sProp 𝕄)
      = iprop((∃ f, (sV).view.loc (thr d L) ↦{fullShare} f) ∗ (∃ f, (wV).view.loc (thr d L) ↦{fullShare} f)
          ∗ (∃ f, (rV).view.loc (thr d L) ↦{fullShare} f) ∗ (∃ f, (yV).view.loc (thr d L) ↦{fullShare} f) ∗ bufRest d L) := by
  unfold SparseCore.Cfg.ownBufs
  refine (SparseCore.bigSep_erase' (mem_own L cc0_scratch0 rfl)).trans ?_
  rw [SparseCore.bigSep_erase' (Finset.mem_erase.mpr ⟨ref_ne L (show (cc0_scratch1 : Ref sig .scVector) ≠ cc0_scratch0 by decide), mem_own L cc0_scratch1 rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), mem_own L cc0_scratch2 rfl⟩⟩),
    SparseCore.bigSep_erase' (Finset.mem_erase.mpr ⟨ref_ne L (show (cc0_scratch3 : Ref sig .scVector) ≠ cc0_scratch2 by decide),
      Finset.mem_erase.mpr ⟨ref_ne L (show (cc0_scratch3 : Ref sig .scVector) ≠ cc0_scratch1 by decide),
        Finset.mem_erase.mpr ⟨ref_ne L (show (cc0_scratch3 : Ref sig .scVector) ≠ cc0_scratch0 by decide), mem_own L cc0_scratch3 rfl⟩⟩⟩)]

/-! ## What a task takes and brings back -/

/-- The task's share of an array that every task reads: a token of its SparseCore's token. -/
abbrev qL : PosShare TreeShare := Transfers.shareTokN (Transfers.shareTokN fullShare (L 0).val) (L 1).val

/-- A task holds its share of the table, of the indices and of the weights, and its four blocks of the output, all at `fo`. -/
def taskRes (fx : Buf (Elt F) (xLoc d)) (fi : Buf (Elt F) (iLoc d)) (fn : Buf (Elt F) (nLoc d)) (fo : Buf (Elt F) (oLoc d)) : sProp 𝕄 :=
  iprop((xLoc d ↦{qL L} fx) ∗ (iLoc d ↦{qL L} fi) ∗ (nLoc d ↦{qL L} fn)
    ∗ bigSep Finset.univ fun c : Fin 4 => oLoc d ↦[(oChunk L c).view.set]{fullShare} fo)

theorem blocks_list (Φ : Fin 4 → sProp 𝕄) : bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]

/-- What passes from one chunk to the next besides the output's blocks and the semaphores: the shares, the scratch
    buffers at some contents, the gather's semaphore at zero, what the thread owes. -/
def Carry (fx : Buf (Elt F) (xLoc d)) (fi : Buf (Elt F) (iLoc d)) (fn : Buf (Elt F) (nLoc d))
    (O : CellTallies nD τ sig (HIx 1)) (W : Waits sig (HIx 1)) : sProp 𝕄 :=
  iprop(((xV).view.loc (thr d L) ↦{qL L} fx) ∗ ((iV).view.loc (thr d L) ↦{qL L} fi) ∗ ((nV).view.loc (thr d L) ↦{qL L} fn)
    ∗ (∃ f, (sV).view.loc (thr d L) ↦{fullShare} f) ∗ (∃ f, (wV).view.loc (thr d L) ↦{fullShare} f)
    ∗ (∃ f, (rV).view.loc (thr d L) ↦{fullShare} f) ∗ (∃ f, (yV).view.loc (thr d L) ↦{fullShare} f)
    ∗ semVal (thr d L, .dma cc0_scratch4.sem) 0 ∗ ∃ W', ⌜∀ p ∈ W', p ∈ W ∨ p.2 = none⌝ ∗ owes (thr d L) O W')

/-- A chunk, in these words. -/
theorem chunk_carry {α : Type} (c : Fin 4) (sA sB sC : DmaSems sig S_) (ret : α)
    (fx : Buf (Elt F) (xLoc d)) (fi : Buf (Elt F) (iLoc d)) (fn : Buf (Elt F) (nLoc d)) (fo : Buf (Elt F) (oLoc d))
    (hfi : ∀ j : S24576.Idx, (fi j : BitVec 32).toNat < 2048) (O : CellTallies nD τ sig (HIx 1)) (W : Waits sig (HIx 1)) :
    iprop(Transfers.MayWaits (thr d L) (default : HIx 1) O ∗ Carry d L fx fi fn O W
        ∗ (oLoc d ↦[(oChunk L c).view.set]{fullShare} fo)
        ∗ semVal (thr d L, .dma sA.sem) 0 ∗ semVal (thr d L, .dma sB.sem) 0 ∗ semVal (thr d L, .dma sC.sem) 0)
      ⊢ (wp frame (wpE (defs₀ (F := F)) 𝒱₀ (thr d L) none) Set.univ
          (chunk L xV iV nV oV sV (Memref.isWhole_whole _) wV rV (Memref.isWhole_whole _) yV (Memref.isWhole_whole _) cc0_scratch4 c sA sB sC ret)
          fun _ => iprop(Carry d L fx fi fn O W
            ∗ (oLoc d ↦[(oChunk L c).view.set]{fullShare} xiAll (F := F) fx fi fn)
            ∗ semVal (thr d L, .dma sA.sem) 0 ∗ semVal (thr d L, .dma sB.sem) 0 ∗ semVal (thr d L, .dma sC.sem) 0) : sProp 𝕄) := by
  unfold Carry
  iintro ⟨Hmw, ⟨Hx, Hi, Hn, ⟨%fs, Hs⟩, ⟨%fw, Hw⟩, ⟨%fr, Hr⟩, ⟨%fy, Hy⟩, HG, %W', %hW', HO⟩, Ho, HA, HB, HC⟩
  ihave Hwp := (chunk_wp d L c sA sB sC ret (qL L) (qL L) (qL L) fx fi fn fo fs fw fr fy hfi O W') $$ [Hmw Hx Hi Hn Hs Hw Hr Hy HG HO Ho HA HB HC]
  · isplitl [Hmw]; · iexact Hmw
    isplitl [Hx]; · iexact Hx
    isplitl [Hi]; · iexact Hi
    isplitl [Hn]; · iexact Hn
    isplitl [Ho]; · iexact Ho
    isplitl [Hs]; · iexact Hs
    isplitl [Hw]; · iexact Hw
    isplitl [Hr]; · iexact Hr
    isplitl [Hy]; · iexact Hy
    isplitl [HA]; · iexact HA
    isplitl [HB]; · iexact HB
    isplitl [HC]; · iexact HC
    isplitl [HG]; · iexact HG
    iexact HO
  iapply (wp_wand_r frame _ _)
  isplitl [Hwp]; · iexact Hwp
  iintro %a ⟨Hx, Hi, Hn, Ho, Hs, Hw, Hr, Hy, HA, HB, HC, HG, %W'', %hW'', HO⟩
  isplitr [Ho HA HB HC]
  · isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexists W''; isplitr
    · ipureintro; exact fun p hp => (hW'' p hp).elim (hW' p) Or.inr
    · iexact HO
  isplitl [Ho]; · iexact Ho
  isplitl [HA]; · iexact HA
  isplitl [HB]; · iexact HB
  iexact HC

/-- The whole task. -/
theorem tile_body (hF : (K (F := F)).Facts) (fx : Buf (Elt F) (xLoc d)) (fi : Buf (Elt F) (iLoc d)) (fn : Buf (Elt F) (nLoc d)) (fo : Buf (Elt F) (oLoc d))
    (hfi : ∀ j : S24576.Idx, (fi j : BitVec 32).toNat < 2048) (O : CellTallies nD τ sig (HIx 1)) (W : Waits sig (HIx 1)) (hO : ∀ g, O g none = 0) :
    iprop(levAts (K (F := F)).L (K (F := F)).lev ∗ emp ∗ taskRes d L fx fi fn fo
        ∗ scopedBufs (thr d L) ∗ scopedSems0 (thr d L) ∗ owes (thr d L) O W)
      ⊢ (wp frame (wpE (defs₀ (F := F)) 𝒱₀ (thr d L) none) Set.univ
          (cc0__sc_interp L xV (Memref.isWhole_whole _) iV (Memref.isWhole_whole _) nV (Memref.isWhole_whole _) oV (Memref.isWhole_whole _)
            sV (Memref.isWhole_whole _) wV (Memref.isWhole_whole _) rV (Memref.isWhole_whole _) yV (Memref.isWhole_whole _) cc0_scratch4
            cc0_scoped0 cc0_scoped1 cc0_scoped2 cc0_scoped3 cc0_scoped4 cc0_scoped5 cc0_scoped6 cc0_scoped7 cc0_scoped8 cc0_scoped9 cc0_scoped10 cc0_scoped11)
          fun _ => iprop(taskRes d L fx fi fn (xiAll (F := F) fx fi fn)
            ∗ scopedBufs (thr d L) ∗ scopedSems0 (thr d L)
            ∗ ∃ W', ⌜∀ p ∈ W', p ∈ W ∨ p.2 = none⌝ ∗ owes (thr d L) O W') : sProp 𝕄) := by
  rw [body_eq]
  rw [(K (F := F)).scopedBufs_V hF d (cV L) (jV L), SparseCore.Cfg.scopedSems0_V (Val := Elt F) d (cV L) (jV L), ownSems0_V, ownBufs_V, sems_list]
  unfold taskRes
  simp only [blocks_list]
  iintro ⟨#Hlv, -, ⟨Hx, Hi, Hn, Ho0, Ho1, Ho2, Ho3⟩, ⟨Hs, Hw, Hr, Hy, Hbufs⟩, ⟨⟨HG, A0, B0, C0, A1, B1, C1, A2, B2, C2, A3, B3, C3⟩, Hsems⟩, HO⟩
  ihave #Hmw := (show levAts (K (F := F)).L (K (F := F)).lev ⊢ Transfers.MayWaits (thr d L) (default : HIx 1) O from
    (K (F := F)).mayWaits_none (thr := thr d L) hO) $$ Hlv
  ihave HK := (show iprop((xLoc d ↦{qL L} fx) ∗ (iLoc d ↦{qL L} fi) ∗ (nLoc d ↦{qL L} fn)
      ∗ (∃ f, (sV).view.loc (thr d L) ↦{fullShare} f) ∗ (∃ f, (wV).view.loc (thr d L) ↦{fullShare} f)
      ∗ (∃ f, (rV).view.loc (thr d L) ↦{fullShare} f) ∗ (∃ f, (yV).view.loc (thr d L) ↦{fullShare} f)
      ∗ semVal (semCell d L 0) 0 ∗ owes (thr d L) O W) ⊢ (Carry d L fx fi fn O W : sProp 𝕄) from by
    unfold Carry
    iintro ⟨Hx, Hi, Hn, Hs, Hw, Hr, Hy, HG, HO⟩
    isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexists W; isplitr
    · ipureintro; exact fun p hp => Or.inl hp
    · iexact HO) $$ [Hx Hi Hn Hs Hw Hr Hy HG HO]
  · isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexact HO
  rw [wp_bind]
  ihave Hwp := (chunk_carry d L 0 cc0_scoped0 cc0_scoped1 cc0_scoped2 _ fx fi fn fo hfi O W) $$ [HK Ho0 A0 B0 C0]
  · isplitr; · iexact Hmw
    isplitl [HK]; · iexact HK
    isplitl [Ho0]; · iexact Ho0
    isplitl [A0]; · iexact A0
    isplitl [B0]; · iexact B0
    iexact C0
  iapply (wp_wand_r frame _ _)
  isplitl [Hwp]; · iexact Hwp
  iintro %a0 ⟨HK, Ho0, A0, B0, C0⟩
  rw [wp_bind]
  ihave Hwp := (chunk_carry d L 1 cc0_scoped3 cc0_scoped4 cc0_scoped5 _ fx fi fn fo hfi O W) $$ [HK Ho1 A1 B1 C1]
  · isplitr; · iexact Hmw
    isplitl [HK]; · iexact HK
    isplitl [Ho1]; · iexact Ho1
    isplitl [A1]; · iexact A1
    isplitl [B1]; · iexact B1
    iexact C1
  iapply (wp_wand_r frame _ _)
  isplitl [Hwp]; · iexact Hwp
  iintro %a1 ⟨HK, Ho1, A1, B1, C1⟩
  rw [wp_bind]
  ihave Hwp := (chunk_carry d L 2 cc0_scoped6 cc0_scoped7 cc0_scoped8 _ fx fi fn fo hfi O W) $$ [HK Ho2 A2 B2 C2]
  · isplitr; · iexact Hmw
    isplitl [HK]; · iexact HK
    isplitl [Ho2]; · iexact Ho2
    isplitl [A2]; · iexact A2
    isplitl [B2]; · iexact B2
    iexact C2
  iapply (wp_wand_r frame _ _)
  isplitl [Hwp]; · iexact Hwp
  iintro %a2 ⟨HK, Ho2, A2, B2, C2⟩
  ihave Hwp := (chunk_carry d L 3 cc0_scoped9 cc0_scoped10 cc0_scoped11 _ fx fi fn fo hfi O W) $$ [HK Ho3 A3 B3 C3]
  · isplitr; · iexact Hmw
    isplitl [HK]; · iexact HK
    isplitl [Ho3]; · iexact Ho3
    isplitl [A3]; · iexact A3
    isplitl [B3]; · iexact B3
    iexact C3
  iapply (wp_wand_r frame _ _)
  isplitl [Hwp]; · iexact Hwp
  iintro %a3 ⟨HK, Ho3, A3, B3, C3⟩
  unfold Carry
  icases HK with ⟨Hx, Hi, Hn, Hs, Hw, Hr, Hy, HG, HO⟩
  isplitl [Hx Hi Hn Ho0 Ho1 Ho2 Ho3]
  · isplitl [Hx]; · iexact Hx
    isplitl [Hi]; · iexact Hi
    isplitl [Hn]; · iexact Hn
    isplitl [Ho0]; · iexact Ho0
    isplitl [Ho1]; · iexact Ho1
    isplitl [Ho2]; · iexact Ho2
    iexact Ho3
  isplitl [Hs Hw Hr Hy Hbufs]
  · isplitl [Hs]; · iexact Hs
    isplitl [Hw]; · iexact Hw
    isplitl [Hr]; · iexact Hr
    isplitl [Hy]; · iexact Hy
    iexact Hbufs
  isplitr [HO]
  · isplitr [Hsems]
    · isplitl [HG]; · iexact HG
      isplitl [A0]; · iexact A0
      isplitl [B0]; · iexact B0
      isplitl [C0]; · iexact C0
      isplitl [A1]; · iexact A1
      isplitl [B1]; · iexact B1
      isplitl [C1]; · iexact C1
      isplitl [A2]; · iexact A2
      isplitl [B2]; · iexact B2
      isplitl [C2]; · iexact C2
      isplitl [A3]; · iexact A3
      isplitl [B3]; · iexact B3
      iexact C3
    · iexact Hsems
  iexact HO

/-! ## What the handshakes carry -/

section Launch

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

variable (fx : (d : Dev nD) → Buf (Elt F) (xLoc d)) (fi : (d : Dev nD) → Buf (Elt F) (iLoc d)) (fn : (d : Dev nD) → Buf (Elt F) (nLoc d))

/-- The tasks of SparseCore `c`, together: its token of each array read, and its sixteen tasks' blocks of the output. -/
def coreRes (d : Dev nD) (c : Fin 2) (fo : Buf (Elt F) (oLoc d)) : sProp 𝕄 :=
  iprop((xLoc d ↦{Transfers.shareTokN fullShare c.val} fx d) ∗ (iLoc d ↦{Transfers.shareTokN fullShare c.val} fi d)
    ∗ (nLoc d ↦{Transfers.shareTokN fullShare c.val} fn d)
    ∗ bigSep Finset.univ fun s : Fin 16 => bigSep Finset.univ fun ch : Fin 4 => oLoc d ↦[(oChunk (coordsV c s) ch).view.set]{fullShare} fo)

variable (fo : (d : Dev nD) → Buf (Elt F) (oLoc d))

/-- The call takes the arrays' tokens and the output's blocks at what was there, and brings them back with the blocks at
    the weighted sums; so does each task for its part. -/
def P : (K (F := F)).Pay (nD := nD) (Val := Elt F) (Name := ℕ) (U := UU) where
  st := fun q d c => match q with | 0 => coreRes fx fi fn d c (fo d)
  dn := fun q d c => match q with | 0 => coreRes fx fi fn d c (xiAll (F := F) (fx d) (fi d) (fn d))
  go := fun q d c s => match q with | 0 => taskRes d (coordsV c s) (fx d) (fi d) (fn d) (fo d)
  td := fun q d c s => match q with | 0 => taskRes d (coordsV c s) (fx d) (fi d) (fn d) (xiAll (F := F) (fx d) (fi d) (fn d))
  x := fun _ _ => iprop(emp)

instance coreRes_storable (d : Dev nD) (c : Fin 2) (f : Buf (Elt F) (oLoc d)) :
    BI.Storable (upEmb : UEmb _ 𝕄) (coreRes fx fi fn d c f) := by unfold coreRes; infer_instance
instance taskRes_storable (d : Dev nD) (L : grid0.Coords) (gx : Buf (Elt F) (xLoc d)) (gi : Buf (Elt F) (iLoc d)) (gn : Buf (Elt F) (nLoc d)) (f : Buf (Elt F) (oLoc d)) :
    BI.Storable (upEmb : UEmb _ 𝕄) (taskRes d L gx gi gn f) := by unfold taskRes; infer_instance

instance P_storable : (P (F := F) fx fi fn fo).IsStorable where
  st q d c := match q with | 0 => coreRes_storable fx fi fn d c _
  dn q d c := match q with | 0 => coreRes_storable fx fi fn d c _
  go q d c s := match q with | 0 => taskRes_storable d (coordsV c s) _ _ _ _
  td q d c s := match q with | 0 => taskRes_storable d (coordsV c s) _ _ _ _

/-! ## The obligation -/

theorem defs₀_vector (c : Fin τ.nSC) (s : Fin τ.nSub) :
    defs₀ (F := F) (.scVector c s) 0 ()
      = SparseCore.onTile hcore0 hsub0 (fun c s => cc0__sc_interp (coordsV c s) xV (Memref.isWhole_whole _) iV (Memref.isWhole_whole _)
          nV (Memref.isWhole_whole _) oV (Memref.isWhole_whole _)
          sV (Memref.isWhole_whole _) wV (Memref.isWhole_whole _) rV (Memref.isWhole_whole _) yV (Memref.isWhole_whole _) cc0_scratch4
          cc0_scoped0 cc0_scoped1 cc0_scoped2 cc0_scoped3 cc0_scoped4 cc0_scoped5 cc0_scoped6 cc0_scoped7 cc0_scoped8 cc0_scoped9 cc0_scoped10 cc0_scoped11) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d (j : S24576.Idx), (fi d j : BitVec 32).toNat < 2048) :
    (K (F := F)).TileObl (D (F := F)) 𝒱 (P fx fi fn fo) v₀ 0 := by
  intro d c i O W hO _ _
  simp only [show (P fx fi fn fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fx d) (fi d) (fn d) (fo d) (hfi d) O W hO).trans (wp_mono frame _ _ fun _ => waits_weaken)

/-- A SparseCore deals its part to its tasks, and joins what they bring back. -/
theorem vecSplit : (K (F := F)).VecSplit' (P fx fi fn fo) 0 := by
  intro d c
  show coreRes fx fi fn d c (fo d) ⊢ |={Set.univ}=> iprop(
      (bigSep Finset.univ fun s : Fin 16 => taskRes d (coordsV c s) (fx d) (fi d) (fn d) (fo d))
      ∗ ((bigSep Finset.univ fun s : Fin 16 => taskRes d (coordsV c s) (fx d) (fi d) (fn d) (xiAll (F := F) (fx d) (fi d) (fn d)))
          -∗ coreRes fx fi fn d c (xiAll (F := F) (fx d) (fi d) (fn d))))
  unfold taskRes coreRes
  simp only [bigSep_sep']
  iintro ⟨Hx, Hi, Hn, Ho⟩
  ihave Hx := (Transfers.pointsTo_toks_split _ 16) $$ Hx
  icases Hx with ⟨Hxd, Hx⟩
  ihave Hi := (Transfers.pointsTo_toks_split _ 16) $$ Hi
  icases Hi with ⟨Hid, Hi⟩
  ihave Hn := (Transfers.pointsTo_toks_split _ 16) $$ Hn
  icases Hn with ⟨Hnd, Hn⟩
  imodintro
  isplitl [Hx Hi Hn Ho]
  · isplitl [Hx]; · iexact Hx
    isplitl [Hi]; · iexact Hi
    isplitl [Hn]; · iexact Hn
    iexact Ho
  iintro ⟨Hx, Hi, Hn, Ho⟩
  isplitl [Hx Hxd]; · iapply (Transfers.pointsTo_toks_join _ 16); isplitl [Hxd]; · iexact Hxd
                      iexact Hx
  isplitl [Hi Hid]; · iapply (Transfers.pointsTo_toks_join _ 16); isplitl [Hid]; · iexact Hid
                      iexact Hi
  isplitl [Hn Hnd]; · iapply (Transfers.pointsTo_toks_join _ 16); isplitl [Hnd]; · iexact Hnd
                      iexact Hn
  iexact Ho

end Launch

end Cert.Proof.Sc

end
-- ==== Proof.Launch.lean ====
/-
  The whole program: @main lays the table, the indices and the weights out as the call wants them, runs the call, and
  keeps its arguments; the output ends at the weighted sums of `Chunk.lean`.
-/
module

public import proofs.«01_k».proof.Proof.Tile

@[expose] public section

noncomputable section

namespace Cert.Proof.Sc

open Cert.InterpIdeal Cert.InterpIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The output is its blocks -/

/-- The block that SparseCore `t.1`'s subcore `t.2.1` writes in its chunk `t.2.2`. -/
def blockSet (t : Fin 2 × Fin 16 × Fin 4) : Finset S8192x256.Idx := (oChunk (coordsV t.1 t.2.1) t.2.2).view.set

theorem mem_blockSet (t : Fin 2 × Fin 16 × Fin 4) (j : S8192x256.Idx) :
    j ∈ blockSet t ↔ 512 * t.2.1.val + 256 * t.1.val + 64 * t.2.2.val ≤ (j 0).val
      ∧ (j 0).val < 512 * t.2.1.val + 256 * t.1.val + 64 * t.2.2.val + 64 := by
  unfold blockSet View.set
  rw [Finset.mem_map]
  constructor
  · rintro ⟨y, -, rfl⟩
    have h : (y 0).val < 64 := (y 0).isLt
    have e := oChunk_emb_zero (coordsV t.1 t.2.1) t.2.2 y
    rw [e]
    show _ ≤ 512 * t.2.1.val + 256 * t.1.val + 64 * t.2.2.val + (y 0).val ∧ _
    constructor
    · omega
    · show 512 * t.2.1.val + 256 * t.1.val + 64 * t.2.2.val + (y 0).val < _; omega
  · rintro ⟨h0, h1⟩
    have hb : (j 1).val < 256 := (j 1).isLt
    refine ⟨fun x => ⟨![(j 0).val - (512 * t.2.1.val + 256 * t.1.val + 64 * t.2.2.val), (j 1).val] x, by
      fin_cases x
      · show (j 0).val - _ < 64; omega
      · exact hb⟩, Finset.mem_univ _, ?_⟩
    funext x
    fin_cases x
    · refine Fin.ext ((oChunk_emb_zero (coordsV t.1 t.2.1) t.2.2 _).trans ?_)
      show 512 * t.2.1.val + 256 * t.1.val + 64 * t.2.2.val + ((j 0).val - (512 * t.2.1.val + 256 * t.1.val + 64 * t.2.2.val)) = (j 0).val
      omega
    · exact Fin.ext (oChunk_emb_one (coordsV t.1 t.2.1) t.2.2 _)

theorem blocks_disjoint : ∀ t ∈ (Finset.univ : Finset (Fin 2 × Fin 16 × Fin 4)), ∀ t' ∈ (Finset.univ : Finset (Fin 2 × Fin 16 × Fin 4)),
    t ≠ t' → Disjoint (blockSet t) (blockSet t') := by
  rintro ⟨a, b, c⟩ - ⟨a', b', c'⟩ - hne
  refine Finset.disjoint_left.mpr fun j hj hj' => hne ?_
  obtain ⟨h0, h1⟩ := (mem_blockSet _ _).mp hj
  obtain ⟨h0', h1'⟩ := (mem_blockSet _ _).mp hj'
  dsimp only at h0 h1 h0' h1'
  have ha := a.isLt; have ha' := a'.isLt; have hc := c.isLt; have hc' := c'.isLt
  have hb := b.isLt; have hb' := b'.isLt
  refine Prod.ext (Fin.ext ?_) (Prod.ext (Fin.ext ?_) (Fin.ext ?_)) <;> dsimp only <;> omega

theorem blocks_cover : (Finset.univ : Finset (Fin 2 × Fin 16 × Fin 4)).biUnion blockSet = Finset.univ := by
  refine Finset.eq_univ_of_forall fun j => Finset.mem_biUnion.mpr ?_
  have hj : (j 0).val < 8192 := (j 0).isLt
  refine ⟨⟨⟨(j 0).val / 256 % 2, by omega⟩, ⟨(j 0).val / 512, by omega⟩, ⟨(j 0).val / 64 % 4, by omega⟩⟩, Finset.mem_univ _, (mem_blockSet _ _).mpr ?_⟩
  dsimp only
  omega

theorem out_blocks (d : Dev nD) (f : Buf (Elt F) (oLoc d)) :
    (oLoc d ↦{fullShare} f : sProp 𝕄) = bigSep Finset.univ fun c : Fin 2 => bigSep Finset.univ fun s : Fin 16 => bigSep Finset.univ fun ch : Fin 4 =>
      oLoc d ↦[(oChunk (coordsV c s) ch).view.set]{fullShare} f := by
  have h : (oLoc d ↦{fullShare} f : sProp 𝕄) = bigSep Finset.univ fun t : Fin 2 × Fin 16 × Fin 4 => oLoc d ↦[blockSet t]{fullShare} f := by
    rw [← pointsTo_biUnion Finset.univ (ℓ := oLoc d) blockSet blocks_disjoint, blocks_cover]
  rw [h, bigSep_univ_prod]
  refine bigSep_congr fun c _ => ?_
  rw [bigSep_univ_prod]
  rfl

/-! ## The launch element -/

variable (fx : (d : Dev nD) → Buf (Elt F) (xLoc d)) (fi : (d : Dev nD) → Buf (Elt F) (iLoc d)) (fn : (d : Dev nD) → Buf (Elt F) (nLoc d))
  (fo : (d : Dev nD) → Buf (Elt F) (oLoc d))

def u₀ : UU := (initOf (K (F := F)).hsCells (K (F := F)).hsToks, 1)

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fx fi fn fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P fx fi fn fo).x q thr) = bigSep Finset.univ fun _ => iprop(emp) from
    bigSep_congr fun _ _ => bigSep_univ_of_subsingleton (0 : Fin 1), all_emp]
  iempintro

/-! ## The call, from the four arrays whole -/

/-- What stays with the TensorCore of the three arrays read, while the two SparseCores hold their tokens. -/
abbrev kept (d : Dev nD) : sProp 𝕄 :=
  iprop((xLoc d ↦{Transfers.shareDrop fullShare 2} fx d) ∗ (iLoc d ↦{Transfers.shareDrop fullShare 2} fi d) ∗ (nLoc d ↦{Transfers.shareDrop fullShare 2} fn d))

/-- The four arrays whole, the output at `f`. -/
abbrev arrays (d : Dev nD) (f : Buf (Elt F) (oLoc d)) : sProp 𝕄 :=
  iprop((xLoc d ↦{fullShare} fx d) ∗ (iLoc d ↦{fullShare} fi d) ∗ (nLoc d ↦{fullShare} fn d) ∗ (oLoc d ↦{fullShare} f))

theorem deal (d : Dev nD) (f : Buf (Elt F) (oLoc d)) :
    arrays fx fi fn d f ⊢ (iprop(kept fx fi fn d ∗ bigSep Finset.univ fun c : Fin 2 => coreRes fx fi fn d c f) : sProp 𝕄) := by
  unfold coreRes
  rw [bigSep_sep', bigSep_sep', bigSep_sep', ← out_blocks]
  iintro ⟨Hx, Hi, Hn, Ho⟩
  ihave Hx := (Transfers.pointsTo_toks_split _ 2) $$ Hx
  icases Hx with ⟨Hxd, Hx⟩
  ihave Hi := (Transfers.pointsTo_toks_split _ 2) $$ Hi
  icases Hi with ⟨Hid, Hi⟩
  ihave Hn := (Transfers.pointsTo_toks_split _ 2) $$ Hn
  icases Hn with ⟨Hnd, Hn⟩
  isplitl [Hxd Hid Hnd]
  · isplitl [Hxd]; · iexact Hxd
    isplitl [Hid]; · iexact Hid
    iexact Hnd
  isplitl [Hx]; · iexact Hx
  isplitl [Hi]; · iexact Hi
  isplitl [Hn]; · iexact Hn
  iexact Ho

theorem undeal (d : Dev nD) (f : Buf (Elt F) (oLoc d)) :
    iprop(kept fx fi fn d ∗ bigSep Finset.univ fun c : Fin 2 => coreRes fx fi fn d c f) ⊢ (arrays fx fi fn d f : sProp 𝕄) := by
  unfold coreRes
  rw [bigSep_sep', bigSep_sep', bigSep_sep', ← out_blocks]
  iintro ⟨⟨Hxd, Hid, Hnd⟩, Hx, Hi, Hn, Ho⟩
  isplitl [Hx Hxd]; · iapply (Transfers.pointsTo_toks_join _ 2); isplitl [Hxd]; · iexact Hxd
                      iexact Hx
  isplitl [Hi Hid]; · iapply (Transfers.pointsTo_toks_join _ 2); isplitl [Hid]; · iexact Hid
                      iexact Hi
  isplitl [Hn Hnd]; · iapply (Transfers.pointsTo_toks_join _ 2); isplitl [Hnd]; · iexact Hnd
                      iexact Hn
  iexact Ho

/-! ## @main on the TensorCore -/

variable (m : (ℓ : Loc nD τ sig) → Buf (Elt F) ℓ) (ρ : Dev nD → PrngReg)

abbrev ref (b : Ref sig .tc) : DevRef τ sig := Proc.devRef .tc b

/-- The TensorCore's arrays. -/
abbrev S7 : Finset (DevRef τ sig) := {ref main_arg0, ref main_arg1, ref main_arg2, ref main_v0, ref main_v1, ref main_v2, ref main_v3}

abbrev opX : HloOp τ sig (Elt F) := StableHlo.reshape main_arg0 main_v0 (rfl : (.f32 : EltTy) = .f32) shapeCasts_S2048x256_S2048x2x128
abbrev opI : HloOp τ sig (Elt F) := StableHlo.reshape main_arg1 main_v1 (rfl : (.i32 : EltTy) = .i32) shapeCasts_S8192x3_S24576
abbrev opN : HloOp τ sig (Elt F) := StableHlo.reshape main_arg2 main_v2 (rfl : (.f32 : EltTy) = .f32) shapeCasts_S8192x3_S24576

/-- The arrays at the launch, and when the call starts. -/
def V0 (d : Dev nD) : Valuation τ sig (Elt F) := fun b => m (d, b)
def V3 (d : Dev nD) : Valuation τ sig (Elt F) := (opN (F := F)).result ((opI (F := F)).result ((opX (F := F)).result (V0 m d)))

/-- The three arrays the call reads, and what it finds in the output. -/
abbrev gx (d : Dev nD) : Buf (Elt F) (xLoc d) := V3 m d (ref main_v0)
abbrev gi (d : Dev nD) : Buf (Elt F) (iLoc d) := V3 m d (ref main_v1)
abbrev gn (d : Dev nD) : Buf (Elt F) (nLoc d) := V3 m d (ref main_v2)
abbrev go (d : Dev nD) : Buf (Elt F) (oLoc d) := V3 m d (ref main_v3)

/-- The program's output. -/
abbrev out (d : Dev nD) : Buf (Elt F) (oLoc d) := xiAll (F := F) (gx m d) (gi m d) (gn m d)

theorem V3_keeps (d : Dev nD) (b : DevRef τ sig) (h0 : b ≠ ref main_v0) (h1 : b ≠ ref main_v1) (h2 : b ≠ ref main_v2) : V3 m d b = m (d, b) := by
  unfold V3
  rw [(opN (F := F)).result_of_not_mem _ (b := b) (fun h => h2 (Finset.mem_singleton.mp h)),
    (opI (F := F)).result_of_not_mem _ (b := b) (fun h => h1 (Finset.mem_singleton.mp h)),
    (opX (F := F)).result_of_not_mem _ (b := b) (fun h => h0 (Finset.mem_singleton.mp h))]
  rfl

theorem gx_eq (d : Dev nD) : gx m d = shapeCast S2048x2x128 (m ((SparseCore.T d).loc main_arg0)) shapeCasts_S2048x256_S2048x2x128 := by
  unfold gx V3
  rw [(opN (F := F)).result_of_not_mem _ (b := ref main_v0) (fun h => absurd (Finset.mem_singleton.mp h) (by decide)),
    (opI (F := F)).result_of_not_mem _ (b := ref main_v0) (fun h => absurd (Finset.mem_singleton.mp h) (by decide))]
  exact StableHlo.reshape_result ..

theorem gi_eq (d : Dev nD) : gi m d = shapeCast S24576 (m ((SparseCore.T d).loc main_arg1)) shapeCasts_S8192x3_S24576 := by
  unfold gi V3
  rw [(opN (F := F)).result_of_not_mem _ (b := ref main_v1) (fun h => absurd (Finset.mem_singleton.mp h) (by decide))]
  refine (StableHlo.reshape_result ..).trans ?_
  rw [(opX (F := F)).result_of_not_mem _ (b := ref main_arg1) (fun h => absurd (Finset.mem_singleton.mp h) (by decide))]
  rfl

theorem gn_eq (d : Dev nD) : gn m d = shapeCast S24576 (m ((SparseCore.T d).loc main_arg2)) shapeCasts_S8192x3_S24576 := by
  unfold gn V3
  refine (StableHlo.reshape_result ..).trans ?_
  rw [(opI (F := F)).result_of_not_mem _ (b := ref main_arg2) (fun h => absurd (Finset.mem_singleton.mp h) (by decide)),
    (opX (F := F)).result_of_not_mem _ (b := ref main_arg2) (fun h => absurd (Finset.mem_singleton.mp h) (by decide))]
  rfl

theorem held_S7 (d : Dev nD) (W : Valuation τ sig (Elt F)) :
    (held (T d) S7 W : sProp 𝕄) = iprop(((SparseCore.T d).loc main_arg0 ↦{fullShare} W (ref main_arg0)) ∗ ((SparseCore.T d).loc main_arg1 ↦{fullShare} W (ref main_arg1))
      ∗ ((SparseCore.T d).loc main_arg2 ↦{fullShare} W (ref main_arg2)) ∗ (xLoc d ↦{fullShare} W (ref main_v0)) ∗ (iLoc d ↦{fullShare} W (ref main_v1))
      ∗ (nLoc d ↦{fullShare} W (ref main_v2)) ∗ oLoc d ↦{fullShare} W (ref main_v3)) := by
  unfold held S7
  repeat rw [SparseCore.bigSep_insert' (by decide)]
  rw [bigSep_singleton]

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_v0, main_v1, main_v2, main_v3} by decide]
  repeat rw [SparseCore.bigSep_insert' (by decide)]
  rw [bigSep_singleton]
  rfl

abbrev PP : (K (F := F)).Pay (nD := nD) (Val := Elt F) (Name := ℕ) (U := UU) := P (gx m) (gi m) (gn m) (go m)

/-- What @main leaves the claim: the arguments as they were, the output at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (oLoc d ↦{fullShare} out m d))

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S7) (show ({ref main_arg0, ref main_v0} : Finset (DevRef τ sig)) ⊆ S7 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opI) (S := S7) (show ({ref main_arg1, ref main_v1} : Finset (DevRef τ sig)) ⊆ S7 by decide)) $$ [Hb Hheld]
  · isplitl [Hb]; · iexact Hb
    iexact Hheld
  iintro ⟨Hb, Hheld⟩
  rw [wp_ret]; imodintro
  iapply (wp_hlo_within 𝒱 (SparseCore.T d) none Set.univ (op := opN) (S := S7) (show ({ref main_arg2, ref main_v2} : Finset (DevRef τ sig)) ⊆ S7 by decide)) $$ [Hb Hheld]
  · isplitl [Hb]; · iexact Hb
    iexact Hheld
  iintro ⟨Hb, Hheld⟩
  rw [wp_ret]; imodintro
  ihave Hh := (Entails.of_eq ((show (held (T d) S7 ((opN (F := F)).result ((opI (F := F)).result ((opX (F := F)).result (V0 m d)))) : sProp 𝕄)
    = held (T d) S7 (V3 m d) from rfl).trans (held_S7 (F := F) d (V3 m d)))) $$ Hheld
  icases Hh with ⟨H0, H1, H2, Hx, Hi, Hn, Ho⟩
  ihave Hd := (deal (gx m) (gi m) (gn m) d (go m d)) $$ [Hx Hi Hn Ho]
  · isplitl [Hx]; · iexact Hx
    isplitl [Hi]; · iexact Hi
    isplitl [Hn]; · iexact Hn
    iexact Ho
  icases Hd with ⟨Hkept, Hcores⟩
  iapply ((K (F := F)).wp_run (D (F := F)) 𝒱 (EH := EH) (P := PP m) κ d 0) $$ [Hst Hcores H0 H1 H2 Hkept Hb Hts]
  isplitr; · iexact Hctx
  isplitl [Hst]; · iexact Hst
  isplitl [Hcores]; · iexact Hcores
  iintro ⟨Hst, Hdn⟩
  ihave Ha := (undeal (gx m) (gi m) (gn m) d (out m d)) $$ [Hkept Hdn]
  · isplitl [Hkept]; · iexact Hkept
    iexact Hdn
  icases Ha with ⟨-, -, -, Ho⟩
  imodintro
  ihave H0 := (Entails.of_eq (congrArg (fun f => ((SparseCore.T d).loc main_arg0 ↦{fullShare} f : sProp 𝕄)) (V3_keeps m d (ref main_arg0) (by decide) (by decide) (by decide)))) $$ H0
  ihave H1 := (Entails.of_eq (congrArg (fun f => ((SparseCore.T d).loc main_arg1 ↦{fullShare} f : sProp 𝕄)) (V3_keeps m d (ref main_arg1) (by decide) (by decide) (by decide)))) $$ H1
  ihave H2 := (Entails.of_eq (congrArg (fun f => ((SparseCore.T d).loc main_arg2 ↦{fullShare} f : sProp 𝕄)) (V3_keeps m d (ref main_arg2) (by decide) (by decide) (by decide)))) $$ H2
  isplitl [Hst]; · iexact Hst
  isplitr [Hb Hts]
  · isplitl [H0]; · iexact H0
    isplitl [H1]; · iexact H1
    isplitl [H2]; · iexact H2
    iexact Ho
  isplitl [Hb] <;> iassumption

/-! ## The run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem (oLoc d) = out m d

/-- An array held whole is in memory as it is held. -/
theorem mem_of_held (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (mem_of_held s' _ _) $$ [HSI H0]
  · isplitl [HSI] <;> iassumption
  icases H with ⟨%h0, HSI⟩
  ihave H := (mem_of_held s' _ _) $$ [HSI H1]
  · isplitl [HSI] <;> iassumption
  icases H with ⟨%h1, HSI⟩
  ihave H := (mem_of_held s' _ _) $$ [HSI H2]
  · isplitl [HSI] <;> iassumption
  icases H with ⟨%h2, HSI⟩
  ihave H := (mem_of_held s' _ _) $$ [HSI Ho]
  · isplitl [HSI] <;> iassumption
  icases H with ⟨%h3, HSI⟩
  ipureintro; exact ⟨h0, h1, h2, h3⟩

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem (oLoc d) = out m d) ∧ r.2.sem = fun _ => 0

/-- Every execution ends, the arguments as they were, the output at the weighted sums, the semaphores at zero — where
    every index names a row of the table. -/
theorem run_main [∀ e, Nonempty (Elt F e)] (hfi : ∀ d (j : S24576.Idx), (gi m d j : BitVec 32).toNat < 2048) :
    θ_run (Cert.InterpIdeal.defs (F := F)) (Cert.InterpIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (gx m) (gi m) (gn m) (go m) facts hfi)
    (fun q _ => match q with | 0 => SparseCore.Cfg.VecSplit.of_plain (vecSplit (gx m) (gi m) (gn m) (go m)))
    m ρ main (fun _ => iprop(emp)) (FIN m) (u₀ (F := F)) (sep_elim_left.trans (hu₀ (gx m) (gi m) (gn m) (go m))) (hmain m ρ) (fq m) (hfin m) (QC m) (fun _ h hz => ⟨h, hz⟩)

end Cert.Proof.Sc

end
-- ==== Proof.Take.lean ====
/-
  Rows taken by index, read at one element. The reference takes row `idx[q, k]` of the table: it wraps a negative index
  once round, gathers at the (clamped) index and replaces a row whose index is out of range by a fill value. Where every
  index names a row of the table none of that shows: the taken element is the table's, at the row the index names.
-/
module

public import proofs.«01_k».proof.Proof.Gen.InterpReferenceIdeal.Run
public import Idealize.ShloMosaic.Lib.Pointwise
public import Idealize.ShloMosaic.Lib.ReduceAll
public import Idealize.ShloMosaic.Lib.ValueIdxCore

@[expose] public section

noncomputable section

namespace Cert.Proof.Take

open Cert.InterpReferenceIdeal Cert.InterpReferenceIdeal.Gen
open Idealize.ShloMosaic

/-- An array of indices whose entries all name one of 2048 rows. -/
def InRows (b : S8192x3.Idx → BitVec 32) : Prop := ∀ j, (b j).toNat < 2048

theorem toInt_of_lt (w : BitVec 32) (h : w.toNat < 2048) : w.toInt = w.toNat := by
  rw [BitVec.toInt_eq_toNat_cond, if_pos (by omega)]

/-- The table's element at row `a`, column `b`. -/
def rc (a b : ℕ) (ha : a < 2048) (hb : b < 256) : S2048x256.Idx := fun x =>
  ⟨![a, b] x, by fin_cases x; exacts [ha, hb]⟩

/-- The index array's place for query `q`, neighbour `k`. -/
def qk (q k : ℕ) (hq : q < 8192) (hk : k < 3) : S8192x3.Idx := fun x =>
  ⟨![q, k] x, by fin_cases x; exacts [hq, hk]⟩

/-- Where the gather reads its start index for result element `y`. -/
def startIdx (y : S8192x3x256.Idx) : S8192x3x1.Idx := fun a =>
  match a with | ⟨0, _⟩ => ⟨(y 0).val, (y 0).isLt⟩ | ⟨1, _⟩ => ⟨(y 1).val, (y 1).isLt⟩ | ⟨2, _⟩ => ⟨0, Nat.one_pos⟩

/-- The row gather read at `y`: the table at the start index, read signed and clamped into the table, and `y`'s column. -/
theorem gather_apply {α : Type} (x : S2048x256.Idx → α) (b : IVec S8192x3x1 32) (y : S8192x3x256.Idx) :
    Host.gather gather_S2048x256_S8192x3x1_S8192x3x256_2_0_n_n_0_2_1256 x b y
      = x (rc (min (b (startIdx y)).toInt.toNat 2047) (y 2).val (by omega) (y 2).isLt) := by
  unfold Host.gather
  congr 1
  funext a
  refine Fin.ext ?_
  let G := gather_S2048x256_S8192x3x1_S8192x3x256_2_0_n_n_0_2_1256
  show G.start y b a + G.batchCoord y a + G.offCoord y a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ G.startIndexMap from List.mem_singleton.mpr rfl)]
    have hsi : G.siIdx y ⟨List.idxOf (⟨0, h0⟩ : Fin 2) G.startIndexMap,
        List.idxOf_lt_length_iff.2 (List.mem_singleton.mpr rfl)⟩ = startIdx y := by
      funext c; refine Fin.ext ?_
      match c with
      | ⟨0, _⟩ => rfl
      | ⟨1, _⟩ => rfl
      | ⟨2, _⟩ => rfl
    rw [hsi]
    rfl
  | ⟨1, h1⟩ =>
    have hs : G.start y b ⟨1, h1⟩ = 0 := by
      unfold GatherDims.start
      exact dif_neg (show ¬ (⟨1, h1⟩ : Fin 2) ∈ ([0] : List (Fin 2)) from fun h => absurd (List.mem_singleton.mp h) (by simp))
    rw [hs]
    simp only [Nat.zero_add, Nat.add_zero]
    rfl

/-- The start indices as the reference lays them out: a negative index wrapped once round. -/
def wrapped (b : S8192x3.Idx → BitVec 32) : S8192x3x1.Idx → BitVec 32 :=
  broadcastInDim S8192x3x1 ![0, 1] bcast_S8192x3_S8192x3x1_0_1
    (select (cmpi .slt b (broadcastInDim S8192x3 ![] bcast_S_S8192x3 (constantI S_ 32 0#32)))
      (addi b (broadcastInDim S8192x3 ![] bcast_S_S8192x3 (constantI S_ 32 2048#32))) b)

theorem wrapped_eq (b : S8192x3.Idx → BitVec 32) (hb : InRows b) (i : S8192x3x1.Idx) :
    wrapped b i = b (qk (i 0).val (i 1).val (i 0).isLt (i 1).isLt) := by
  have hi := broadcastInDim_apply (t := S8192x3x1) ![0, 1] bcast_S8192x3_S8192x3x1_0_1
    (select (cmpi .slt b (broadcastInDim S8192x3 ![] bcast_S_S8192x3 (constantI S_ 32 0#32)))
      (addi b (broadcastInDim S8192x3 ![] bcast_S_S8192x3 (constantI S_ 32 2048#32))) b) i
    (qk (i 0).val (i 1).val (i 0).isLt (i 1).isLt) (fun a => by fin_cases a <;> rfl)
  refine hi.trans ?_
  have hlt := hb (qk (i 0).val (i 1).val (i 0).isLt (i 1).isLt)
  generalize qk (i 0).val (i 1).val (i 0).isLt (i 1).isLt = j at hlt ⊢
  have h0 : cmpi .slt b (broadcastInDim S8192x3 ![] bcast_S_S8192x3 (constantI S_ 32 0#32)) j = 0#1 := by
    show IntOp.cmpi .slt (b j) 0#32 = 0#1
    have : (b j).slt 0#32 = false := by
      rw [BitVec.slt_eq_decide, toInt_of_lt _ hlt]
      simp
    simp only [IntOp.cmpi, this]
    rfl
  unfold select
  rw [h0]
  rfl

/-- The reference's test, per taken row, that its start index lies in the table. -/
def inTable (b : S8192x3.Idx → BitVec 32) : S8192x3.Idx → BitVec 1 :=
  Host.reduce IntOp.andi
    (andi (cmpi .sge (wrapped b) (broadcastInDim S8192x3x1 ![] bcast_S_S8192x3x1 (constantI S_ 32 0#32)))
      (cmpi .sle (wrapped b) (broadcastInDim S8192x3x1 ![0, 1, 2] bcast_S1x1x1_S8192x3x1_0_1_2
        (broadcastInDim S1x1x1 ![2] bcast_S1_S1x1x1_2 (constantI S1 32 2047#32)))))
    (constantI S_ 1 1#1) reducesTo_S8192x3x1_S8192x3_d2 h_S_

theorem inTable_eq (b : S8192x3.Idx → BitVec 32) (hb : InRows b) (j : S8192x3.Idx) : inTable b j = 1#1 := by
  refine Host.reduce_andi_one _ _ _ _ _ rfl fun i => ?_
  show IntOp.andi (IntOp.cmpi .sge (wrapped b i) 0#32) (IntOp.cmpi .sle (wrapped b i) 2047#32) = 1#1
  rw [wrapped_eq b hb i]
  have hlt := hb (qk (i 0).val (i 1).val (i 0).isLt (i 1).isLt)
  generalize b (qk (i 0).val (i 1).val (i 0).isLt (i 1).isLt) = v at hlt ⊢
  have e0 : (0#32).sle v = true := by
    rw [BitVec.sle_eq_decide, toInt_of_lt _ hlt]
    simp
  have e1 : v.sle 2047#32 = true := by
    rw [BitVec.sle_eq_decide, toInt_of_lt _ hlt]
    simp
    omega
  simp only [IntOp.cmpi, e0, e1]
  rfl

variable {F : FTy → Type} [FloatOps F]

/-- The rows the reference takes. -/
def taken (x : S2048x256.Idx → F .f32) (b : S8192x3.Idx → BitVec 32) : S8192x3x256.Idx → F .f32 :=
  select (broadcastInDim S8192x3x256 ![0, 1] bcast_S8192x3_S8192x3x256_0_1 (inTable b))
    (Host.gather gather_S2048x256_S8192x3x1_S8192x3x256_2_0_n_n_0_2_1256 x (wrapped b))
    (broadcastInDim S8192x3x256 ![] bcast_S_S8192x3x256 (constant S_ .f32 0x7FC00000#32))

theorem taken_apply (x : S2048x256.Idx → F .f32) (b : S8192x3.Idx → BitVec 32) (hb : InRows b) (y : S8192x3x256.Idx) :
    taken x b y = x (rc (b (qk (y 0).val (y 1).val (y 0).isLt (y 1).isLt)).toNat (y 2).val (hb _) (y 2).isLt) := by
  unfold taken
  have h1 : broadcastInDim S8192x3x256 ![0, 1] bcast_S8192x3_S8192x3x256_0_1 (inTable b) y = 1#1 := by
    unfold broadcastInDim
    exact inTable_eq b hb _
  unfold select
  rw [h1]
  refine (gather_apply x (wrapped b) y).trans ?_
  have hw : wrapped b (startIdx y) = b (qk (y 0).val (y 1).val (y 0).isLt (y 1).isLt) := wrapped_eq b hb (startIdx y)
  have hlt := hb (qk (y 0).val (y 1).val (y 0).isLt (y 1).isLt)
  refine congrArg x (funext fun a => Fin.ext ?_)
  match a with
  | ⟨0, _⟩ =>
    show min (wrapped b (startIdx y)).toInt.toNat 2047 = (b _).toNat
    rw [hw, toInt_of_lt _ hlt]
    simp only [Int.toNat_natCast]
    omega
  | ⟨1, _⟩ => rfl

/-- The interpolated features: per query, the sum over its three neighbours of the taken row times the neighbour's
    weight. -/
def interp (x : S2048x256.Idx → F .f32) (b : S8192x3.Idx → BitVec 32) (w : S8192x3.Idx → F .f32) : S8192x256.Idx → F .f32 :=
  Host.reduceAdd
    (mulf (taken x b)
      (broadcastInDim S8192x3x256 ![0, 1, 2] bcast_S8192x3x1_S8192x3x256_0_1_2
        (broadcastInDim S8192x3x1 ![0, 1] bcast_S8192x3_S8192x3x1_0_1 w)))
    (constant S_ .f32 0x00000000#32) reducesTo_S8192x3x256_S8192x256_d1 h_S_

theorem weight_apply (w : S8192x3.Idx → F .f32) (y : S8192x3x256.Idx) :
    broadcastInDim S8192x3x256 ![0, 1, 2] bcast_S8192x3x1_S8192x3x256_0_1_2
        (broadcastInDim S8192x3x1 ![0, 1] bcast_S8192x3_S8192x3x1_0_1 w) y
      = w (qk (y 0).val (y 1).val (y 0).isLt (y 1).isLt) := by
  refine (broadcastInDim_apply _ _ _ y (startIdx y) (fun a => by fin_cases a <;> rfl)).trans ?_
  exact broadcastInDim_apply _ _ _ _ _ (fun a => by fin_cases a <;> rfl)

/-- In exact arithmetic the features are, per element, the three products added up. -/
theorem interp_apply (x : S2048x256.Idx → Ideal .f32) (b : S8192x3.Idx → BitVec 32) (hb : InRows b)
    (w : S8192x3.Idx → Ideal .f32) (j : S8192x256.Idx) :
    interp x b w j = ∑ k : Fin 3,
      x (rc (b (qk (j 0).val k.val (j 0).isLt k.isLt)).toNat (j 1).val (hb _) (j 1).isLt)
        * w (qk (j 0).val k.val (j 0).isLt k.isLt) := by
  unfold interp
  show Ideal.hostReduceAdd _ _ _ j = _
  rw [Ideal.hostReduceAdd_r3_a1]
  have hz : (constant S_ .f32 0x00000000#32 : S_.Idx → Ideal .f32) (Shape.Idx.first h_S_) = 0 := by
    pointwise
  rw [hz, zero_add]
  refine Finset.sum_congr rfl fun k _ => ?_
  show taken x b _ * _ = _
  rw [taken_apply x b hb, weight_apply]
  rfl

end Cert.Proof.Take

end
-- ==== Proof.Value.lean ====
/-
  What the kernel leaves in its output is what the reference computes, in exact arithmetic, wherever every index names a
  row of the table. The kernel's table, indices and weights are the arguments laid out flat, so a flat place is read back
  as the argument's own; the two sums of three products then differ only in the order of the factors.
-/
module

public import proofs.«01_k».proof.Proof.Launch
public import proofs.«01_k».proof.Proof.Take
public import proofs.«01_k».proof.Proof.Gen.Pre_idx_in_rows

@[expose] public section

noncomputable section

namespace Cert.Proof.Sc

open Cert.InterpIdeal Cert.InterpIdeal.Gen
open Idealize.ShloMosaic
open Cert.Proof.Take (InRows rc qk interp interp_apply)

variable {F : FTy → Type} [FloatOps F]

/-- Row `a`, column `b` of the table as its rows are laid out in two halves. -/
theorem rows_apply {α : Type} (x : S2048x256.Idx → α) (a b : ℕ) (ha : a < 2048) (hb : b < 256) :
    shapeCast S2048x2x128 x shapeCasts_S2048x256_S2048x2x128 (ixX a b ha hb) = x (rc a b ha hb) := by
  refine shapeCast_apply _ _ _ _ ?_
  rw [Shape.rowMajor_val_two, Shape.rowMajor_val_three]
  show a * 256 + b = (a * 2 + b / 128) * 128 + b % 128
  omega

theorem rc_congr {a a' b : ℕ} (e : a = a') (ha : a < 2048) (ha' : a' < 2048) (hb : b < 256) : rc a b ha hb = rc a' b ha' hb := by
  subst e
  rfl

/-- Query `q`, neighbour `k` of an array laid out flat. -/
theorem flat_apply {α : Type} (x : S8192x3.Idx → α) (q k : ℕ) (hq : q < 8192) (hk : k < 3) (h : 3 * q + k < 24576) :
    shapeCast S24576 x shapeCasts_S8192x3_S24576 (ixN (3 * q + k) h) = x (qk q k hq hk) := by
  refine shapeCast_apply _ _ _ _ ?_
  rw [Shape.rowMajor_val_two, Shape.rowMajor_val_one]
  show q * 3 + k = 3 * q + k
  omega

/-- A flat array of indices names rows where the array it lays out does. -/
theorem flat_lt (b : S8192x3.Idx → BitVec 32) (hb : InRows b) (j : S24576.Idx) :
    (shapeCast S24576 b shapeCasts_S8192x3_S24576 j).toNat < 2048 := hb _

/-- The kernel's weighted sums are the reference's. -/
theorem xiAll_eq (x : S2048x256.Idx → Ideal .f32) (b : S8192x3.Idx → BitVec 32) (hb : InRows b) (w : S8192x3.Idx → Ideal .f32) :
    xiAll (F := Ideal) (shapeCast S2048x2x128 x shapeCasts_S2048x256_S2048x2x128) (shapeCast S24576 b shapeCasts_S8192x3_S24576)
      (shapeCast S24576 w shapeCasts_S8192x3_S24576) = interp x b w := by
  funext j
  have term : ∀ (r : ℕ) (hr : r < 3), xiTerm (F := Ideal) (shapeCast S2048x2x128 x shapeCasts_S2048x256_S2048x2x128)
      (shapeCast S24576 b shapeCasts_S8192x3_S24576) (shapeCast S24576 w shapeCasts_S8192x3_S24576) j r hr
      = x (rc (b (qk (j 0).val r (j 0).isLt hr)).toNat (j 1).val (hb _) (j 1).isLt) * w (qk (j 0).val r (j 0).isLt hr) := by
    intro r hr
    have hj0 : (j 0).val < 8192 := (j 0).isLt
    have hj1 : (j 1).val < 256 := (j 1).isLt
    have hq : 3 * (j 0).val + r < 24576 := by omega
    have hrow : (shapeCast S24576 b shapeCasts_S8192x3_S24576 (ixN (3 * (j 0).val + r) hq)).toNat % 2048 = (b (qk (j 0).val r hj0 hr)).toNat := by
      rw [flat_apply b (j 0).val r hj0 hr, Nat.mod_eq_of_lt (hb _)]
    show (shapeCast S24576 w shapeCasts_S8192x3_S24576 (ixN (3 * (j 0).val + r) hq) : EReal)
        * shapeCast S2048x2x128 x shapeCasts_S2048x256_S2048x2x128
          (ixX ((shapeCast S24576 b shapeCasts_S8192x3_S24576 (ixN (3 * (j 0).val + r) hq)).toNat % 2048) (j 1).val (Nat.mod_lt _ (by decide)) hj1) = _
    rw [flat_apply w (j 0).val r hj0 hr, rows_apply]
    rw [rc_congr hrow _ (hb _) _]
    exact mul_comm (G := EReal) _ _
  rw [interp_apply x b hb w j, Fin.sum_univ_three]
  unfold xiAll
  rw [term 0, term 1, term 2]
  rfl

/-- The stated precondition says that the indices name rows. -/
theorem inRows_of_pre (x : S2048x256.Idx → F .f32) (b : S8192x3.Idx → BitVec 32) (w : S8192x3.Idx → F .f32)
    (h : Cert.Pre_idx_in_rows.fn x b w = fun _ => 1#1) : InRows b := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 2048#32) = 1#1 → v.toNat < 2048 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h j
  simp only [Pre_idx_in_rows.fn, andi, cmpi, broadcastInDim, constantI] at e
  exact key _ e

/-- At the launch, every flat index names a row of the table. -/
theorem gi_lt (m : (ℓ : Loc nD τ sig) → Buf (Elt F) ℓ)
    (h : ∀ d : Dev nD, InRows (m ((SparseCore.T d).loc main_arg1))) :
    ∀ d (j : S24576.Idx), (gi m d j : BitVec 32).toNat < 2048 := fun d j => by
  rw [gi_eq m d]
  exact flat_lt _ (h d) j

/-- The kernel's output, in exact arithmetic: the reference's features of the launch's arguments. -/
theorem out_eq (m : (ℓ : Loc nD τ sig) → Buf (Elt Ideal) ℓ) (d : Dev nD)
    (h : InRows (m ((SparseCore.T d).loc main_arg1))) :
    out m d = interp (F := Ideal) (m ((SparseCore.T d).loc main_arg0)) (m ((SparseCore.T d).loc main_arg1)) (m ((SparseCore.T d).loc main_arg2)) := by
  show xiAll (F := Ideal) (gx m d) (gi m d) (gn m d) = _
  rw [gx_eq m d, gi_eq m d, gn_eq m d]
  exact xiAll_eq _ _ h _

end Cert.Proof.Sc

end
-- ==== Proof.Whole.Trip.lean ====
/-
  One trip of the task's loop over the queries of a chunk, written once. The kernel's body has the loop over a chunk's
  64 queries four times, each trip unrolled into sixteen groups of sixteen columns; `trip` is that text as a counted
  list of groups, `chunk` a chunk's text around it, and `body_eq` says that the printed body is four chunks.
-/
module

public import proofs.«01_k».proof.Proof.Gen.KernelIdeal.Skeleton

@[expose] public section

noncomputable section

namespace Cert.Proof.Whole

open Cert.KernelIdeal Cert.KernelIdeal.Gen
open Idealize.ShloMosaic Idealize.SL.Sem

variable {F : FTy → Type} [FloatOps F] [Named F]

/-- The first of query `k`'s three rows in the chunk's gathered rows, as the kernel computes it. -/
abbrev qRow (k : ℕ) : BitVec 32 := Scalar.muli 3#32 (Scf.iv 0#32 1#32 k)

/-- Where group `tt` of row `3 k`, of row `3 k + r`, and of the result's row `k` begin. -/
abbrev offA (k tt : ℕ) : Fin 3 → ℕ := ![(Scalar.indexCast (qRow k)).toNat, tt / 8, 16 * (tt % 8)]
abbrev offB (k : ℕ) (r : BitVec 32) (tt : ℕ) : Fin 3 → ℕ :=
  ![(Scalar.indexCast (Scalar.addi (qRow k) r)).toNat, tt / 8, 16 * (tt % 8)]
abbrev offC (k tt : ℕ) : Fin 2 → ℕ := ![(Scalar.indexCast (Scf.iv 0#32 1#32 k)).toNat, 16 * tt]

theorem iv_toNat {k : ℕ} (hk : k < 64) : (Scf.iv 0#32 1#32 k).toNat = k := by
  simp only [Scf.iv]
  bv_omega

theorem qRow_toNat {k : ℕ} (hk : k < 64) : (qRow k).toNat = 3 * k := by
  have := iv_toNat hk
  simp only [qRow, Scalar.muli, IntOp.muli]
  bv_omega

theorem qRowB_toNat {k : ℕ} (hk : k < 64) (r : BitVec 32) (hr : r.toNat < 3) : (Scalar.addi (qRow k) r).toNat = 3 * k + r.toNat := by
  have := qRow_toNat hk
  simp only [Scalar.addi, IntOp.addi]
  bv_omega

theorem offA_inb {k tt : ℕ} (hk : k < 64) (ht : tt < 16) : ∀ a, offA k tt a + S1x1x16.size a ≤ S192x2x128.size a := by
  have := qRow_toNat hk
  intro a; fin_cases a
  · show (qRow k).toNat + 1 ≤ 192; omega
  · show tt / 8 + 1 ≤ 2; omega
  · show 16 * (tt % 8) + 16 ≤ 128; omega

theorem offB_inb {k tt : ℕ} (hk : k < 64) (r : BitVec 32) (hr : r.toNat < 3) (ht : tt < 16) :
    ∀ a, offB k r tt a + S1x1x16.size a ≤ S192x2x128.size a := by
  have := qRowB_toNat hk r hr
  intro a; fin_cases a
  · show (Scalar.addi (qRow k) r).toNat + 1 ≤ 192; omega
  · show tt / 8 + 1 ≤ 2; omega
  · show 16 * (tt % 8) + 16 ≤ 128; omega

theorem offC_inb {k tt : ℕ} (hk : k < 64) (ht : tt < 16) : ∀ a, offC k tt a + S1x16.size a ≤ S64x256.size a := by
  have := iv_toNat hk
  intro a; fin_cases a
  · show (Scf.iv 0#32 1#32 k).toNat + 1 ≤ 64; omega
  · show 16 * tt + 16 ≤ 256; omega

theorem offW_inb {k : ℕ} (hk : k < 64) : ∀ a, (![(Scalar.indexCast (qRow k)).toNat] : Fin 1 → ℕ) a + S16.size a ≤ S208.size a := by
  have := qRow_toNat hk
  intro a; fin_cases a
  show (qRow k).toNat + 16 ≤ 208; omega

/-- The sixteen sums a group stores: three weights times three groups of sixteen entries, added in order. -/
def mix (w0 w1 w2 : F .f32) (r0 r1 r2 : Vec F S1x1x16 .f32) : FVec F S1x16 .f32 :=
  shapeCast S1x16
    (addf (addf (mulf (broadcast S16 w0) (shapeCast S16 r0 shapeCasts_S1x1x16_S16 : FVec F S16 .f32))
        (mulf (broadcast S16 w1) (shapeCast S16 r1 shapeCasts_S1x1x16_S16 : FVec F S16 .f32)))
      (mulf (broadcast S16 w2) (shapeCast S16 r2 shapeCasts_S1x1x16_S16 : FVec F S16 .f32)) : FVec F S16 .f32)
    shapeCasts_S16_S1x16

/-- The effects of a task's body on one vector subcore. -/
abbrev Eff (F : FTy → Type) (i : grid1.Coords) : Type → Type :=
  TpuEff nD τ sig (Elt F) Λ₀ (.scVector ((i 0).castLE hcore1) ((i 1).castLE hsub1))

section Text

variable (i : grid1.Coords) (aw : Memref sig .scVector .vmem S208 .f32) (ar : Memref sig .scVector .vmem S192x2x128 .f32)
  (ao : Memref sig .scVector .vmem S64x256 .f32)

/-- The groups from `tt` on of query `k`'s row. -/
def groups (k : ℕ) (hk : k < 64) (w0 w1 w2 : F .f32) : (n tt : ℕ) → tt + n = 16 → Prog (Eff F i) (BitVec 32)
  | 0, _, _ => pure 0#32
  | n + 1, tt, h => do
    let r0 : Vec F S1x1x16 .f32 ← Prog.lift (.load ar (Rect.unit (s := S192x2x128) (offA k tt) S1x1x16.size (offA_inb hk (by omega))).toLoadRect (View.loadsAt_vmem h_S1x1x16))
    let r1 : Vec F S1x1x16 .f32 ← Prog.lift (.load ar (Rect.unit (s := S192x2x128) (offB k 1#32 tt) S1x1x16.size (offB_inb hk _ (by decide) (by omega))).toLoadRect (View.loadsAt_vmem h_S1x1x16))
    let r2 : Vec F S1x1x16 .f32 ← Prog.lift (.load ar (Rect.unit (s := S192x2x128) (offB k 2#32 tt) S1x1x16.size (offB_inb hk _ (by decide) (by omega))).toLoadRect (View.loadsAt_vmem h_S1x1x16))
    let _ : Vec F S1x16 .f32 ← Prog.lift (.load ao (Rect.unit (s := S64x256) (offC k tt) S1x16.size (offC_inb hk (by omega))).toLoadRect (View.loadsAt_vmem h_S1x16))
    Prog.lift (.store ao (Rect.unit (s := S64x256) (offC k tt) S1x16.size (offC_inb hk (by omega))) (mix w0 w1 w2 r0 r1 r2) Finset.univ (View.stores_vmem_bits_univ h_S1x16 rfl) (.inl rfl))
    groups k hk w0 w1 w2 n (tt + 1) (by omega)

/-- The trip for query `k`: its sixteen weights loaded, the first three taken, the sixteen groups of its row. -/
def trip (k : ℕ) (hk : k < 64) : Prog (Eff F i) (BitVec 32) := do
  let w : Vec F S16 .f32 ← Prog.lift (.load aw (Rect.unit (s := S208) ![(Scalar.indexCast (qRow k)).toNat] S16.size (offW_inb hk)).toLoadRect (View.loadsAt_vmem h_S16))
  groups i ar ao k hk (k1_pay3 w) (k1_pay4 w) (k1_pay5 w) 16 0 rfl

end Text

section Eqs

variable (i : grid1.Coords) (arg2 : Memref sig .scVector .hbm S2048x2x128 .f32) (harg2 : arg2.IsWhole) (arg3 : Memref sig .scVector .hbm S24576 .i32) (harg3 : arg3.IsWhole) (arg4 : Memref sig .scVector .hbm S24576 .f32) (harg4 : arg4.IsWhole) (arg5 : Memref sig .scVector .hbm S8192x256 .f32) (harg5 : arg5.IsWhole) (arg6 : Memref sig .scVector .vmem S192 .i32) (harg6 : arg6.IsWhole) (arg7 : Memref sig .scVector .vmem S208 .f32) (harg7 : arg7.IsWhole) (arg8 : Memref sig .scVector .vmem S192x2x128 .f32) (harg8 : arg8.IsWhole) (arg9 : Memref sig .scVector .vmem S64x256 .f32) (harg9 : arg9.IsWhole) (arg10 s0 s1 s2 s3 s4 s5 s6 s7 s8 s9 s10 s11 : DmaSems sig S_)

set_option maxRecDepth 65536

/-- Each of the four loops makes 64 trips. -/
theorem trips_eq : k1_t1_loop.trips = 64 := by decide +kernel

/-- One chunk of a task: the chunk's indices and weights fetched, the rows the indices name gathered, the 64 trips, the
    chunk's 64 rows written out. The four chunks of the printed body are this text at `c = 0, 1, 2, 3`, each with three
    semaphores of its own; what a chunk returns is an index the rest does not use. -/
def chunk {α : Type} (c : Fin 4) (sA sB sC : DmaSems sig S_) (ret : α) : Prog (Eff F i) α := do
  let v36 : Memref sig .scVector .hbm S192 .i32 := arg3.slice (Rect.unit (s := S24576) (k1_off1 i (BitVec.ofNat 32 (192 * c.val))) S192.size (k1_off1_inb i c)) (fun _ => rfl)
  Prog.lift (.enqueueDma v36 (.here arg6) (.dma sA.sem) (View.wordExact_bits rfl) harg6.wordExact ⟨Or.inl rfl, trivial⟩)
  Prog.lift (.waitDma2 sA.sem v36 arg6 (View.wordExact_bits rfl) harg6.wordExact)
  let v37 : Memref sig .scVector .vmem S192 .f32 := arg7.slice (Rect.unit (s := S208) ![0] S192.size inb_S208_S192_0) (fun _ => rfl)
  let v38 : Memref sig .scVector .hbm S192 .f32 := arg4.slice (Rect.unit (s := S24576) (k1_off1 i (BitVec.ofNat 32 (192 * c.val))) S192.size (k1_off1_inb i c)) (fun _ => rfl)
  Prog.lift (.enqueueDma v38 (.here v37) (.dma sB.sem) (View.wordExact_bits rfl) (View.wordExact_bits rfl) ⟨Or.inl rfl, trivial⟩)
  Prog.lift (.waitDma2 sB.sem v38 v37 (View.wordExact_bits rfl) (View.wordExact_bits rfl))
  let v6 : Memref sig .scVector .hbm S2048x2x128 .f32 := arg2.slice (Rect.unit (s := S2048x2x128) ![0, 0, 0] S2048x2x128.size inb_S2048x2x128_S2048x2x128_0_0_0) (fun _ => rfl)
  SparseCore.enqueueIndirectGather rfl v6 arg8 gathers_S2048x2x128_S192x2x128 arg6 rfl arg10.sem (View.wordExact_bits rfl) rfl (Or.inl rfl)
  SparseCore.waitIndirectGather arg10.sem v6 arg8 (View.wordExact_bits rfl) harg8.wordExact
  let _ : BitVec 32 ← Scf.Loop.for k1_t1_loop k1_t1_ok 0#32 fun k _ => trip i arg7 arg8 arg9 k.val (lt_of_lt_of_eq k.isLt trips_eq)
  let v39 : Memref sig .scVector .hbm S64x256 .f32 := arg5.slice (Rect.unit (s := S8192x256) (k1_off51 i (BitVec.ofNat 32 (64 * c.val))) S64x256.size (k1_off51_inb i c)) (fun _ => rfl)
  Prog.lift (.enqueueDma arg9 (.here v39) (.dma sC.sem) harg9.wordExact (View.wordExact_bits rfl) ⟨Or.inl rfl, trivial⟩)
  Prog.lift (.waitDma2 sC.sem arg9 v39 harg9.wordExact (View.wordExact_bits rfl))
  pure ret

/-- The task's body is its four chunks, one after another. -/
theorem body_eq :
    cc1__sc_interp (F := F) i arg2 harg2 arg3 harg3 arg4 harg4 arg5 harg5 arg6 harg6 arg7 harg7 arg8 harg8 arg9 harg9 arg10 s0 s1 s2 s3 s4 s5 s6 s7 s8 s9 s10 s11
      = (chunk i arg2 arg3 arg4 arg5 arg6 harg6 arg7 arg8 harg8 arg9 harg9 arg10 0 s0 s1 s2 (Scalar.addi (Scalar.muli (BitVec.ofNat 32 (i 1).val) 2#32) (BitVec.ofNat 32 (i 0).val)) >>= fun _ =>
          chunk i arg2 arg3 arg4 arg5 arg6 harg6 arg7 arg8 harg8 arg9 harg9 arg10 1 s3 s4 s5 256#32 >>= fun _ =>
          chunk i arg2 arg3 arg4 arg5 arg6 harg6 arg7 arg8 harg8 arg9 harg9 arg10 2 s6 s7 s8 PUnit.unit >>= fun _ =>
          chunk i arg2 arg3 arg4 arg5 arg6 harg6 arg7 arg8 harg8 arg9 harg9 arg10 3 s9 s10 s11 PUnit.unit) := rfl

end Eqs

end Cert.Proof.Whole

end
-- ==== Proof.Whole.Steps.lean ====
/-
  What one trip of a chunk's loop does to the memory. `xiRow` is the value of one entry of the chunk's result: the
  weighted sum of three gathered entries. `groups_wp` runs the groups of one query's row one after another, by
  induction on how many are left; `trip_wp` is a whole trip.
-/
module

public import proofs.«01_k».proof.Proof.Whole.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.VecWindow

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev UH : Type := URounds (GSem nD τ sig) ℕ
abbrev UP : Type := URounds (GSem nD τ sig) Unit
abbrev UU : Type := (UH × UP) × Counters
local notation "𝕄" => MT nD τ sig (HIx 1) (Elt F) ℕ UU ℕ

abbrev 𝒱₀ : Variants := Variants.none

local notation "wV" => (Memref.whole Cert.KernelIdeal.cc1_scratch1 : Memref Cert.KernelIdeal.sig Kind.scVector Space.vmem Cert.KernelIdeal.S208 EltTy.f32)
local notation "rV" => (Memref.whole Cert.KernelIdeal.cc1_scratch2 : Memref Cert.KernelIdeal.sig Kind.scVector Space.vmem Cert.KernelIdeal.S192x2x128 EltTy.f32)
local notation "yV" => (Memref.whole Cert.KernelIdeal.cc1_scratch3 : Memref Cert.KernelIdeal.sig Kind.scVector Space.vmem Cert.KernelIdeal.S64x256 EltTy.f32)

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- A place of the gathered rows. -/
def ix3 (a b c : ℕ) (ha : a < 192) (hb : b < 2) (hc : c < 128) : S192x2x128.Idx := fun x =>
  ⟨![a, b, c] x, by fin_cases x <;> assumption⟩

/-- A place of the weights. -/
def ix1 (a : ℕ) (ha : a < 208) : S208.Idx := fun x => ⟨![a] x, by fin_cases x; exact ha⟩

/-- The gathered row `r` of query `j 0`, at column `j 1`. -/
def gath (j : S64x256.Idx) (r : ℕ) (hr : r < 3) : S192x2x128.Idx :=
  ix3 (3 * (j 0).val + r) ((j 1).val / 128) ((j 1).val % 128) (by have : (j 0).val < 64 := (j 0).isLt; omega)
    (by have : (j 1).val < 256 := (j 1).isLt; omega) (Nat.mod_lt _ (by decide))

/-- The weight `r` of query `j 0`. -/
def wgt (j : S64x256.Idx) (r : ℕ) (hr : r < 3) : S208.Idx :=
  ix1 (3 * (j 0).val + r) (by have : (j 0).val < 64 := (j 0).isLt; omega)

/-- One entry of a chunk's result: the weighted sum of the three gathered entries, added in order. -/
def xiRow (fw : S208.Idx → F .f32) (fr : S192x2x128.Idx → F .f32) (j : S64x256.Idx) : F .f32 :=
  FloatOps.addf (FloatOps.addf (FloatOps.mulf (fw (wgt j 0 (by decide))) (fr (gath j 0 (by decide))))
      (FloatOps.mulf (fw (wgt j 1 (by decide))) (fr (gath j 1 (by decide)))))
    (FloatOps.mulf (fw (wgt j 2 (by decide))) (fr (gath j 2 (by decide))))

theorem cast_in (r : Vec F S1x1x16 .f32) (y : S16.Idx) (x : S1x1x16.Idx) (hx : (x 2).val = (y 0).val) :
    shapeCast S16 r shapeCasts_S1x1x16_S16 y = r x := by
  refine shapeCast_apply r _ y x ?_
  have h0 : (x 0).val < 1 := (x 0).isLt
  have h1 : (x 1).val < 1 := (x 1).isLt
  refine (Shape.rowMajor_val_three (d := ![1, 1, 16]) x).trans ((?_ : _ = (y 0).val).trans (Shape.rowMajor_val_one (d := ![16]) y).symm)
  show ((x 0).val * 1 + (x 1).val) * 16 + (x 2).val = _
  omega

theorem mix_apply (w0 w1 w2 : F .f32) (r0 r1 r2 : Vec F S1x1x16 .f32) (x : S1x16.Idx) (y : S1x1x16.Idx) (hy : (y 2).val = (x 1).val) :
    mix w0 w1 w2 r0 r1 r2 x = FloatOps.addf (FloatOps.addf (FloatOps.mulf w0 (r0 y)) (FloatOps.mulf w1 (r1 y))) (FloatOps.mulf w2 (r2 y)) := by
  unfold mix
  rw [shapeCast_apply _ _ x (fun a => ⟨![(x 1).val] a, by fin_cases a; exact (x 1).isLt⟩ : S16.Idx) (by
    have h0 : (x 0).val < 1 := (x 0).isLt
    refine (Shape.rowMajor_val_one (d := ![16]) _).trans ((?_ : (x 1).val = _).trans (Shape.rowMajor_val_two (d := ![1, 16]) x).symm)
    show (x 1).val = (x 0).val * 16 + (x 1).val
    omega)]
  show FloatOps.addf (FloatOps.addf (FloatOps.mulf w0 (shapeCast S16 r0 _ _)) (FloatOps.mulf w1 (shapeCast S16 r1 _ _))) (FloatOps.mulf w2 (shapeCast S16 r2 _ _)) = _
  rw [cast_in r0 _ y hy, cast_in r1 _ y hy, cast_in r2 _ y hy]

/-- The result buffer holds the rows before `k`, and of row `k` the columns before `c`. -/
def Done (t g : S64x256.Idx → F .f32) (k c : ℕ) : Prop :=
  ∀ j : S64x256.Idx, ((j 0).val < k ∨ ((j 0).val = k ∧ (j 1).val < c)) → g j = t j

theorem done_step {fw : S208.Idx → F .f32} {fr : S192x2x128.Idx → F .f32} {g : S64x256.Idx → F .f32} {k tt : ℕ} (hk : k < 64) (ht : tt < 16)
    (hg : Done (xiRow fw fr) g k (16 * tt)) {w0 w1 w2 : F .f32} (hw0 : w0 = fw (ix1 (3 * k) (by omega)))
    (hw1 : w1 = fw (ix1 (3 * k + 1) (by omega))) (hw2 : w2 = fw (ix1 (3 * k + 2) (by omega))) :
    Done (xiRow fw fr) ((yV).view.writes (Elt F) g [⟨Rect.unit (s := S64x256) (offC k tt) S1x16.size (offC_inb hk ht),
      mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr)⟩])
      k (16 * (tt + 1)) := by
  intro j hj
  have hiv := iv_toNat hk
  have hq := qRow_toNat hk
  by_cases hin : (j 0).val = k ∧ 16 * tt ≤ (j 1).val
  · obtain ⟨h0, h1⟩ := hin
    have h2 : (j 1).val < 16 * (tt + 1) := by omega
    have e := View.read_writes_cons_hit_of_coords (Val := Elt F) (yV).view g (Rect.unit (s := S64x256) (offC k tt) S1x16.size (offC_inb hk ht))
      (mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr))
      [] (fun a => ⟨![0, (j 1).val - 16 * tt] a, by fin_cases a <;> [exact Nat.one_pos; (show (j 1).val - 16 * tt < 16; omega)]⟩) j
      (by
        intro a; fin_cases a
        · show (j 0).val = (Scf.iv 0#32 1#32 k).toNat + 1 * 0; omega
        · show (j 1).val = 16 * tt + 1 * ((j 1).val - 16 * tt); omega)
    refine Eq.trans e ?_
    rw [mix_apply _ _ _ _ _ _ _ (fun a => ⟨![0, 0, (j 1).val - 16 * tt] a, by fin_cases a <;> [exact Nat.one_pos; exact Nat.one_pos; (show (j 1).val - 16 * tt < 16; omega)]⟩) rfl]
    subst hw0 hw1 hw2
    refine congrArg₂ _ (congrArg₂ _ (congrArg₂ _ (congrArg fw ?_) (congrArg fr ?_)) (congrArg₂ _ (congrArg fw ?_) (congrArg fr ?_)))
      (congrArg₂ _ (congrArg fw ?_) (congrArg fr ?_))
    all_goals
      funext a
      apply Fin.ext
      fin_cases a
    · show 3 * k = 3 * (j 0).val + 0; omega
    · show (qRow k).toNat + 1 * 0 = 3 * (j 0).val + 0; omega
    · show tt / 8 + 1 * 0 = (j 1).val / 128; omega
    · show 16 * (tt % 8) + 1 * ((j 1).val - 16 * tt) = (j 1).val % 128; omega
    · show 3 * k + 1 = 3 * (j 0).val + 1; omega
    · show (Scalar.addi (qRow k) 1#32).toNat + 1 * 0 = 3 * (j 0).val + 1
      rw [qRowB_toNat hk _ (by decide)]; show 3 * k + 1 + 1 * 0 = _; omega
    · show tt / 8 + 1 * 0 = (j 1).val / 128; omega
    · show 16 * (tt % 8) + 1 * ((j 1).val - 16 * tt) = (j 1).val % 128; omega
    · show 3 * k + 2 = 3 * (j 0).val + 2; omega
    · show (Scalar.addi (qRow k) 2#32).toNat + 1 * 0 = 3 * (j 0).val + 2
      rw [qRowB_toNat hk _ (by decide)]; show 3 * k + 2 + 1 * 0 = _; omega
    · show tt / 8 + 1 * 0 = (j 1).val / 128; omega
    · show 16 * (tt % 8) + 1 * ((j 1).val - 16 * tt) = (j 1).val % 128; omega
  · have e := View.read_writes_cons_miss (Val := Elt F) (yV).view g ⟨Rect.unit (s := S64x256) (offC k tt) S1x16.size (offC_inb hk ht),
      (mix w0 w1 w2
        ((rV).view.readAt (Elt F) (Rect.unit (s := S192x2x128) (offA k tt) S1x1x16.size (offA_inb hk ht)).toLoadRect fr)
        ((rV).view.readAt (Elt F) (Rect.unit (s := S192x2x128) (offB k 1#32 tt) S1x1x16.size (offB_inb hk _ (by decide) ht)).toLoadRect fr)
        ((rV).view.readAt (Elt F) (Rect.unit (s := S192x2x128) (offB k 2#32 tt) S1x1x16.size (offB_inb hk _ (by decide) ht)).toLoadRect fr))⟩
      [] j (by
        by_cases h0 : (j 0).val = k
        · refine Rect.not_mem_set_of_axis _ j 1 (16 * tt) 16 rfl rfl rfl (Or.inl (by omega))
        · refine Rect.not_mem_set_of_axis _ j 0 k 1 hiv rfl rfl ?_
          omega)
    refine Eq.trans e ?_
    exact hg j (by omega)

theorem groups_wp (k : ℕ) (hk : k < 64) (w0 w1 w2 : F .f32) (fw : S208.Idx → F .f32) (fr : Buf (Elt F) ((rV).view.loc (thr d L)))
    (hw0 : w0 = fw (ix1 (3 * k) (by omega))) (hw1 : w1 = fw (ix1 (3 * k + 1) (by omega))) (hw2 : w2 = fw (ix1 (3 * k + 2) (by omega))) :
    ∀ (n tt : ℕ) (h : tt + n = 16) (g : Buf (Elt F) ((yV).view.loc (thr d L))) (hg : Done (xiRow fw fr) g k (16 * tt)),
    iprop(((rV).view.loc (thr d L) ↦{fullShare} fr) ∗ ((yV).view.loc (thr d L) ↦{fullShare} g))
      ⊢ (wp frame (wpE (defs₀ (F := F)) 𝒱₀ (thr d L) none) Set.univ (groups L rV yV k hk w0 w1 w2 n tt h)
          fun _ => iprop(((rV).view.loc (thr d L) ↦{fullShare} fr) ∗ ∃ g' : Buf (Elt F) ((yV).view.loc (thr d L)), ⌜Done (xiRow fw fr) g' (k + 1) 0⌝ ∗ ((yV).view.loc (thr d L) ↦{fullShare} g')) : sProp 𝕄) := by
  intro n
  induction n with
  | zero =>
    intro tt h g hg
    unfold groups
    iintro ⟨Hr, Hy⟩
    sl_step
    isplitl [Hr]; · iexact Hr
    iexists g; isplit
    · ipureintro
      intro j hj
      have : (j 1).val < 256 := (j 1).isLt
      exact hg j (by omega)
    iexact Hy
  | succ n ih =>
    intro tt h g hg
    have hstep := done_step hk (by omega : tt < 16) hg hw0 hw1 hw2
    unfold groups
    iintro ⟨Hr, Hy⟩
    sl_exec
    isplitl [Hgroups_0]; · iexact Hgroups_0
    iexists g'groups_0
    isplit; · ipureintro; exact hgroups_1
    iexact Hgroups_2

theorem trip_wp (k : ℕ) (hk : k < 64) (fw : Buf (Elt F) ((wV).view.loc (thr d L))) (fr : Buf (Elt F) ((rV).view.loc (thr d L)))
    (g : Buf (Elt F) ((yV).view.loc (thr d L))) (hg : Done (xiRow fw fr) g k 0) :
    iprop(((wV).view.loc (thr d L) ↦{fullShare} fw) ∗ ((rV).view.loc (thr d L) ↦{fullShare} fr) ∗ ((yV).view.loc (thr d L) ↦{fullShare} g))
      ⊢ (wp frame (wpE (defs₀ (F := F)) 𝒱₀ (thr d L) none) Set.univ (trip L wV rV yV k hk)
          fun _ => iprop(((wV).view.loc (thr d L) ↦{fullShare} fw) ∗ ((rV).view.loc (thr d L) ↦{fullShare} fr) ∗ ∃ g' : Buf (Elt F) ((yV).view.loc (thr d L)), ⌜Done (xiRow fw fr) g' (k + 1) 0⌝ ∗ ((yV).view.loc (thr d L) ↦{fullShare} g')) : sProp 𝕄) := by
  have hq := qRow_toNat hk
  have h0 : k1_pay3 ((wV).view.readAt (Elt F) (Rect.unit (s := S208) ![(Scalar.indexCast (qRow k)).toNat] S16.size (offW_inb hk)).toLoadRect fw) = fw (ix1 (3 * k) (by omega)) := by
    unfold k1_pay3 k1_pay2
    rw [shapeCast_self]
    refine congrArg fw (funext fun a => Fin.ext ?_)
    fin_cases a
    show (qRow k).toNat + 1 * (0 + 0) = 3 * k
    omega
  have h1 : k1_pay4 ((wV).view.readAt (Elt F) (Rect.unit (s := S208) ![(Scalar.indexCast (qRow k)).toNat] S16.size (offW_inb hk)).toLoadRect fw) = fw (ix1 (3 * k + 1) (by omega)) := by
    unfold k1_pay4 k1_pay2
    rw [shapeCast_self]
    refine congrArg fw (funext fun a => Fin.ext ?_)
    fin_cases a
    show (qRow k).toNat + 1 * (1 + 0) = 3 * k + 1
    omega
  have h2 : k1_pay5 ((wV).view.readAt (Elt F) (Rect.unit (s := S208) ![(Scalar.indexCast (qRow k)).toNat] S16.size (offW_inb hk)).toLoadRect fw) = fw (ix1 (3 * k + 2) (by omega)) := by
    unfold k1_pay5 k1_pay2
    rw [shapeCast_self]
    refine congrArg fw (funext fun a => Fin.ext ?_)
    fin_cases a
    show (qRow k).toNat + 1 * (2 + 0) = 3 * k + 2
    omega
  have hgr := groups_wp d L k hk _ _ _ fw fr h0 h1 h2 16 0 rfl
  unfold trip
  iintro ⟨Hw, Hr, Hy⟩
  sl_exec
  isplitl [Hw]; · iexact Hw
  isplitl [Hgroups_0]; · iexact Hgroups_0
  iexists g'groups_0
  isplit; · ipureintro; exact hgroups_1
  iexact Hgroups_2

/-- What a chunk's loop holds between its trips: the weights and the gathered rows, and the result's first `k` rows done. -/
def LInv (fw : Buf (Elt F) ((wV).view.loc (thr d L))) (fr : Buf (Elt F) ((rV).view.loc (thr d L))) (k : ℕ) (_ : BitVec 32) : sProp 𝕄 :=
  iprop(((wV).view.loc (thr d L) ↦{fullShare} fw) ∗ ((rV).view.loc (thr d L) ↦{fullShare} fr) ∗ ∃ g : Buf (Elt F) ((yV).view.loc (thr d L)), ⌜Done (xiRow fw fr) g k 0⌝ ∗ ((yV).view.loc (thr d L) ↦{fullShare} g))

theorem loop_trip (fw : Buf (Elt F) ((wV).view.loc (thr d L))) (fr : Buf (Elt F) ((rV).view.loc (thr d L))) (k : Fin k1_t1_loop.trips) (acc : BitVec 32) :
    LInv d L fw fr k.val acc ⊢ (wp frame (wpE (defs₀ (F := F)) 𝒱₀ (thr d L) none) Set.univ (trip L wV rV yV k.val (lt_of_lt_of_eq k.isLt trips_eq)) (LInv d L fw fr (k.val + 1)) : sProp 𝕄) := by
  unfold LInv
  iintro ⟨Hw, Hr, %g, %hg, Hy⟩
  iapply (trip_wp d L k.val (lt_of_lt_of_eq k.isLt trips_eq) fw fr g hg)
  isplitl [Hw]; · iexact Hw
  isplitl [Hr]; · iexact Hr
  iexact Hy

end Cert.Proof.Whole

end
-- ==== Proof.Whole.Chunk.lean ====
/-
  One chunk of a task, with values: the chunk's indices and weights arrive, the rows the indices name are gathered,
  the loop fills the result rows (`Steps.lean`), the result rows go out to the chunk's block of the output array.
-/
module

public import proofs.«01_k».proof.Proof.Whole.Steps
public import Idealize.ShloMosaic.Lib.SparseCore.FromWhole

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v2_scv : Memref Cert.KernelIdeal.sig Kind.scVector Space.hbm Cert.KernelIdeal.S2048x2x128 EltTy.f32)
local notation "iV" => (Memref.whole Cert.KernelIdeal.main_v3_scv : Memref Cert.KernelIdeal.sig Kind.scVector Space.hbm Cert.KernelIdeal.S24576 EltTy.i32)
local notation "nV" => (Memref.whole Cert.KernelIdeal.main_v4_scv : Memref Cert.KernelIdeal.sig Kind.scVector Space.hbm Cert.KernelIdeal.S24576 EltTy.f32)
local notation "oV" => (Memref.whole Cert.KernelIdeal.main_v5_scv : Memref Cert.KernelIdeal.sig Kind.scVector Space.hbm Cert.KernelIdeal.S8192x256 EltTy.f32)
local notation "sV" => (Memref.whole Cert.KernelIdeal.cc1_scratch0 : Memref Cert.KernelIdeal.sig Kind.scVector Space.vmem Cert.KernelIdeal.S192 EltTy.i32)
local notation "wV" => (Memref.whole Cert.KernelIdeal.cc1_scratch1 : Memref Cert.KernelIdeal.sig Kind.scVector Space.vmem Cert.KernelIdeal.S208 EltTy.f32)
local notation "rV" => (Memref.whole Cert.KernelIdeal.cc1_scratch2 : Memref Cert.KernelIdeal.sig Kind.scVector Space.vmem Cert.KernelIdeal.S192x2x128 EltTy.f32)
local notation "yV" => (Memref.whole Cert.KernelIdeal.cc1_scratch3 : Memref Cert.KernelIdeal.sig Kind.scVector Space.vmem Cert.KernelIdeal.S64x256 EltTy.f32)

variable (d : Dev nD) (L : grid1.Coords)

/-- The block of the output array that chunk `c` of task `L` writes, as the task addresses it. -/
abbrev oChunk (L : grid1.Coords) (c : Fin 4) : Memref sig .scVector .hbm S64x256 .f32 :=
  (oV).slice (Rect.unit (s := S8192x256) (k1_off51 L (BitVec.ofNat 32 (64 * c.val))) S64x256.size (k1_off51_inb L c)) (fun _ => rfl)
/-- The chunk's indices, and its weights. -/
abbrev iChunk (L : grid1.Coords) (c : Fin 4) : Memref sig .scVector .hbm S192 .i32 :=
  (iV).slice (Rect.unit (s := S24576) (k1_off1 L (BitVec.ofNat 32 (192 * c.val))) S192.size (k1_off1_inb L c)) (fun _ => rfl)
abbrev nChunk (L : grid1.Coords) (c : Fin 4) : Memref sig .scVector .hbm S192 .f32 :=
  (nV).slice (Rect.unit (s := S24576) (k1_off1 L (BitVec.ofNat 32 (192 * c.val))) S192.size (k1_off1_inb L c)) (fun _ => rfl)
/-- The table as the task addresses it. -/
abbrev xAll : Memref sig .scVector .hbm S2048x2x128 .f32 :=
  (xV).slice (Rect.unit (s := S2048x2x128) ![0, 0, 0] S2048x2x128.size inb_S2048x2x128_S2048x2x128_0_0_0) (fun _ => rfl)
/-- The part of the weight scratch that the chunk's weights fill. -/
abbrev wPart : Memref sig .scVector .vmem S192 .f32 :=
  (wV).slice (Rect.unit (s := S208) ![0] S192.size inb_S208_S192_0) (fun _ => rfl)

theorem ret_bind_eq {E : Type → Type} {α β : Type} (a : α) (k : α → Prog E β) : (Prog.ret a).bind k = k a := rfl

theorem inb_idx (c : Fin 4) (fi : Buf (Elt F) ((iV).view.loc (thr d L))) (hfi : ∀ j : S24576.Idx, (fi j : BitVec 32).toNat < 2048)
    (fs : Buf (Elt F) ((sV).view.loc (thr d L))) (pay : S192.Idx → Elt F .i32) (hpay : pay = (iChunk L c).view.read (Elt F) fi) :
    ∀ x, ((sV).view.read (Elt F) (View.write (Elt F) (sV).view fs pay Finset.univ) x).toNat < S2048x2x128.size gathers_S2048x2x128_S192x2x128.axis := by
  subst hpay; intro x
  rw [View.write_whole_univ]
  simp only [Memref.view_whole, View.read_whole]
  rw [show ∀ j, (iChunk L c).view.read (Elt F) fi j = fi ((iChunk L c).view.emb j) from fun j => (View.read_apply _ _).trans (cast_eq _ _)]
  exact hfi _

/-- What the weight scratch holds after the chunk's weights have arrived, and the row scratch after the gather. -/
def wLand (c : Fin 4) (fn : Buf (Elt F) ((nV).view.loc (thr d L))) (fw : Buf (Elt F) ((wV).view.loc (thr d L))) : Buf (Elt F) ((wV).view.loc (thr d L)) :=
  (wV).view.writes (Elt F) fw [⟨Rect.unit (s := S208) ![0] S192.size inb_S208_S192_0, (nChunk L c).view.read (Elt F) fn⟩]

def rLand (c : Fin 4) (fx : Buf (Elt F) ((xV).view.loc (thr d L))) (fi : Buf (Elt F) ((iV).view.loc (thr d L))) (hfi : ∀ j : S24576.Idx, (fi j : BitVec 32).toNat < 2048)
    (fs : Buf (Elt F) ((sV).view.loc (thr d L))) (fr : Buf (Elt F) ((rV).view.loc (thr d L))) : Buf (Elt F) ((rV).view.loc (thr d L)) :=
  View.write (Elt F) (rV).view fr
      (SparseCore.gatherPayload gathers_S2048x2x128_S192x2x128 (xAll.view.read (Elt F) fx)
        (SparseCore.rows ((sV).view.read (Elt F) (View.write (Elt F) (sV).view fs ((iChunk L c).view.read (Elt F) fi) Finset.univ)) rfl
          (inb_idx d L c fi hfi fs _ rfl))) Finset.univ

/-- A place of the table's column `b` of row `a`, and a place of the index and weight lists. -/
def ixX (a b : ℕ) (ha : a < 2048) (hb : b < 256) : S2048x2x128.Idx := fun x =>
  ⟨![a, b / 128, b % 128] x, by
    fin_cases x
    · exact ha
    · show b / 128 < 2; omega
    · exact Nat.mod_lt _ (by decide)⟩
def ixN (a : ℕ) (ha : a < 24576) : S24576.Idx := fun x => ⟨![a] x, by fin_cases x; exact ha⟩

/-- One term of an interpolated entry: the weight `r` of query `j 0`, times the entry of the row its index names. -/
def xiTerm (fx : S2048x2x128.Idx → F .f32) (fi : S24576.Idx → BitVec 32) (fn : S24576.Idx → F .f32) (j : S8192x256.Idx) (r : ℕ) (hr : r < 3) : F .f32 :=
  have hq : 3 * (j 0).val + r < 24576 := by have : (j 0).val < 8192 := (j 0).isLt; omega
  FloatOps.mulf (fn (ixN (3 * (j 0).val + r) hq))
    (fx (ixX ((fi (ixN (3 * (j 0).val + r) hq)).toNat % 2048) (j 1).val (Nat.mod_lt _ (by decide)) (j 1).isLt))

/-- The whole output: every entry the weighted sum of three table entries, added in order. -/
def xiAll (fx : S2048x2x128.Idx → F .f32) (fi : S24576.Idx → BitVec 32) (fn : S24576.Idx → F .f32) (j : S8192x256.Idx) : F .f32 :=
  FloatOps.addf (FloatOps.addf (xiTerm fx fi fn j 0 (by decide)) (xiTerm fx fi fn j 1 (by decide))) (xiTerm fx fi fn j 2 (by decide))

theorem oChunk_emb_zero (c : Fin 4) (y : S64x256.Idx) : ((oChunk L c).view.emb y 0).val = 512 * (L 1).val + 256 * (L 0).val + 64 * c.val + (y 0).val := by
  show (k1_off51 L (BitVec.ofNat 32 (64 * c.val))) 0 + 1 * (y 0).val = _
  rw [k1_off51_eq]; show 512 * (L 1).val + 256 * (L 0).val + 64 * c.val + 1 * (y 0).val = _; omega
theorem oChunk_emb_one (c : Fin 4) (y : S64x256.Idx) : ((oChunk L c).view.emb y 1).val = (y 1).val := by
  show (k1_off51 L (BitVec.ofNat 32 (64 * c.val))) 1 + 1 * (y 1).val = _
  rw [k1_off51_eq]; show 0 + 1 * (y 1).val = _; omega
theorem iChunk_emb (c : Fin 4) (y : S192.Idx) : ((iChunk L c).view.emb y 0).val = 1536 * (L 1).val + 768 * (L 0).val + 192 * c.val + (y 0).val := by
  show (k1_off1 L (BitVec.ofNat 32 (192 * c.val))) 0 + 1 * (y 0).val = _
  rw [k1_off1_eq]; show 1536 * (L 1).val + 768 * (L 0).val + 192 * c.val + 1 * (y 0).val = _; omega
theorem nChunk_emb (c : Fin 4) (y : S192.Idx) : ((nChunk L c).view.emb y 0).val = 1536 * (L 1).val + 768 * (L 0).val + 192 * c.val + (y 0).val := by
  show (k1_off1 L (BitVec.ofNat 32 (192 * c.val))) 0 + 1 * (y 0).val = _
  rw [k1_off1_eq]; show 1536 * (L 1).val + 768 * (L 0).val + 192 * c.val + 1 * (y 0).val = _; omega

/-- A place of a list of 192. -/
def ixS (a : ℕ) (ha : a < 192) : S192.Idx := fun x => ⟨![a] x, by fin_cases x; exact ha⟩

/-- The weight scratch at weight `r` of the chunk's query `y 0`: the list's weight `r` of that query. -/
theorem wLand_apply (c : Fin 4) (fn : Buf (Elt F) ((nV).view.loc (thr d L))) (fw : Buf (Elt F) ((wV).view.loc (thr d L))) (y : S64x256.Idx) (r : ℕ) (hr : r < 3)
    (h : 3 * ((oChunk L c).view.emb y 0).val + r < 24576) :
    wLand d L c fn fw (wgt y r hr) = fn (ixN (3 * ((oChunk L c).view.emb y 0).val + r) h) := by
  have hy : (y 0).val < 64 := (y 0).isLt
  have e := View.read_writes_cons_hit_of_coords (Val := Elt F) (wV).view fw (Rect.unit (s := S208) ![0] S192.size inb_S208_S192_0)
    ((nChunk L c).view.read (Elt F) fn) [] (ixS (3 * (y 0).val + r) (by omega)) (wgt y r hr) (by
      intro a; fin_cases a
      show 3 * (y 0).val + r = 0 + 1 * (3 * (y 0).val + r); omega)
  refine Eq.trans e ?_
  refine ((View.read_apply _ _).trans (cast_eq _ _)).trans (congrArg fn (funext fun a => Fin.ext ?_))
  fin_cases a
  refine (nChunk_emb L c _).trans ?_
  have h0 := oChunk_emb_zero L c y
  show 1536 * (L 1).val + 768 * (L 0).val + 192 * c.val + (3 * (y 0).val + r) = 3 * ((oChunk L c).view.emb y 0).val + r
  omega

/-- The gathered row `r` of the chunk's query `y 0`, at column `y 1`: the table's row that the list's index names. -/
theorem rLand_apply (c : Fin 4) (fx : Buf (Elt F) ((xV).view.loc (thr d L))) (fi : Buf (Elt F) ((iV).view.loc (thr d L))) (hfi : ∀ j : S24576.Idx, (fi j : BitVec 32).toNat < 2048)
    (fs : Buf (Elt F) ((sV).view.loc (thr d L))) (fr : Buf (Elt F) ((rV).view.loc (thr d L))) (y : S64x256.Idx) (r : ℕ) (hr : r < 3)
    (h : 3 * ((oChunk L c).view.emb y 0).val + r < 24576) :
    rLand d L c fx fi hfi fs fr (gath y r hr)
      = fx (ixX ((fi (ixN (3 * ((oChunk L c).view.emb y 0).val + r) h) : BitVec 32).toNat % 2048) ((oChunk L c).view.emb y 1).val (Nat.mod_lt _ (by decide)) ((oChunk L c).view.emb y 1).isLt) := by
  have hy : (y 0).val < 64 := (y 0).isLt
  have hy1 : (y 1).val < 256 := (y 1).isLt
  unfold rLand
  rw [View.write_whole_univ (cc1_scratch2 : Ref sig .scVector)]
  unfold SparseCore.gatherPayload
  refine ((View.read_apply _ _).trans (cast_eq _ _)).trans (congrArg fx (funext fun a => Fin.ext ?_))
  have h0 := oChunk_emb_zero L c y
  have h1 := oChunk_emb_one L c y
  fin_cases a
  · show 0 + 1 * (Shape.Gathers.idx gathers_S2048x2x128_S192x2x128 _ (gath y r hr) (gathers_S2048x2x128_S192x2x128).axis).val = _
    rw [Shape.Gathers.idx_axis]
    show 0 + 1 * ((sV).view.read (Elt F) (View.write (Elt F) (sV).view fs ((iChunk L c).view.read (Elt F) fi) Finset.univ)
        (S192.rowMajor.symm ⟨3 * (y 0).val + r, _⟩)).toNat = (fi (ixN (3 * ((oChunk L c).view.emb y 0).val + r) h) : BitVec 32).toNat % 2048
    rw [View.write_whole_univ (cc1_scratch0 : Ref sig .scVector)]
    have e : ∀ k : Fin S192.numel, k.val = 3 * (y 0).val + r →
        (iChunk L c).view.read (Elt F) fi (S192.rowMajor.symm k) = fi (ixN (3 * ((oChunk L c).view.emb y 0).val + r) h) := by
      intro k hk
      refine ((View.read_apply _ _).trans (cast_eq _ _)).trans (congrArg fi (funext fun a => Fin.ext ?_))
      fin_cases a
      refine (iChunk_emb L c _).trans ?_
      have hz : ((S192.rowMajor.symm k) 0).val = 3 * (y 0).val + r := by
        have := Shape.rowMajor_val_one (d := ![192]) (S192.rowMajor.symm k)
        exact (this.symm.trans (congrArg Fin.val (Equiv.apply_symm_apply S192.rowMajor k))).trans hk
      show _ = 3 * ((oChunk L c).view.emb y 0).val + r
      omega
    rw [Nat.mod_eq_of_lt (hfi _), Nat.zero_add, Nat.one_mul]
    exact congrArg BitVec.toNat (e _ rfl)
  · show 0 + 1 * (Shape.Gathers.idx gathers_S2048x2x128_S192x2x128 _ (gath y r hr) 1).val = ((oChunk L c).view.emb y 1).val / 128
    rw [Shape.Gathers.idx_of_ne _ _ _ _ (by decide), h1, Nat.zero_add, Nat.one_mul]
    rfl
  · show 0 + 1 * (Shape.Gathers.idx gathers_S2048x2x128_S192x2x128 _ (gath y r hr) 2).val = ((oChunk L c).view.emb y 1).val % 128
    rw [Shape.Gathers.idx_of_ne _ _ _ _ (by decide), h1, Nat.zero_add, Nat.one_mul]
    rfl

/-- A chunk's result rows are the output's rows at the chunk's block. -/
theorem chunk_value (c : Fin 4) (fx : Buf (Elt F) ((xV).view.loc (thr d L))) (fi : Buf (Elt F) ((iV).view.loc (thr d L))) (hfi : ∀ j : S24576.Idx, (fi j : BitVec 32).toNat < 2048)
    (fn : Buf (Elt F) ((nV).view.loc (thr d L))) (fs : Buf (Elt F) ((sV).view.loc (thr d L))) (fw : Buf (Elt F) ((wV).view.loc (thr d L)))
    (fr : Buf (Elt F) ((rV).view.loc (thr d L))) (y : S64x256.Idx) :
    xiRow (wLand d L c fn fw) (rLand d L c fx fi hfi fs fr) y = xiAll (F := F) fx fi fn ((oChunk L c).view.emb y) := by
  have hq : ((oChunk L c).view.emb y 0).val < 8192 := ((oChunk L c).view.emb y 0).isLt
  unfold xiRow xiAll xiTerm
  rw [wLand_apply d L c fn fw y 0 _ (by omega), wLand_apply d L c fn fw y 1 _ (by omega), wLand_apply d L c fn fw y 2 _ (by omega),
    rLand_apply d L c fx fi hfi fs fr y 0 _ (by omega), rLand_apply d L c fx fi hfi fs fr y 1 _ (by omega), rLand_apply d L c fx fi hfi fs fr y 2 _ (by omega)]

set_option maxHeartbeats 4000000 in
theorem chunk_wp {α : Type} (c : Fin 4) (sA sB sC : DmaSems sig S_) (ret : α) (qx qi qn : PosShare TreeShare)
    (fx : Buf (Elt F) ((xV).view.loc (thr d L))) (fi : Buf (Elt F) ((iV).view.loc (thr d L))) (fn : Buf (Elt F) ((nV).view.loc (thr d L)))
    (fo : Buf (Elt F) ((oV).view.loc (thr d L)))
    (fs : Buf (Elt F) ((sV).view.loc (thr d L))) (fw : Buf (Elt F) ((wV).view.loc (thr d L)))
    (fr : Buf (Elt F) ((rV).view.loc (thr d L))) (fy : Buf (Elt F) ((yV).view.loc (thr d L)))
    (hfi : ∀ j : S24576.Idx, (fi j : BitVec 32).toNat < 2048)
    (O : CellTallies nD τ sig (HIx 1)) (W : Waits sig (HIx 1)) :
    iprop(Transfers.MayWaits (thr d L) (default : HIx 1) O
        ∗ ((xV).view.loc (thr d L) ↦{qx} fx) ∗ ((iV).view.loc (thr d L) ↦{qi} fi) ∗ ((nV).view.loc (thr d L) ↦{qn} fn)
        ∗ ((oChunk L c).view.loc (thr d L) ↦[(oChunk L c).view.set]{fullShare} fo)
        ∗ ((sV).view.loc (thr d L) ↦{fullShare} fs) ∗ ((wV).view.loc (thr d L) ↦{fullShare} fw)
        ∗ ((rV).view.loc (thr d L) ↦{fullShare} fr) ∗ ((yV).view.loc (thr d L) ↦{fullShare} fy)
        ∗ semVal (thr d L, .dma sA.sem) 0 ∗ semVal (thr d L, .dma sB.sem) 0 ∗ semVal (thr d L, .dma sC.sem) 0
        ∗ semVal (thr d L, .dma cc1_scratch4.sem) 0 ∗ owes (thr d L) O W)
      ⊢ (wp frame (wpE (defs₀ (F := F)) 𝒱₀ (thr d L) none) Set.univ
          (chunk L xV iV nV oV sV (Memref.isWhole_whole _) wV rV (Memref.isWhole_whole _) yV (Memref.isWhole_whole _) cc1_scratch4 c sA sB sC ret)
          fun _ => iprop(((xV).view.loc (thr d L) ↦{qx} fx) ∗ ((iV).view.loc (thr d L) ↦{qi} fi) ∗ ((nV).view.loc (thr d L) ↦{qn} fn)
            ∗ ((oChunk L c).view.loc (thr d L) ↦[(oChunk L c).view.set]{fullShare} xiAll (F := F) fx fi fn)
            ∗ (∃ f, (sV).view.loc (thr d L) ↦{fullShare} f) ∗ (∃ f, (wV).view.loc (thr d L) ↦{fullShare} f)
            ∗ (∃ f, (rV).view.loc (thr d L) ↦{fullShare} f) ∗ (∃ f, (yV).view.loc (thr d L) ↦{fullShare} f)
            ∗ semVal (thr d L, .dma sA.sem) 0 ∗ semVal (thr d L, .dma sB.sem) 0 ∗ semVal (thr d L, .dma sC.sem) 0
            ∗ semVal (thr d L, .dma cc1_scratch4.sem) 0 ∗ ∃ W', ⌜∀ p ∈ W', p ∈ W ∨ p.2 = none⌝ ∗ owes (thr d L) O W') : sProp 𝕄) := by
  unfold chunk
  iintro ⟨#Hmw, Hx, Hi, Hn, Ho, Hs, Hw, Hr, Hy, HA, HB, HC, HG, HO⟩
  sl_exec
  have hN : ∀ h : S2048x2x128.Gathers 0 S192x2x128, ∑ j, ((rV).slice (S192x2x128.rowRect h.axis' j) (S192x2x128.stride_rowRect h.axis' j)).view.dmaCredit
      = (rV).view.dmaCredit := by decide +kernel
  iapply (SparseCore.wp_gatherFromWhole countersEmb 𝒱₀ (thr d L) none (hg := gathers_S2048x2x128_S192x2x128) (src := xAll) (dst := rV) (offs := sV) (default : HIx 1)
      (rV).view.dmaCredit (hN _) (by decide) (inb_idx d L c fi hfi fs _ rfl)) $$ [Hx Hr Hs HG]
  · isplitl [Hx]; · iexact Hx
    isplitl [Hr]; · iexact Hr
    isplitl [Hs]; · iexact Hs
    iexact HG
  iintro Hfl
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hr, Hx, Hs⟩, HG, HO⟩
  rw [ret_bind_eq]
  sl_for (LInv d L (wLand d L c fn fw) (rLand d L c fx fi hfi fs fr)) $$ [Hw Hr Hy]
  case region => intro k acc; exact loop_trip d L _ _ k acc
  · unfold LInv
    isplitl [Hw]; · iexact Hw
    isplitl [Hr]; · iexact Hr
    iexists fy
    isplit; · ipureintro; intro j hj; omega
    iexact Hy
  iintro %acc HI
  unfold LInv
  icases HI with ⟨Hw, Hr, %g, %hg, Hy⟩
  sl_exec
  sl_step
  have hval : ∀ i ∈ (oChunk L c).view.set, (oChunk L c).view.writes (Elt F) fo [⟨Rect.whole S64x256, chunk_wp.sl.dma0_2 d L g⟩] i = xiAll (F := F) fx fi fn i := by
    intro i hi
    obtain ⟨y, rfl⟩ : ∃ y, (oChunk L c).view.emb y = i := by
      obtain ⟨y, -, e⟩ := Finset.mem_map.mp hi
      exact ⟨y, e⟩
    have e := View.read_writes_cons_emb (Val := Elt F) (oChunk L c).view fo (Rect.whole S64x256) (chunk_wp.sl.dma0_2 d L g) [] y
    rw [Rect.emb_whole_apply] at e
    refine (((View.read_apply _ _).trans (cast_eq _ _)).symm.trans e).trans ?_
    refine (hg y (Or.inl ?_)).trans (chunk_value d L c fx fi hfi fn fs fw fr y)
    exact lt_of_lt_of_eq (y 0).isLt trips_eq.symm
  ihave Ho := (Entails.of_eq (pointsTo_congr hval)) $$ Ho
  isplitl [Hx]; · iexact Hx
  isplitl [Hi]; · iexact Hi
  isplitl [Hn]; · iexact Hn
  isplitl [Ho]; · iexact Ho
  isplitl [Hs]; · iexists _; iexact Hs
  isplitl [Hw]; · iexists _; iexact Hw
  isplitl [Hr]; · iexists _; iexact Hr
  isplitl [Hy]; · iexists g; iexact Hy
  isplitl [HA]; · iexact HA
  isplitl [HB]; · iexact HB
  isplitl [HC]; · iexact HC
  isplitl [HG]; · iexact HG
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Whole

end
-- ==== Proof.Whole.Tile.lean ====
/-
  A task as the launch sees it: its semaphores and scratch buffers among the subcore's own, its body as four chunks
  (`Chunk.lean`) one after another, and the obligation the launch asks of it.
-/
module

public import proofs.«01_k».proof.Proof.Whole.Chunk

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v2_scv : Memref Cert.KernelIdeal.sig Kind.scVector Space.hbm Cert.KernelIdeal.S2048x2x128 EltTy.f32)
local notation "iV" => (Memref.whole Cert.KernelIdeal.main_v3_scv : Memref Cert.KernelIdeal.sig Kind.scVector Space.hbm Cert.KernelIdeal.S24576 EltTy.i32)
local notation "nV" => (Memref.whole Cert.KernelIdeal.main_v4_scv : Memref Cert.KernelIdeal.sig Kind.scVector Space.hbm Cert.KernelIdeal.S24576 EltTy.f32)
local notation "sV" => (Memref.whole Cert.KernelIdeal.cc1_scratch0 : Memref Cert.KernelIdeal.sig Kind.scVector Space.vmem Cert.KernelIdeal.S192 EltTy.i32)
local notation "wV" => (Memref.whole Cert.KernelIdeal.cc1_scratch1 : Memref Cert.KernelIdeal.sig Kind.scVector Space.vmem Cert.KernelIdeal.S208 EltTy.f32)
local notation "rV" => (Memref.whole Cert.KernelIdeal.cc1_scratch2 : Memref Cert.KernelIdeal.sig Kind.scVector Space.vmem Cert.KernelIdeal.S192x2x128 EltTy.f32)
local notation "yV" => (Memref.whole Cert.KernelIdeal.cc1_scratch3 : Memref Cert.KernelIdeal.sig Kind.scVector Space.vmem Cert.KernelIdeal.S64x256 EltTy.f32)
local notation "oV" => (Memref.whole Cert.KernelIdeal.main_v5_scv : Memref Cert.KernelIdeal.sig Kind.scVector Space.hbm Cert.KernelIdeal.S8192x256 EltTy.f32)

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The arrays the call works on. -/
abbrev xLoc (d : Dev nD) : Loc nD τ sig := (SparseCore.T d).loc main_v2
abbrev iLoc (d : Dev nD) : Loc nD τ sig := (SparseCore.T d).loc main_v3
abbrev nLoc (d : Dev nD) : Loc nD τ sig := (SparseCore.T d).loc main_v4
abbrev oLoc (d : Dev nD) : Loc nD τ sig := (SparseCore.T d).loc main_v5

variable (d : Dev nD) (L : grid1.Coords)

/-! ## The task's semaphores and scratch buffers -/

omit [FloatOps F] [Named F] in
theorem semIdx_lt (k : Fin 13) : 7 + k.val < 31 := by omega

/-- A place of the task's DMA semaphores, from the thirteen numbers (the first seven of the pool serve another call). -/
def semCell (k : Fin 13) : GSem nD τ sig := (thr d L, .dma ⟨7 + k.val, semIdx_lt k⟩)

omit [FloatOps F] [Named F] in
theorem semCell_inj : Function.Injective (semCell d L) := by
  intro a b h
  simp only [semCell, Prod.mk.injEq, SemLoc.dma.injEq, true_and] at h
  exact Fin.ext (Nat.add_left_cancel (congrArg Fin.val h))

/-- The thirteen cells. -/
def semCells : Finset (GSem nD τ sig) := Finset.univ.map ⟨semCell d L, semCell_inj d L⟩

/-- The subcore's semaphores that no chunk uses. -/
abbrev semRest : sProp 𝕄 := bigSep (ownCells (thr d L) \ semCells d L) fun g => semVal g 0

theorem ownSems0_V :
    (ownSems0 (thr d L) : sProp 𝕄)
      = iprop((bigSep Finset.univ fun k : Fin 13 => semVal (semCell d L k) 0) ∗ semRest d L) := by
  unfold SparseCore.Cfg.ownSems0
  have hsub : semCells d L ⊆ ownCells (thr d L) := by
    intro g hg
    obtain ⟨k, -, rfl⟩ := Finset.mem_map.mp hg
    exact mem_ownCells.mpr ⟨rfl, (show ∀ k : Fin 13, (SemLoc.dma (⟨7 + k.val, semIdx_lt k⟩ : DmaSem sig) : SemLoc sig).isScoped .scVector = true by decide) k⟩
  rw [bigSep_sdiff_split hsub, semCells, bigSep_map]
  rfl

theorem sems_list (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  repeat rw [SparseCore.bigSep_insert' (by decide)]
  rw [bigSep_singleton]

/-- The subcore's buffers that are none of the task's four. -/
abbrev bufRest : sProp 𝕄 :=
  bigSep (((((ownRefs (τ := τ) (.scVector (cV L) (jV L))).erase ((Proc.scVector (cV L) (jV L)).devRef cc1_scratch0)).erase
      ((Proc.scVector (cV L) (jV L)).devRef cc1_scratch1)).erase ((Proc.scVector (cV L) (jV L)).devRef cc1_scratch2)).erase
      ((Proc.scVector (cV L) (jV L)).devRef cc1_scratch3)) fun b => iprop(∃ f, ((d, b) : Loc nD τ sig) ↦{fullShare} f)

theorem mem_own (b : Ref sig .scVector) (h : ((Proc.scVector (cV L) (jV L)).devRef b : DevRef τ sig).owner = .proc (.scVector (cV L) (jV L))) :
    ((Proc.scVector (cV L) (jV L)).devRef b : DevRef τ sig) ∈ ownRefs (.scVector (cV L) (jV L)) :=
  SparseCore.Cfg.mem_ownRefs_of_owner h

omit [FloatOps F] [Named F] in
theorem ref_ne {a b : Ref sig .scVector} (h : a ≠ b) : ((Proc.scVector (cV L) (jV L)).devRef a : DevRef τ sig) ≠ (Proc.scVector (cV L) (jV L)).devRef b :=
  fun e => h (Proc.devRef_injective _ e)

theorem ownBufs_V :
    (ownBufs (thr d L) : sProp 𝕄)
      = iprop((∃ f, (sV).view.loc (thr d L) ↦{fullShare} f) ∗ (∃ f, (wV).view.loc (thr d L) ↦{fullShare} f)
          ∗ (∃ f, (rV).view.loc (thr d L) ↦{fullShare} f) ∗ (∃ f, (yV).view.loc (thr d L) ↦{fullShare} f) ∗ bufRest d L) := by
  unfold SparseCore.Cfg.ownBufs
  refine (SparseCore.bigSep_erase' (mem_own L cc1_scratch0 rfl)).trans ?_
  rw [SparseCore.bigSep_erase' (Finset.mem_erase.mpr ⟨ref_ne L (show (cc1_scratch1 : Ref sig .scVector) ≠ cc1_scratch0 by decide), mem_own L cc1_scratch1 rfl⟩),
    SparseCore.bigSep_erase' (Finset.mem_erase.mpr ⟨ref_ne L (show (cc1_scratch2 : Ref sig .scVector) ≠ cc1_scratch1 by decide),
      Finset.mem_erase.mpr ⟨ref_ne L (show (cc1_scratch2 : Ref sig .scVector) ≠ cc1_scratch0 by decide), mem_own L cc1_scratch2 rfl⟩⟩),
    SparseCore.bigSep_erase' (Finset.mem_erase.mpr ⟨ref_ne L (show (cc1_scratch3 : Ref sig .scVector) ≠ cc1_scratch2 by decide),
      Finset.mem_erase.mpr ⟨ref_ne L (show (cc1_scratch3 : Ref sig .scVector) ≠ cc1_scratch1 by decide),
        Finset.mem_erase.mpr ⟨ref_ne L (show (cc1_scratch3 : Ref sig .scVector) ≠ cc1_scratch0 by decide), mem_own L cc1_scratch3 rfl⟩⟩⟩)]

/-! ## What a task takes and brings back -/

/-- The task's share of an array that every task reads: a token of its SparseCore's token. -/
abbrev qL : PosShare TreeShare := Transfers.shareTokN (Transfers.shareTokN fullShare (L 0).val) (L 1).val

/-- A task holds its share of the table, of the indices and of the weights, and its four blocks of the output, all at `fo`. -/
def taskRes (fx : Buf (Elt F) (xLoc d)) (fi : Buf (Elt F) (iLoc d)) (fn : Buf (Elt F) (nLoc d)) (fo : Buf (Elt F) (oLoc d)) : sProp 𝕄 :=
  iprop((xLoc d ↦{qL L} fx) ∗ (iLoc d ↦{qL L} fi) ∗ (nLoc d ↦{qL L} fn)
    ∗ bigSep Finset.univ fun c : Fin 4 => oLoc d ↦[(oChunk L c).view.set]{fullShare} fo)

theorem blocks_list (Φ : Fin 4 → sProp 𝕄) : bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]

/-- What passes from one chunk to the next besides the output's blocks and the semaphores: the shares, the scratch
    buffers at some contents, the gather's semaphore at zero, what the thread owes. -/
def Carry (fx : Buf (Elt F) (xLoc d)) (fi : Buf (Elt F) (iLoc d)) (fn : Buf (Elt F) (nLoc d))
    (O : CellTallies nD τ sig (HIx 1)) (W : Waits sig (HIx 1)) : sProp 𝕄 :=
  iprop(((xV).view.loc (thr d L) ↦{qL L} fx) ∗ ((iV).view.loc (thr d L) ↦{qL L} fi) ∗ ((nV).view.loc (thr d L) ↦{qL L} fn)
    ∗ (∃ f, (sV).view.loc (thr d L) ↦{fullShare} f) ∗ (∃ f, (wV).view.loc (thr d L) ↦{fullShare} f)
    ∗ (∃ f, (rV).view.loc (thr d L) ↦{fullShare} f) ∗ (∃ f, (yV).view.loc (thr d L) ↦{fullShare} f)
    ∗ semVal (thr d L, .dma cc1_scratch4.sem) 0 ∗ ∃ W', ⌜∀ p ∈ W', p ∈ W ∨ p.2 = none⌝ ∗ owes (thr d L) O W')

/-- A chunk, in these words. -/
theorem chunk_carry {α : Type} (c : Fin 4) (sA sB sC : DmaSems sig S_) (ret : α)
    (fx : Buf (Elt F) (xLoc d)) (fi : Buf (Elt F) (iLoc d)) (fn : Buf (Elt F) (nLoc d)) (fo : Buf (Elt F) (oLoc d))
    (hfi : ∀ j : S24576.Idx, (fi j : BitVec 32).toNat < 2048) (O : CellTallies nD τ sig (HIx 1)) (W : Waits sig (HIx 1)) :
    iprop(Transfers.MayWaits (thr d L) (default : HIx 1) O ∗ Carry d L fx fi fn O W
        ∗ (oLoc d ↦[(oChunk L c).view.set]{fullShare} fo)
        ∗ semVal (thr d L, .dma sA.sem) 0 ∗ semVal (thr d L, .dma sB.sem) 0 ∗ semVal (thr d L, .dma sC.sem) 0)
      ⊢ (wp frame (wpE (defs₀ (F := F)) 𝒱₀ (thr d L) none) Set.univ
          (chunk L xV iV nV oV sV (Memref.isWhole_whole _) wV rV (Memref.isWhole_whole _) yV (Memref.isWhole_whole _) cc1_scratch4 c sA sB sC ret)
          fun _ => iprop(Carry d L fx fi fn O W
            ∗ (oLoc d ↦[(oChunk L c).view.set]{fullShare} xiAll (F := F) fx fi fn)
            ∗ semVal (thr d L, .dma sA.sem) 0 ∗ semVal (thr d L, .dma sB.sem) 0 ∗ semVal (thr d L, .dma sC.sem) 0) : sProp 𝕄) := by
  unfold Carry
  iintro ⟨Hmw, ⟨Hx, Hi, Hn, ⟨%fs, Hs⟩, ⟨%fw, Hw⟩, ⟨%fr, Hr⟩, ⟨%fy, Hy⟩, HG, %W', %hW', HO⟩, Ho, HA, HB, HC⟩
  ihave Hwp := (chunk_wp d L c sA sB sC ret (qL L) (qL L) (qL L) fx fi fn fo fs fw fr fy hfi O W') $$ [Hmw Hx Hi Hn Hs Hw Hr Hy HG HO Ho HA HB HC]
  · isplitl [Hmw]; · iexact Hmw
    isplitl [Hx]; · iexact Hx
    isplitl [Hi]; · iexact Hi
    isplitl [Hn]; · iexact Hn
    isplitl [Ho]; · iexact Ho
    isplitl [Hs]; · iexact Hs
    isplitl [Hw]; · iexact Hw
    isplitl [Hr]; · iexact Hr
    isplitl [Hy]; · iexact Hy
    isplitl [HA]; · iexact HA
    isplitl [HB]; · iexact HB
    isplitl [HC]; · iexact HC
    isplitl [HG]; · iexact HG
    iexact HO
  iapply (wp_wand_r frame _ _)
  isplitl [Hwp]; · iexact Hwp
  iintro %a ⟨Hx, Hi, Hn, Ho, Hs, Hw, Hr, Hy, HA, HB, HC, HG, %W'', %hW'', HO⟩
  isplitr [Ho HA HB HC]
  · isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexists W''; isplitr
    · ipureintro; exact fun p hp => (hW'' p hp).elim (hW' p) Or.inr
    · iexact HO
  isplitl [Ho]; · iexact Ho
  isplitl [HA]; · iexact HA
  isplitl [HB]; · iexact HB
  iexact HC

/-- The whole task. -/
theorem tile_body (hF : (K (F := F)).Facts) (fx : Buf (Elt F) (xLoc d)) (fi : Buf (Elt F) (iLoc d)) (fn : Buf (Elt F) (nLoc d)) (fo : Buf (Elt F) (oLoc d))
    (hfi : ∀ j : S24576.Idx, (fi j : BitVec 32).toNat < 2048) (O : CellTallies nD τ sig (HIx 1)) (W : Waits sig (HIx 1)) (hO : ∀ g, O g none = 0) :
    iprop(levAts (K (F := F)).L (K (F := F)).lev ∗ emp ∗ taskRes d L fx fi fn fo
        ∗ scopedBufs (thr d L) ∗ scopedSems0 (thr d L) ∗ owes (thr d L) O W)
      ⊢ (wp frame (wpE (defs₀ (F := F)) 𝒱₀ (thr d L) none) Set.univ
          (cc1__sc_interp L xV (Memref.isWhole_whole _) iV (Memref.isWhole_whole _) nV (Memref.isWhole_whole _) oV (Memref.isWhole_whole _)
            sV (Memref.isWhole_whole _) wV (Memref.isWhole_whole _) rV (Memref.isWhole_whole _) yV (Memref.isWhole_whole _) cc1_scratch4
            cc1_scoped0 cc1_scoped1 cc1_scoped2 cc1_scoped3 cc1_scoped4 cc1_scoped5 cc1_scoped6 cc1_scoped7 cc1_scoped8 cc1_scoped9 cc1_scoped10 cc1_scoped11)
          fun _ => iprop(taskRes d L fx fi fn (xiAll (F := F) fx fi fn)
            ∗ scopedBufs (thr d L) ∗ scopedSems0 (thr d L)
            ∗ ∃ W', ⌜∀ p ∈ W', p ∈ W ∨ p.2 = none⌝ ∗ owes (thr d L) O W') : sProp 𝕄) := by
  rw [body_eq]
  rw [(K (F := F)).scopedBufs_V hF d (cV L) (jV L), SparseCore.Cfg.scopedSems0_V (Val := Elt F) d (cV L) (jV L), ownSems0_V, ownBufs_V, sems_list]
  unfold taskRes
  simp only [blocks_list]
  iintro ⟨#Hlv, -, ⟨Hx, Hi, Hn, Ho0, Ho1, Ho2, Ho3⟩, ⟨Hs, Hw, Hr, Hy, Hbufs⟩, ⟨⟨HG, A0, B0, C0, A1, B1, C1, A2, B2, C2, A3, B3, C3⟩, Hsems⟩, HO⟩
  ihave #Hmw := (show levAts (K (F := F)).L (K (F := F)).lev ⊢ Transfers.MayWaits (thr d L) (default : HIx 1) O from
    (K (F := F)).mayWaits_none (thr := thr d L) hO) $$ Hlv
  ihave HK := (show iprop((xLoc d ↦{qL L} fx) ∗ (iLoc d ↦{qL L} fi) ∗ (nLoc d ↦{qL L} fn)
      ∗ (∃ f, (sV).view.loc (thr d L) ↦{fullShare} f) ∗ (∃ f, (wV).view.loc (thr d L) ↦{fullShare} f)
      ∗ (∃ f, (rV).view.loc (thr d L) ↦{fullShare} f) ∗ (∃ f, (yV).view.loc (thr d L) ↦{fullShare} f)
      ∗ semVal (semCell d L 0) 0 ∗ owes (thr d L) O W) ⊢ (Carry d L fx fi fn O W : sProp 𝕄) from by
    unfold Carry
    iintro ⟨Hx, Hi, Hn, Hs, Hw, Hr, Hy, HG, HO⟩
    isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexists W; isplitr
    · ipureintro; exact fun p hp => Or.inl hp
    · iexact HO) $$ [Hx Hi Hn Hs Hw Hr Hy HG HO]
  · isplitl [Hx]; · iexact Hx
    isplitl [Hi]; · iexact Hi
    isplitl [Hn]; · iexact Hn
    isplitl [Hs]; · iexact Hs
    isplitl [Hw]; · iexact Hw
    isplitl [Hr]; · iexact Hr
    isplitl [Hy]; · iexact Hy
    isplitl [HG]; · iexact HG
    iexact HO
  rw [wp_bind]
  ihave Hwp := (chunk_carry d L 0 cc1_scoped0 cc1_scoped1 cc1_scoped2 _ fx fi fn fo hfi O W) $$ [HK Ho0 A0 B0 C0]
  · isplitr; · iexact Hmw
    isplitl [HK]; · iexact HK
    isplitl [Ho0]; · iexact Ho0
    isplitl [A0]; · iexact A0
    isplitl [B0]; · iexact B0
    iexact C0
  iapply (wp_wand_r frame _ _)
  isplitl [Hwp]; · iexact Hwp
  iintro %a0 ⟨HK, Ho0, A0, B0, C0⟩
  rw [wp_bind]
  ihave Hwp := (chunk_carry d L 1 cc1_scoped3 cc1_scoped4 cc1_scoped5 _ fx fi fn fo hfi O W) $$ [HK Ho1 A1 B1 C1]
  · isplitr; · iexact Hmw
    isplitl [HK]; · iexact HK
    isplitl [Ho1]; · iexact Ho1
    isplitl [A1]; · iexact A1
    isplitl [B1]; · iexact B1
    iexact C1
  iapply (wp_wand_r frame _ _)
  isplitl [Hwp]; · iexact Hwp
  iintro %a1 ⟨HK, Ho1, A1, B1, C1⟩
  rw [wp_bind]
  ihave Hwp := (chunk_carry d L 2 cc1_scoped6 cc1_scoped7 cc1_scoped8 _ fx fi fn fo hfi O W) $$ [HK Ho2 A2 B2 C2]
  · isplitr; · iexact Hmw
    isplitl [HK]; · iexact HK
    isplitl [Ho2]; · iexact Ho2
    isplitl [A2]; · iexact A2
    isplitl [B2]; · iexact B2
    iexact C2
  iapply (wp_wand_r frame _ _)
  isplitl [Hwp]; · iexact Hwp
  iintro %a2 ⟨HK, Ho2, A2, B2, C2⟩
  ihave Hwp := (chunk_carry d L 3 cc1_scoped9 cc1_scoped10 cc1_scoped11 _ fx fi fn fo hfi O W) $$ [HK Ho3 A3 B3 C3]
  · isplitr; · iexact Hmw
    isplitl [HK]; · iexact HK
    isplitl [Ho3]; · iexact Ho3
    isplitl [A3]; · iexact A3
    isplitl [B3]; · iexact B3
    iexact C3
  iapply (wp_wand_r frame _ _)
  isplitl [Hwp]; · iexact Hwp
  iintro %a3 ⟨HK, Ho3, A3, B3, C3⟩
  unfold Carry
  icases HK with ⟨Hx, Hi, Hn, Hs, Hw, Hr, Hy, HG, HO⟩
  isplitl [Hx Hi Hn Ho0 Ho1 Ho2 Ho3]
  · isplitl [Hx]; · iexact Hx
    isplitl [Hi]; · iexact Hi
    isplitl [Hn]; · iexact Hn
    isplitl [Ho0]; · iexact Ho0
    isplitl [Ho1]; · iexact Ho1
    isplitl [Ho2]; · iexact Ho2
    iexact Ho3
  isplitl [Hs Hw Hr Hy Hbufs]
  · isplitl [Hs]; · iexact Hs
    isplitl [Hw]; · iexact Hw
    isplitl [Hr]; · iexact Hr
    isplitl [Hy]; · iexact Hy
    iexact Hbufs
  isplitr [HO]
  · isplitr [Hsems]
    · isplitl [HG]; · iexact HG
      isplitl [A0]; · iexact A0
      isplitl [B0]; · iexact B0
      isplitl [C0]; · iexact C0
      isplitl [A1]; · iexact A1
      isplitl [B1]; · iexact B1
      isplitl [C1]; · iexact C1
      isplitl [A2]; · iexact A2
      isplitl [B2]; · iexact B2
      isplitl [C2]; · iexact C2
      isplitl [A3]; · iexact A3
      isplitl [B3]; · iexact B3
      iexact C3
    · iexact Hsems
  iexact HO

/-! ## What the handshakes carry -/

section Launch

/-- The coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

variable (fx : (d : Dev nD) → Buf (Elt F) (xLoc d)) (fi : (d : Dev nD) → Buf (Elt F) (iLoc d)) (fn : (d : Dev nD) → Buf (Elt F) (nLoc d))

/-- The tasks of SparseCore `c`, together: its token of each array read, and its sixteen tasks' blocks of the output. -/
def coreRes (d : Dev nD) (c : Fin 2) (fo : Buf (Elt F) (oLoc d)) : sProp 𝕄 :=
  iprop((xLoc d ↦{Transfers.shareTokN fullShare c.val} fx d) ∗ (iLoc d ↦{Transfers.shareTokN fullShare c.val} fi d)
    ∗ (nLoc d ↦{Transfers.shareTokN fullShare c.val} fn d)
    ∗ bigSep Finset.univ fun s : Fin 16 => bigSep Finset.univ fun ch : Fin 4 => oLoc d ↦[(oChunk (coordsV c s) ch).view.set]{fullShare} fo)

variable (fo : (d : Dev nD) → Buf (Elt F) (oLoc d))

/-- The call takes the arrays' tokens and the output's blocks at what was there, and brings them back with the blocks at
    the weighted sums; so does each task for its part. -/
def P : (K (F := F)).Pay (nD := nD) (Val := Elt F) (Name := ℕ) (U := UU) where
  st := fun q d c => match q with | 0 => coreRes fx fi fn d c (fo d)
  dn := fun q d c => match q with | 0 => coreRes fx fi fn d c (xiAll (F := F) (fx d) (fi d) (fn d))
  go := fun q d c s => match q with | 0 => taskRes d (coordsV c s) (fx d) (fi d) (fn d) (fo d)
  td := fun q d c s => match q with | 0 => taskRes d (coordsV c s) (fx d) (fi d) (fn d) (xiAll (F := F) (fx d) (fi d) (fn d))
  x := fun _ _ => iprop(emp)

instance coreRes_storable (d : Dev nD) (c : Fin 2) (f : Buf (Elt F) (oLoc d)) :
    BI.Storable (upEmb : UEmb _ 𝕄) (coreRes fx fi fn d c f) := by unfold coreRes; infer_instance
instance taskRes_storable (d : Dev nD) (L : grid1.Coords) (gx : Buf (Elt F) (xLoc d)) (gi : Buf (Elt F) (iLoc d)) (gn : Buf (Elt F) (nLoc d)) (f : Buf (Elt F) (oLoc d)) :
    BI.Storable (upEmb : UEmb _ 𝕄) (taskRes d L gx gi gn f) := by unfold taskRes; infer_instance

instance P_storable : (P (F := F) fx fi fn fo).IsStorable where
  st q d c := match q with | 0 => coreRes_storable fx fi fn d c _
  dn q d c := match q with | 0 => coreRes_storable fx fi fn d c _
  go q d c s := match q with | 0 => taskRes_storable d (coordsV c s) _ _ _ _
  td q d c s := match q with | 0 => taskRes_storable d (coordsV c s) _ _ _ _

/-! ## The obligation -/

theorem defs₀_vector (c : Fin τ.nSC) (s : Fin τ.nSub) :
    defs₀ (F := F) (.scVector c s) 1 ()
      = SparseCore.onTile hcore1 hsub1 (fun c s => cc1__sc_interp (coordsV c s) xV (Memref.isWhole_whole _) iV (Memref.isWhole_whole _)
          nV (Memref.isWhole_whole _) oV (Memref.isWhole_whole _)
          sV (Memref.isWhole_whole _) wV (Memref.isWhole_whole _) rV (Memref.isWhole_whole _) yV (Memref.isWhole_whole _) cc1_scratch4
          cc1_scoped0 cc1_scoped1 cc1_scoped2 cc1_scoped3 cc1_scoped4 cc1_scoped5 cc1_scoped6 cc1_scoped7 cc1_scoped8 cc1_scoped9 cc1_scoped10 cc1_scoped11) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d (j : S24576.Idx), (fi d j : BitVec 32).toNat < 2048) :
    (K (F := F)).TileObl (D (F := F)) 𝒱 (P fx fi fn fo) v₀ 0 := by
  intro d c i O W hO _ _
  simp only [show (P fx fi fn fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fx d) (fi d) (fn d) (fo d) (hfi d) O W hO).trans (wp_mono frame _ _ fun _ => waits_weaken)

/-- A SparseCore deals its part to its tasks, and joins what they bring back. -/
theorem vecSplit : (K (F := F)).VecSplit' (P fx fi fn fo) 0 := by
  intro d c
  show coreRes fx fi fn d c (fo d) ⊢ |={Set.univ}=> iprop(
      (bigSep Finset.univ fun s : Fin 16 => taskRes d (coordsV c s) (fx d) (fi d) (fn d) (fo d))
      ∗ ((bigSep Finset.univ fun s : Fin 16 => taskRes d (coordsV c s) (fx d) (fi d) (fn d) (xiAll (F := F) (fx d) (fi d) (fn d)))
          -∗ coreRes fx fi fn d c (xiAll (F := F) (fx d) (fi d) (fn d))))
  unfold taskRes coreRes
  simp only [bigSep_sep']
  iintro ⟨Hx, Hi, Hn, Ho⟩
  ihave Hx := (Transfers.pointsTo_toks_split _ 16) $$ Hx
  icases Hx with ⟨Hxd, Hx⟩
  ihave Hi := (Transfers.pointsTo_toks_split _ 16) $$ Hi
  icases Hi with ⟨Hid, Hi⟩
  ihave Hn := (Transfers.pointsTo_toks_split _ 16) $$ Hn
  icases Hn with ⟨Hnd, Hn⟩
  imodintro
  isplitl [Hx Hi Hn Ho]
  · isplitl [Hx]; · iexact Hx
    isplitl [Hi]; · iexact Hi
    isplitl [Hn]; · iexact Hn
    iexact Ho
  iintro ⟨Hx, Hi, Hn, Ho⟩
  isplitl [Hx Hxd]; · iapply (Transfers.pointsTo_toks_join _ 16); isplitl [Hxd]; · iexact Hxd
                      iexact Hx
  isplitl [Hi Hid]; · iapply (Transfers.pointsTo_toks_join _ 16); isplitl [Hid]; · iexact Hid
                      iexact Hi
  isplitl [Hn Hnd]; · iapply (Transfers.pointsTo_toks_join _ 16); isplitl [Hnd]; · iexact Hnd
                      iexact Hn
  iexact Ho

end Launch

end Cert.Proof.Whole

end
-- ==== Proof.Whole.Region.lean ====
/-
  A TensorCore call inside @main. `Runs` says what is asked of a call's proof data: the arrays it starts from, that it
  touches nothing but its windows, and that meanwhile the TensorCore owes the SparseCores what it owed before.
  `region_wp` then runs the call, from the arrays held together to the arrays held together, the call's outputs at
  what its body left.
-/
module

public import proofs.«01_k».proof.Proof.Whole.Tile
public import proofs.«01_k».proof.Proof.Gen.KernelIdeal.Launch
public import Idealize.ShloMosaic.Lib.Pipeline.RegionArraysS

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg arrRef arrRefs afterRegion BodyObligationLoose)

variable {F : FTy → Type} [FloatOps F] [Named F]

local notation "𝕄" => MT nD τ sig (HIx 1) (Elt F) ℕ UU ℕ

/-- The launch's handshakes, and the two TensorCore calls' buffers, each in its own part of the ghost state. -/
def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

instance : (EH (F := F)).LandsIn (upEmb : UEmb _ (MT nD τ sig (HIx 1) (Elt F) ℕ UU ℕ)) := by unfold EH; infer_instance
instance : (EP (F := F)).LandsIn (upEmb : UEmb _ (MT nD τ sig (HIx 1) (Elt F) ℕ UU ℕ)) := by unfold EP; infer_instance

abbrev adm (p : Fin 2) : (pcfgs (F := F) p).Adm := (cfgs p).toPCfg_adm

/-- Proof data for the two TensorCore calls. -/
abbrev Dats : Type _ := (p : Fin 2) → (c : Dev nD) → Dat τ (Elt F) (HIx 1) ℕ UU ℕ (Pipeline.pin (pcfgs (F := F)) adm p) c

/-- What the TensorCore may have waited for before call `n` of the SparseCores. -/
def seen (n : ℕ) (c : Dev nD) : Set (SemLoc sig × HIx 1) := {q | (K (F := F)).lev (T c, q.1) q.2 ≤ 8 * n}

/-- What a TensorCore call's proof data must say: it starts from the arrays as `W` has them, keeps to its windows, and
    owes the SparseCores throughout what the TensorCore owes before call `n`. -/
structure Runs (pd : Dats (F := F)) (p : Fin 2) (n : ℕ) (W : Dev nD → Valuation τ sig (Elt F)) : Prop where
  start : ∀ c w, (pd p c).A w = W c (Proc.devRef .tc (arrRef (Pipeline.pin (pcfgs (F := F)) adm p).spec w))
  inv : ∀ c t, (pd p c).Φ t = Pipeline.scopedRest (Pipeline.pin (pcfgs (F := F)) adm p).spec c
  owed : ∀ c t, (pd p c).owed t = (K (F := F)).Otc c n
  recorded : ∀ c t, (pd p c).recorded t = seen (F := F) n c
  share : ∀ c w, (pd p c).share w = fullShare
  body : ∀ c, BodyObligationLoose (pd p c) (defs₀ (F := F)) 𝒱₀ none Set.univ

theorem Otc_none (d : Dev nD) (n : ℕ) (g : GSem nD τ sig) : (K (F := F)).Otc (N := 1) d n g none = 0 := by
  by_contra h
  have := (K (F := F)).lev_of_Otc_pos (Nat.pos_of_ne_zero h)
  rw [SparseCore.Cfg.lev_none] at this
  omega

variable (pd : Dats (F := F)) (p : Fin 2) (n : ℕ) (W : Dev nD → Valuation τ sig (Elt F))

/-- What the TensorCore owes before call `n`, with what it may have waited for. -/
abbrev due (c : Dev nD) : sProp 𝕄 := iprop(∃ Wd, ⌜(K (F := F)).WBelow (T c) Wd (8 * n)⌝ ∗ owes (T c) ((K (F := F)).Otc c n) Wd)

/-- The call as a segment of @main, from the buffers `B` held at `W`. -/
def region (B : Finset (DevRef τ sig)) (kit : Pipeline.PLaunchFacts (nD := nD) (τ := τ) (pcfgs (F := F)) p) (hB : arrRefs (pcfgs (F := F) p).spec ⊆ B)
    (hK : (pcfgs (F := F) p).pre.K = 0) (h : Runs pd p n W) :
    RegionSeg pcfgs adm pd none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := h.body
  hwaits c := Pipeline.cellsWaits_intro (Pipeline.pin pcfgs adm) pd none p c fun w s t => by
    rw [h.owed]; exact (K (F := F)).mayWait_none _ (Otc_none c n)
  pre c := iprop(StableHlo.held (T c) B (W c) ∗ due n c)
  post c := iprop(StableHlo.held (T c) B (afterRegion (pd p c) (W c)) ∗ due n c)
  X _ := iprop(emp)
  Y _ := iprop(emp)
  Z c := StableHlo.held (T c) (B \ arrRefs (pcfgs (F := F) p).spec) (W c)
  hentry c := by
    rw [Pipeline.ownSems0_none, Pipeline.prefHeld_of_none _ hK,
      Pipeline.arrays_held pcfgs adm pd p kit c (h.share c) ((pd p c).arrAt · 0) (W c) (fun w => h.start c w),
      StableHlo.held_sub_split (T c) hB (W c)]
    iintro ⟨⟨⟨Ha, Hu⟩, HO⟩, -, -⟩
    imodintro
    isplitl [Ha]; · iexact Ha
    isplitr; · iempintro
    isplitl [HO]
    · unfold Dat.owesAt Pipeline.owesWithin Dat.bound
      rw [h.owed c 0, h.recorded c 0]
      icases HO with ⟨%Wd, %hWd, HO⟩; iexists Wd; isplitr
      · ipureintro; exact fun q hq => Or.inl (hWd q hq)
      iexact HO
    isplitr; · iempintro
    iexact Hu
  hin c := by
    rw [h.inv]
    iintro ⟨-, -, H⟩
    iexact H
  hout c := by
    rw [h.inv, Pipeline.ownSems0_none]
    iintro H
    isplitr; · iempintro
    isplitr; · iempintro
    iexact H
  hexit c := by
    rw [Pipeline.arrays_held pcfgs adm pd p kit c (h.share c) ((pd p c).arrAt · (Pipeline.pin (pcfgs (F := F)) adm p).N) (afterRegion (pd p c) (W c))
        (fun w => (Pipeline.afterRegion_arr (pd p c) (W c) kit.win.arr_inj w).symm),
      StableHlo.held_sub_split (T c) hB (afterRegion (pd p c) (W c)),
      StableHlo.held_congr (T c) (S := B \ arrRefs (pcfgs (F := F) p).spec) (V := afterRegion (pd p c) (W c)) (V' := W c)
        (Pipeline.afterRegion_off (pd p c) (W c) B)]
    iintro ⟨Ha, HO, -, Hu⟩
    imodintro
    isplitl [Ha Hu]
    · isplitl [Ha]; · iexact Ha
      iexact Hu
    unfold Dat.owesAt Pipeline.owesWithin Dat.bound
    rw [h.owed c (Fin.last _), h.recorded c (Fin.last _)]
    icases HO with ⟨%Wd, %hWd, HO⟩; iexists Wd; isplitr
    · ipureintro
      intro q hq
      rcases hWd hq with h' | ⟨w, s, h'⟩
      · exact h'
      · rw [h']; exact Nat.zero_le _
    iexact HO

/-- The launch's ghost state for one TensorCore call. -/
abbrev callGhost (c : Dev nD) : sProp 𝕄 :=
  iprop(Pipeline.cellsGhost (Pipeline.pin (pcfgs (F := F)) adm) EP p c ∗ Pipeline.toksInit (Pipeline.pin (pcfgs (F := F)) adm) EP p c)

/-- The call from the TensorCore's state before call `n` of the SparseCores, which is its state after it. -/
theorem region_wp [∀ e, Nonempty (Elt F e)] (Pp : (K (F := F)).Pay (nD := nD) (Val := Elt F) (Name := ℕ) (U := UU)) (κ : GSem nD τ sig → ℕ)
    (B : Finset (DevRef τ sig)) (kit : Pipeline.PLaunchFacts (nD := nD) (τ := τ) (pcfgs (F := F)) p) (hB : arrRefs (pcfgs (F := F) p).spec ⊆ B)
    (hK : (pcfgs (F := F) p).pre.K = 0) (h : Runs pd p n W) (c : Dev nD) (Q : PUnit → sProp 𝕄) :
    iprop((K (F := F)).ctx EH Pp κ
        ∗ (iprop(boundary (T c) ∗ (K (F := F)).tcSt EH c n ∗ StableHlo.held (T c) B (afterRegion (pd p c) (W c))) -∗ Q ⟨⟩)
        ∗ boundary (T c) ∗ (K (F := F)).tcSt EH c n ∗ StableHlo.held (T c) B (W c) ∗ callGhost p c)
      ⊢ wp frame (wpE ((K (F := F)).defs (D (F := F))) 𝒱 (T c) none) Set.univ
          (Prog.lift (.customCall (SparseCore.inner (Pipeline.entry p)) ())) Q := by
  have hw := RegionSeg.wp pcfgs adm pd none (kit.cellOf_inj adm) EP (defs₀ (F := F)) 𝒱₀ (K (F := F)).L (K (F := F)).lev
    (region pd p n W B kit hB hK h) c none (fun _ h => by cases h) (fun _ => Prog.ret ⟨⟩) Q
  have hl := (K (F := F)).wp_liftProg (D (F := F)) 𝒱 (T c) Set.univ none
    (Prog.op (.customCall (Pipeline.entry p) ()) fun _ => Prog.ret ⟨⟩ : Prog (TpuEff nD τ sig (Elt F) (ΛP (F := F)) .tc) PUnit) Q
  refine (?_ : (_ : sProp 𝕄) ⊢ _).trans (hw.trans hl)
  rw [show (region pd p n W B kit hB hK h).pre c = iprop(StableHlo.held (T c) B (W c) ∗ due n c) from rfl,
    show (region pd p n W B kit hB hK h).post c = iprop(StableHlo.held (T c) B (afterRegion (pd p c) (W c)) ∗ due n c) from rfl]
  unfold SparseCore.Cfg.tcSt
  iintro ⟨#Hctx, Hk, Hb, ⟨HO, Hr⟩, Hh, Hc, Ht⟩
  isplitl [Hk Hr]
  · iintro ⟨Hb, Hh, HO⟩
    rw [wp_ret]; imodintro
    iapply Hk
    isplitl [Hb]; · iexact Hb
    isplitl [HO Hr]
    · isplitl [HO]; · iexact HO
      iexact Hr
    iexact Hh
  isplitl [Hb]; · iexact Hb
  isplitl [Hh HO]
  · isplitl [Hh]; · iexact Hh
    iexact HO
  isplitr; · iapply ((K (F := F)).ctx_levAts κ); iexact Hctx
  isplitl [Hc]; · iexact Hc
  iexact Ht

end Cert.Proof.Whole

end
-- ==== Proof.Whole.Setup.lean ====
/-
  The SparseCore call seen from @main: the four arrays whole are what the launch hands the SparseCores and takes back;
  the ghost state that the SparseCore call and the two TensorCore calls need, from the launch's.
-/
module

public import proofs.«01_k».proof.Proof.Whole.Region

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F] [Named F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The output is its blocks -/

/-- The block that SparseCore `t.1`'s subcore `t.2.1` writes in its chunk `t.2.2`. -/
def blockSet (t : Fin 2 × Fin 16 × Fin 4) : Finset S8192x256.Idx := (oChunk (coordsV t.1 t.2.1) t.2.2).view.set

theorem mem_blockSet (t : Fin 2 × Fin 16 × Fin 4) (j : S8192x256.Idx) :
    j ∈ blockSet t ↔ 512 * t.2.1.val + 256 * t.1.val + 64 * t.2.2.val ≤ (j 0).val
      ∧ (j 0).val < 512 * t.2.1.val + 256 * t.1.val + 64 * t.2.2.val + 64 := by
  unfold blockSet View.set
  rw [Finset.mem_map]
  constructor
  · rintro ⟨y, -, rfl⟩
    have h : (y 0).val < 64 := (y 0).isLt
    have e := oChunk_emb_zero (coordsV t.1 t.2.1) t.2.2 y
    rw [e]
    show _ ≤ 512 * t.2.1.val + 256 * t.1.val + 64 * t.2.2.val + (y 0).val ∧ _
    constructor
    · omega
    · show 512 * t.2.1.val + 256 * t.1.val + 64 * t.2.2.val + (y 0).val < _; omega
  · rintro ⟨h0, h1⟩
    have hb : (j 1).val < 256 := (j 1).isLt
    refine ⟨fun x => ⟨![(j 0).val - (512 * t.2.1.val + 256 * t.1.val + 64 * t.2.2.val), (j 1).val] x, by
      fin_cases x
      · show (j 0).val - _ < 64; omega
      · exact hb⟩, Finset.mem_univ _, ?_⟩
    funext x
    fin_cases x
    · refine Fin.ext ((oChunk_emb_zero (coordsV t.1 t.2.1) t.2.2 _).trans ?_)
      show 512 * t.2.1.val + 256 * t.1.val + 64 * t.2.2.val + ((j 0).val - (512 * t.2.1.val + 256 * t.1.val + 64 * t.2.2.val)) = (j 0).val
      omega
    · exact Fin.ext (oChunk_emb_one (coordsV t.1 t.2.1) t.2.2 _)

theorem blocks_disjoint : ∀ t ∈ (Finset.univ : Finset (Fin 2 × Fin 16 × Fin 4)), ∀ t' ∈ (Finset.univ : Finset (Fin 2 × Fin 16 × Fin 4)),
    t ≠ t' → Disjoint (blockSet t) (blockSet t') := by
  rintro ⟨a, b, c⟩ - ⟨a', b', c'⟩ - hne
  refine Finset.disjoint_left.mpr fun j hj hj' => hne ?_
  obtain ⟨h0, h1⟩ := (mem_blockSet _ _).mp hj
  obtain ⟨h0', h1'⟩ := (mem_blockSet _ _).mp hj'
  dsimp only at h0 h1 h0' h1'
  have ha := a.isLt; have ha' := a'.isLt; have hc := c.isLt; have hc' := c'.isLt
  have hb := b.isLt; have hb' := b'.isLt
  refine Prod.ext (Fin.ext ?_) (Prod.ext (Fin.ext ?_) (Fin.ext ?_)) <;> dsimp only <;> omega

theorem blocks_cover : (Finset.univ : Finset (Fin 2 × Fin 16 × Fin 4)).biUnion blockSet = Finset.univ := by
  refine Finset.eq_univ_of_forall fun j => Finset.mem_biUnion.mpr ?_
  have hj : (j 0).val < 8192 := (j 0).isLt
  refine ⟨⟨⟨(j 0).val / 256 % 2, by omega⟩, ⟨(j 0).val / 512, by omega⟩, ⟨(j 0).val / 64 % 4, by omega⟩⟩, Finset.mem_univ _, (mem_blockSet _ _).mpr ?_⟩
  dsimp only
  omega

theorem out_blocks (d : Dev nD) (f : Buf (Elt F) (oLoc d)) :
    (oLoc d ↦{fullShare} f : sProp 𝕄) = bigSep Finset.univ fun c : Fin 2 => bigSep Finset.univ fun s : Fin 16 => bigSep Finset.univ fun ch : Fin 4 =>
      oLoc d ↦[(oChunk (coordsV c s) ch).view.set]{fullShare} f := by
  have h : (oLoc d ↦{fullShare} f : sProp 𝕄) = bigSep Finset.univ fun t : Fin 2 × Fin 16 × Fin 4 => oLoc d ↦[blockSet t]{fullShare} f := by
    rw [← pointsTo_biUnion Finset.univ (ℓ := oLoc d) blockSet blocks_disjoint, blocks_cover]
  rw [h, bigSep_univ_prod]
  refine bigSep_congr fun c _ => ?_
  rw [bigSep_univ_prod]
  rfl

variable (fx : (d : Dev nD) → Buf (Elt F) (xLoc d)) (fi : (d : Dev nD) → Buf (Elt F) (iLoc d)) (fn : (d : Dev nD) → Buf (Elt F) (nLoc d))
  (fo : (d : Dev nD) → Buf (Elt F) (oLoc d))

/-! ## The call, from the four arrays whole -/

/-- What stays with the TensorCore of the three arrays read, while the two SparseCores hold their tokens. -/
abbrev kept (d : Dev nD) : sProp 𝕄 :=
  iprop((xLoc d ↦{Transfers.shareDrop fullShare 2} fx d) ∗ (iLoc d ↦{Transfers.shareDrop fullShare 2} fi d) ∗ (nLoc d ↦{Transfers.shareDrop fullShare 2} fn d))

/-- The four arrays whole, the output at `f`. -/
abbrev arrays (d : Dev nD) (f : Buf (Elt F) (oLoc d)) : sProp 𝕄 :=
  iprop((xLoc d ↦{fullShare} fx d) ∗ (iLoc d ↦{fullShare} fi d) ∗ (nLoc d ↦{fullShare} fn d) ∗ (oLoc d ↦{fullShare} f))

theorem deal (d : Dev nD) (f : Buf (Elt F) (oLoc d)) :
    arrays fx fi fn d f ⊢ (iprop(kept fx fi fn d ∗ bigSep Finset.univ fun c : Fin 2 => coreRes fx fi fn d c f) : sProp 𝕄) := by
  unfold coreRes
  rw [bigSep_sep', bigSep_sep', bigSep_sep', ← out_blocks]
  iintro ⟨Hx, Hi, Hn, Ho⟩
  ihave Hx := (Transfers.pointsTo_toks_split _ 2) $$ Hx
  icases Hx with ⟨Hxd, Hx⟩
  ihave Hi := (Transfers.pointsTo_toks_split _ 2) $$ Hi
  icases Hi with ⟨Hid, Hi⟩
  ihave Hn := (Transfers.pointsTo_toks_split _ 2) $$ Hn
  icases Hn with ⟨Hnd, Hn⟩
  isplitl [Hxd Hid Hnd]
  · isplitl [Hxd]; · iexact Hxd
    isplitl [Hid]; · iexact Hid
    iexact Hnd
  isplitl [Hx]; · iexact Hx
  isplitl [Hi]; · iexact Hi
  isplitl [Hn]; · iexact Hn
  iexact Ho

theorem undeal (d : Dev nD) (f : Buf (Elt F) (oLoc d)) :
    iprop(kept fx fi fn d ∗ bigSep Finset.univ fun c : Fin 2 => coreRes fx fi fn d c f) ⊢ (arrays fx fi fn d f : sProp 𝕄) := by
  unfold coreRes
  rw [bigSep_sep', bigSep_sep', bigSep_sep', ← out_blocks]
  iintro ⟨⟨Hxd, Hid, Hnd⟩, Hx, Hi, Hn, Ho⟩
  isplitl [Hx Hxd]; · iapply (Transfers.pointsTo_toks_join _ 2); isplitl [Hxd]; · iexact Hxd
                      iexact Hx
  isplitl [Hi Hid]; · iapply (Transfers.pointsTo_toks_join _ 2); isplitl [Hid]; · iexact Hid
                      iexact Hi
  isplitl [Hn Hnd]; · iapply (Transfers.pointsTo_toks_join _ 2); isplitl [Hnd]; · iexact Hnd
                      iexact Hn
  iexact Ho

/-! ## The launch element -/

theorem cells_inj : Function.Injective (Pipeline.cellOf (nD := nD) (τ := τ) (Pipeline.pin (pcfgs (F := F)) adm)) :=
  Gen.launch0.toP.cellOf_inj adm

/-- The handshakes' part, and the two TensorCore calls' part. -/
def u₀ : UU :=
  ((initOf (K (F := F)).hsCells (K (F := F)).hsToks,
    initOf (Pipeline.cells (Pipeline.pin (pcfgs (F := F)) adm) cells_inj) (Pipeline.launchToks (Pipeline.pin (pcfgs (F := F)) adm) cells_inj)), 1)

theorem all_emp {I : Type} (s : Finset I) : (bigSep s fun _ => iprop(emp)) = (iprop(emp) : sProp 𝕄) := bigSep_emp_const s

/-- The ghost state of both TensorCore calls, on one device. -/
abbrev ghosts (d : Dev nD) : sProp 𝕄 := iprop(callGhost 0 d ∗ callGhost 1 d)

theorem ghosts_eq : (bigSep Finset.univ fun d : Dev nD => (ghosts d : sProp 𝕄))
    = iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄))) := by
  rw [← bigSep_sep']
  refine bigSep_congr fun c _ => ?_
  rw [← bigSep_sep', show (Finset.univ : Finset (Fin 2)) = {0, 1} from rfl, SparseCore.bigSep_insert' (by decide), bigSep_singleton]

theorem own_split (a : UH) (b : UP) : (BI.own ((embL : Emb (UH × UP) (MT nD τ sig (HIx 1) (Elt F) ℕ UU ℕ)) (a, b)) : sProp 𝕄) ⊢ iprop(BI.own (EH a) ∗ BI.own (EP b)) :=
  own_pair_emb embL a b

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P fx fi fn fo).x q thr) := by
  unfold u₀
  rw [ghosts_eq]
  iintro Hu
  ihave H := (ownU_pair (initOf (K (F := F)).hsCells (K (F := F)).hsToks,
    initOf (Pipeline.cells (Pipeline.pin (pcfgs (F := F)) adm) cells_inj) (Pipeline.launchToks (Pipeline.pin (pcfgs (F := F)) adm) cells_inj)) (1 : Counters)) $$ Hu
  icases H with ⟨HH, -⟩
  ihave H := (own_split _ _) $$ HH
  icases H with ⟨HH, HP⟩
  imod (Pipeline.fund_ghost (Pipeline.pin (pcfgs (F := F)) adm) EP cells_inj) $$ HP with HP
  imodintro
  isplitl [HH]; · iexact HH
  isplitl [HP]; · iexact HP
  rw [show (bigSep Finset.univ fun thr : Thread nD τ => bigSep Finset.univ fun q : Fin 1 => (P fx fi fn fo).x q thr) = bigSep Finset.univ fun _ => iprop(emp) from
    bigSep_congr fun _ _ => bigSep_univ_of_subsingleton (0 : Fin 1), all_emp]
  iempintro

end Cert.Proof.Whole

end
-- ==== Proof.Whole.Knn.lean ====
/-
  The first TensorCore call, on a block of 256 queries: what its body leaves in the two output blocks, the indices and
  the normalised weights, is a function of the two input blocks (`idxOf`, `wOf`); the proof data of the call and its
  body's obligation, from any contents of the arrays.
-/
module

public import proofs.«01_k».proof.Proof.Whole.Region
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Whole.Knn

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

abbrev rQ : Rect S256x3 := Rect.unit (s := S256x3) ![0, 0] S256x3.size inb_S256x3_S256x3_0_0
abbrev rP : Rect S3x2048 := Rect.unit (s := S3x2048) ![0, 0] S3x2048.size inb_S3x2048_S3x2048_0_0

/-- The block of indices, from the queries' positions `q` and all points' positions `p`. -/
def idxOf (q : Vec F S256x3 .f32) (p : Vec F S3x2048 .f32) : Vec F S256x3 .i32 :=
  k0_pay10 (k0_pay3 q p p) (k0_pay6 q p p) (k0_pay9 q p p) (iota .tc S256x2048 32 [1] iota_S256x2048_d1_w32)

/-- The block of weights. -/
def wOf (q : Vec F S256x3 .f32) (p : Vec F S3x2048 .f32) : Vec F S256x3 .f32 :=
  k0_pay11 (k0_pay2 q p p) (k0_pay5 q p p) (k0_pay8 q p p)

/-- What the body leaves in the output windows' buffers, as its one store into each. -/
def outI (q : Vec F S256x3 .f32) (p : Vec F S3x2048 .f32) : Vec F S256x3 .i32 :=
  View.canon [⟨rQ, idxOf (View.ld q rQ) (View.ld p rP)⟩]
def outW (q : Vec F S256x3 .f32) (p : Vec F S3x2048 .f32) : Vec F S256x3 .f32 :=
  View.canon [⟨rQ, wOf (View.ld q rQ) (View.ld p rP)⟩]

theorem cover {e : EltTy} (p₀ : Vec F S256x3 e) (y : S256x3.Idx) : ∃ pc ∈ ([⟨rQ, p₀⟩] : List (View.Piece (Elt F) S256x3 e)), y ∈ pc.1.set :=
  View.cover_of_tiled [⟨rQ, p₀⟩] S256x3.size (by rfl) y

set_option maxHeartbeats 1000000 in
/-- The body, on staging buffers held whole. -/
theorem body_wp (c : Dev nD) (i : grid0.Coords) (arg1 : Memref sig .tc .vmem S256x3 .f32) (harg1 : arg1.IsWhole)
    (arg2 : Memref sig .tc .vmem S3x2048 .f32) (harg2 : arg2.IsWhole) (arg3 : Memref sig .tc .vmem S256x3 .i32) (harg3 : arg3.IsWhole)
    (arg4 : Memref sig .tc .vmem S256x3 .f32) (harg4 : arg4.IsWhole) (q : Vec F S256x3 .f32) (p : Vec F S3x2048 .f32) (Q : PUnit → sProp 𝕄) :
    iprop(owns (c : Thread nD τ) arg1 fullShare q ∗ owns (c : Thread nD τ) arg2 fullShare p ∗ (∃ d, owns (c : Thread nD τ) arg3 fullShare d)
        ∗ (∃ d, owns (c : Thread nD τ) arg4 fullShare d)
        ∗ (iprop(owns (c : Thread nD τ) arg1 fullShare q ∗ owns (c : Thread nD τ) arg2 fullShare p ∗ owns (c : Thread nD τ) arg3 fullShare (outI q p)
            ∗ owns (c : Thread nD τ) arg4 fullShare (outW q p)) -∗ Q ⟨⟩))
      ⊢ wp frame (wpE (defs₀ (F := F)) 𝒱₀ c none) Set.univ (cc0__knn_body i arg1 harg1 arg2 harg2 arg3 harg3 arg4 harg4) Q := by
  simp only [cc0__knn_body_eq_skeleton]; unfold cc0__knn_body_skel
  simp only [k0_part2_eq_skeleton]; unfold k0_part2_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover _)
  iexists _; isplitr
  swap; · iexact H3
  ipureintro
  exact View.read_writes_eq_canon _ _ _ (cover _)

variable (n : ℕ) (W : Dev nD → Valuation τ sig (Elt F))

/-- Window `w`'s block at point `t`, of the arrays as the call finds them. -/
def blockAt (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The call's proof data. -/
def dat (c : Dev nD) : Dat τ (Elt F) (HIx 1) ℕ UU ℕ cfg0 c where
  A w := W c (Proc.devRef .tc (Pipeline.arrRef spec0 w))
  after w t := match w with
    | ⟨0, _⟩ => blockAt W c 0 t
    | ⟨1, _⟩ => blockAt W c 1 t
    | ⟨2, _⟩ => outI (blockAt W c 0 t) (blockAt W c 1 t)
    | ⟨3, _⟩ => outW (blockAt W c 0 t) (blockAt W c 1 t)
  Φ _ := Pipeline.scopedRest spec0 c
  q _ := fullShare
  owed _ := (K (F := F)).Otc c n
  recorded _ := seen (F := F) n c

theorem dat_A (c : Dev nD) (w : Fin cfg0.W) : (dat n W c).A w = W c (Proc.devRef .tc (Pipeline.arrRef spec0 w)) := by dsimp only [dat]

theorem after_0 (c : Dev nD) (t : Fin cfg0.N) : (dat n W c).after 0 t = blockAt W c 0 t := by dsimp only [dat]
theorem after_1 (c : Dev nD) (t : Fin cfg0.N) : (dat n W c).after 1 t = blockAt W c 1 t := by dsimp only [dat]
theorem after_2 (c : Dev nD) (t : Fin cfg0.N) : (dat n W c).after 2 t = outI (blockAt W c 0 t) (blockAt W c 1 t) := by dsimp only [dat]
theorem after_3 (c : Dev nD) (t : Fin cfg0.N) : (dat n W c).after 3 t = outW (blockAt W c 0 t) (blockAt W c 1 t) := by dsimp only [dat]

/-- An input's staging buffer holds its block at every point. -/
theorem before_0 (c : Dev nD) (t : Fin cfg0.N) (d) : (dat n W c).before 0 t d = blockAt W c 0 t :=
  ((dat n W c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat n W c).before 1 t d = blockAt W c 1 t :=
  ((dat n W c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)

/-- What the body takes at point `t`, and what it returns, window by window. -/
def bodyPre (c : Dev nD) (t : Fin cfg0.N) : sProp 𝕄 :=
  iprop((dat n W c).Φ t.castSucc ∗ (dat n W c).owesAt none t.castSucc
    ∗ (∃ d, owns (c : Thread nD τ) (st0_0 t) fullShare ((dat n W c).before 0 t d))
    ∗ (∃ d, owns (c : Thread nD τ) (st0_1 t) fullShare ((dat n W c).before 1 t d))
    ∗ (∃ d, owns (c : Thread nD τ) (st0_2 t) fullShare ((dat n W c).before 2 t d))
    ∗ (∃ d, owns (c : Thread nD τ) (st0_3 t) fullShare ((dat n W c).before 3 t d)))
def bodyPost (c : Dev nD) (t : Fin cfg0.N) : sProp 𝕄 :=
  iprop((dat n W c).Φ t.succ ∗ (dat n W c).owesAt none t.succ
    ∗ owns (c : Thread nD τ) (st0_0 t) fullShare ((dat n W c).after 0 t)
    ∗ owns (c : Thread nD τ) (st0_1 t) fullShare ((dat n W c).after 1 t)
    ∗ owns (c : Thread nD τ) (st0_2 t) fullShare ((dat n W c).after 2 t)
    ∗ owns (c : Thread nD τ) (st0_3 t) fullShare ((dat n W c).after 3 t))

theorem point_wp (c : Dev nD) (t : Fin cfg0.N) :
    bodyPre n W c t ⊢ wp frame (wpE (defs₀ (F := F)) 𝒱₀ c none) Set.univ (bodyAt0 t) (fun _ => bodyPost n W c t) := by
  unfold bodyPre bodyPost bodyAt0
  simp only [before_0, before_1]
  rw [show (dat n W c).Φ t.succ = (dat n W c).Φ t.castSucc from rfl,
    show (dat n W c).owesAt none t.succ = (dat n W c).owesAt none t.castSucc from rfl, after_0, after_1, after_2, after_3]
  iintro ⟨HΦ, Ho, ⟨%d0, H0⟩, ⟨%d1, H1⟩, ⟨%d2, H2⟩, ⟨%d3, H3⟩⟩
  iapply (body_wp c (grid0.coords t) _ _ _ _ _ _ _ _ (blockAt W c 0 t) (blockAt W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation (c : Dev nD) : BodyObligation (dat n W c) (defs₀ (F := F)) 𝒱₀ none Set.univ := fun t => by
  rw [bigSep_W0, bigSep_W0, show defs₀ (F := F) .tc cfg0.body (cfg0.bodyArgs t (cfg0.slots t)) = bodyAt0 t from rfl]
  exact triple_restated (point_wp n W c t) rfl .rfl fun _ => .rfl

end Cert.Proof.Whole.Knn

end
-- ==== Proof.Whole.Mlp.lean ====
/-
  The second TensorCore call, on a block of 256 rows: what its body leaves in the output block is a function of the
  seven input blocks (`hOf`); the proof data of the call and its body's obligation, from any contents of the arrays.
-/
module

public import proofs.«01_k».proof.Proof.Whole.Region
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Whole.Mlp

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

abbrev rX : Rect S256x256 := Rect.unit (s := S256x256) ![0, 0] S256x256.size inb_S256x256_S256x256_0_0
abbrev rS : Rect S256x128 := Rect.unit (s := S256x128) ![0, 0] S256x128.size inb_S256x128_S256x128_0_0
abbrev rB : Rect S128x256 := Rect.unit (s := S128x256) ![0, 0] S128x256.size inb_S128x256_S128x256_0_0
abbrev rV : Rect S1x256 := Rect.unit (s := S1x256) ![0, 0] S1x256.size inb_S1x256_S1x256_0_0

/-- What the body leaves in the output window's buffer, as its one store: from the interpolated block `xi`, the skip
    block `xs`, the two parts `wa`, `wb` of the first layer's weights, its bias `b`, the second layer's weights `w` and
    its bias `b'`. -/
def outH (xi : Vec F S256x256 .f32) (xs : Vec F S256x128 .f32) (wa : Vec F S256x256 .f32) (wb : Vec F S128x256 .f32) (b : Vec F S1x256 .f32)
    (w : Vec F S256x256 .f32) (b' : Vec F S1x256 .f32) : Vec F S256x256 .f32 :=
  View.canon [⟨rX, k2_pay1 (View.ld xi rX) (View.ld wa rX) (View.ld xs rS) (View.ld wb rB) (View.ld b rV) (View.ld w rX) (View.ld b' rV)⟩]

theorem cover (p₀ : Vec F S256x256 .f32) (y : S256x256.Idx) : ∃ pc ∈ ([⟨rX, p₀⟩] : List (View.Piece (Elt F) S256x256 .f32)), y ∈ pc.1.set :=
  View.cover_of_tiled [⟨rX, p₀⟩] S256x256.size (by rfl) y

/-- A staging buffer of thread `c` held whole. -/
local notation "own" => fun (c : Dev nD) {s : Shape} (e : EltTy) (a : Memref sig Kind.tc Space.vmem s e) (x : Vec F s e) =>
  (owns (c : Thread nD τ) a fullShare x : MT nD τ sig (HIx 1) (Elt F) ℕ UU ℕ → Prop)

set_option maxHeartbeats 1000000 in
/-- The body, on staging buffers held whole. -/
theorem body_wp (c : Dev nD) (i : grid2.Coords) (arg1 : Memref sig .tc .vmem S256x256 .f32) (harg1 : arg1.IsWhole)
    (arg2 : Memref sig .tc .vmem S256x128 .f32) (harg2 : arg2.IsWhole) (arg3 : Memref sig .tc .vmem S256x256 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S256x256 .f32) (harg8 : arg8.IsWhole)
    (x0 : Vec F S256x256 .f32) (x1 : Vec F S256x128 .f32) (x2 : Vec F S256x256 .f32) (x3 : Vec F S128x256 .f32) (x4 : Vec F S1x256 .f32)
    (x5 : Vec F S256x256 .f32) (x6 : Vec F S1x256 .f32) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outH x0 x1 x2 x3 x4 x5 x6)) -∗ Q ⟨⟩))
      ⊢ wp frame (wpE (defs₀ (F := F)) 𝒱₀ c none) Set.univ
          (cc2__mlp_body i arg1 harg1 arg2 harg2 arg3 harg3 arg4 harg4 arg5 harg5 arg6 harg6 arg7 harg7 arg8 harg8) Q := by
  simp only [cc2__mlp_body_eq_skeleton]; unfold cc2__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover _)

variable (n : ℕ) (W : Dev nD → Valuation τ sig (Elt F))

/-- Window `w`'s block at point `t`, of the arrays as the call finds them. -/
def blockAt (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The output block at point `t`. -/
abbrev outAt (c : Dev nD) (t : Fin cfg2.N) : Vec F S256x256 .f32 :=
  outH (blockAt W c 0 t) (blockAt W c 1 t) (blockAt W c 2 t) (blockAt W c 3 t) (blockAt W c 4 t) (blockAt W c 5 t) (blockAt W c 6 t)

/-- The call's proof data. -/
def dat (c : Dev nD) : Dat τ (Elt F) (HIx 1) ℕ UU ℕ cfg2 c where
  A w := W c (Proc.devRef .tc (Pipeline.arrRef spec2 w))
  after w t := match w with
    | ⟨0, _⟩ => blockAt W c 0 t
    | ⟨1, _⟩ => blockAt W c 1 t
    | ⟨2, _⟩ => blockAt W c 2 t
    | ⟨3, _⟩ => blockAt W c 3 t
    | ⟨4, _⟩ => blockAt W c 4 t
    | ⟨5, _⟩ => blockAt W c 5 t
    | ⟨6, _⟩ => blockAt W c 6 t
    | ⟨7, _⟩ => outAt W c t
  Φ _ := Pipeline.scopedRest spec2 c
  q _ := fullShare
  owed _ := (K (F := F)).Otc c n
  recorded _ := seen (F := F) n c

theorem dat_A (c : Dev nD) (w : Fin cfg2.W) : (dat n W c).A w = W c (Proc.devRef .tc (Pipeline.arrRef spec2 w)) := by dsimp only [dat]

theorem after_0 (c : Dev nD) (t : Fin cfg2.N) : (dat n W c).after 0 t = blockAt W c 0 t := by dsimp only [dat]
theorem after_1 (c : Dev nD) (t : Fin cfg2.N) : (dat n W c).after 1 t = blockAt W c 1 t := by dsimp only [dat]
theorem after_2 (c : Dev nD) (t : Fin cfg2.N) : (dat n W c).after 2 t = blockAt W c 2 t := by dsimp only [dat]
theorem after_3 (c : Dev nD) (t : Fin cfg2.N) : (dat n W c).after 3 t = blockAt W c 3 t := by dsimp only [dat]
theorem after_4 (c : Dev nD) (t : Fin cfg2.N) : (dat n W c).after 4 t = blockAt W c 4 t := by dsimp only [dat]
theorem after_5 (c : Dev nD) (t : Fin cfg2.N) : (dat n W c).after 5 t = blockAt W c 5 t := by dsimp only [dat]
theorem after_6 (c : Dev nD) (t : Fin cfg2.N) : (dat n W c).after 6 t = blockAt W c 6 t := by dsimp only [dat]
theorem after_7 (c : Dev nD) (t : Fin cfg2.N) : (dat n W c).after 7 t = outAt W c t := by dsimp only [dat]

/-- An input's staging buffer holds its block at every point. -/
theorem before_0 (c : Dev nD) (t : Fin cfg2.N) (d) : (dat n W c).before 0 t d = blockAt W c 0 t :=
  ((dat n W c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg2.N) (d) : (dat n W c).before 1 t d = blockAt W c 1 t :=
  ((dat n W c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg2.N) (d) : (dat n W c).before 2 t d = blockAt W c 2 t :=
  ((dat n W c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)
theorem before_3 (c : Dev nD) (t : Fin cfg2.N) (d) : (dat n W c).before 3 t d = blockAt W c 3 t :=
  ((dat n W c).before_in_eq_fetched 3 rfl (fun _ => rfl) (fun _ _ _ => rfl)
    (fun t => by rw [after_3]; unfold Dat.blockOf blockAt; rw [dat_A]; try rfl) t d).trans
    (by unfold Dat.fetched Dat.blockOf blockAt; rw [dat_A]; try rfl)
theorem before_4 (c : Dev nD) (t : Fin cfg2.N) (d) : (dat n W c).before 4 t d = blockAt W c 4 t :=
  ((dat n W c).before_in_eq_fetched 4 rfl (fun _ => rfl) (fun _ _ _ => rfl)
    (fun t => by rw [after_4]; unfold Dat.blockOf blockAt; rw [dat_A]; try rfl) t d).trans
    (by unfold Dat.fetched Dat.blockOf blockAt; rw [dat_A]; try rfl)
theorem before_5 (c : Dev nD) (t : Fin cfg2.N) (d) : (dat n W c).before 5 t d = blockAt W c 5 t :=
  ((dat n W c).before_in_eq_fetched 5 rfl (fun _ => rfl) (fun _ _ _ => rfl)
    (fun t => by rw [after_5]; unfold Dat.blockOf blockAt; rw [dat_A]; try rfl) t d).trans
    (by unfold Dat.fetched Dat.blockOf blockAt; rw [dat_A]; try rfl)
theorem before_6 (c : Dev nD) (t : Fin cfg2.N) (d) : (dat n W c).before 6 t d = blockAt W c 6 t :=
  ((dat n W c).before_in_eq_fetched 6 rfl (fun _ => rfl) (fun _ _ _ => rfl)
    (fun t => by rw [after_6]; unfold Dat.blockOf blockAt; rw [dat_A]; try rfl) t d).trans
    (by unfold Dat.fetched Dat.blockOf blockAt; rw [dat_A]; try rfl)

/-- What the body takes at point `t`, and what it returns, window by window. -/
def bodyPre (c : Dev nD) (t : Fin cfg2.N) : sProp 𝕄 :=
  iprop((dat n W c).Φ t.castSucc ∗ (dat n W c).owesAt none t.castSucc
    ∗ (∃ d, owns (c : Thread nD τ) (st2_0 t) fullShare ((dat n W c).before 0 t d))
    ∗ (∃ d, owns (c : Thread nD τ) (st2_1 t) fullShare ((dat n W c).before 1 t d))
    ∗ (∃ d, owns (c : Thread nD τ) (st2_2 t) fullShare ((dat n W c).before 2 t d))
    ∗ (∃ d, owns (c : Thread nD τ) (st2_3 t) fullShare ((dat n W c).before 3 t d))
    ∗ (∃ d, owns (c : Thread nD τ) (st2_4 t) fullShare ((dat n W c).before 4 t d))
    ∗ (∃ d, owns (c : Thread nD τ) (st2_5 t) fullShare ((dat n W c).before 5 t d))
    ∗ (∃ d, owns (c : Thread nD τ) (st2_6 t) fullShare ((dat n W c).before 6 t d))
    ∗ (∃ d, owns (c : Thread nD τ) (st2_7 t) fullShare ((dat n W c).before 7 t d)))
def bodyPost (c : Dev nD) (t : Fin cfg2.N) : sProp 𝕄 :=
  iprop((dat n W c).Φ t.succ ∗ (dat n W c).owesAt none t.succ
    ∗ owns (c : Thread nD τ) (st2_0 t) fullShare ((dat n W c).after 0 t)
    ∗ owns (c : Thread nD τ) (st2_1 t) fullShare ((dat n W c).after 1 t)
    ∗ owns (c : Thread nD τ) (st2_2 t) fullShare ((dat n W c).after 2 t)
    ∗ owns (c : Thread nD τ) (st2_3 t) fullShare ((dat n W c).after 3 t)
    ∗ owns (c : Thread nD τ) (st2_4 t) fullShare ((dat n W c).after 4 t)
    ∗ owns (c : Thread nD τ) (st2_5 t) fullShare ((dat n W c).after 5 t)
    ∗ owns (c : Thread nD τ) (st2_6 t) fullShare ((dat n W c).after 6 t)
    ∗ owns (c : Thread nD τ) (st2_7 t) fullShare ((dat n W c).after 7 t))

theorem point_wp (c : Dev nD) (t : Fin cfg2.N) :
    bodyPre n W c t ⊢ wp frame (wpE (defs₀ (F := F)) 𝒱₀ c none) Set.univ (bodyAt2 t) (fun _ => bodyPost n W c t) := by
  unfold bodyPre bodyPost bodyAt2
  simp only [before_0, before_1, before_2, before_3, before_4, before_5, before_6]
  rw [show (dat n W c).Φ t.succ = (dat n W c).Φ t.castSucc from rfl,
    show (dat n W c).owesAt none t.succ = (dat n W c).owesAt none t.castSucc from rfl, after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_wp c (grid2.coords t) _ _ _ _ _ _ _ _ _ _ _ _ _ _ _ _ (blockAt W c 0 t) (blockAt W c 1 t) (blockAt W c 2 t) (blockAt W c 3 t)
    (blockAt W c 4 t) (blockAt W c 5 t) (blockAt W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (c : Dev nD) : BodyObligation (dat n W c) (defs₀ (F := F)) 𝒱₀ none Set.univ := fun t => by
  rw [bigSep_W2, bigSep_W2, show defs₀ (F := F) .tc cfg2.body (cfg2.bodyArgs t (cfg2.slots t)) = bodyAt2 t from rfl]
  exact triple_restated (point_wp n W c t) rfl .rfl fun _ => .rfl

end Cert.Proof.Whole.Mlp

end
-- ==== Proof.Whole.Main.lean ====
/-
  The whole program: @main lays the positions out, finds the neighbours on the TensorCore (`Knn.lean`), interpolates
  on the SparseCores (`Tile.lean`), and runs the two layers on the TensorCore (`Mlp.lean`). The arrays after each step,
  and the run.
-/
module

public import proofs.«01_k».proof.Proof.Whole.Setup
public import proofs.«01_k».proof.Proof.Whole.Knn
public import proofs.«01_k».proof.Proof.Whole.Mlp

@[expose] public section

noncomputable section

namespace Cert.Proof.Whole

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (ucRefs arrRef afterRegion)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev ref (b : Ref sig .tc) : DevRef τ sig := Proc.devRef .tc b

/-- The TensorCore's arrays. -/
abbrev B : Finset (DevRef τ sig) := ucRefs τ sig

/-! ## The steps of @main that lay arrays out -/

abbrev opT : HloOp τ sig (Elt F) := StableHlo.unary main_arg1 main_v0
  ((transpose S3x2048 [1, 0] · transposes_S2048x3_S3x2048_1_0) : (⟨S2048x3, .f32⟩ : BufTy).Contents (Elt F) → (⟨S3x2048, .f32⟩ : BufTy).Contents (Elt F))
abbrev opX : HloOp τ sig (Elt F) := StableHlo.reshape main_arg0 main_v2 (rfl : (.f32 : EltTy) = .f32) shapeCasts_S2048x256_S2048x2x128
abbrev opI : HloOp τ sig (Elt F) := StableHlo.reshape main_v1_0 main_v3 (rfl : (.i32 : EltTy) = .i32) shapeCasts_S8192x3_S24576
abbrev opN : HloOp τ sig (Elt F) := StableHlo.reshape main_v1_1 main_v4 (rfl : (.f32 : EltTy) = .f32) shapeCasts_S8192x3_S24576
abbrev opA : HloOp τ sig (Elt F) := StableHlo.unary main_arg6 main_v6
  ((extractStridedSlice S256x256 ![0, 0] · slices_S384x256_S256x256_0_0) : (⟨S384x256, .f32⟩ : BufTy).Contents (Elt F) → (⟨S256x256, .f32⟩ : BufTy).Contents (Elt F))
abbrev opB : HloOp τ sig (Elt F) := StableHlo.unary main_arg6 main_v7
  ((extractStridedSlice S128x256 ![256, 0] · slices_S384x256_S128x256_256_0) : (⟨S384x256, .f32⟩ : BufTy).Contents (Elt F) → (⟨S128x256, .f32⟩ : BufTy).Contents (Elt F))
abbrev opC : HloOp τ sig (Elt F) := StableHlo.reshape main_arg7 main_v8 (rfl : (.f32 : EltTy) = .f32) shapeCasts_S256_S1x256
abbrev opD : HloOp τ sig (Elt F) := StableHlo.reshape main_arg9 main_v9 (rfl : (.f32 : EltTy) = .f32) shapeCasts_S256_S1x256

/-! ## The arrays after each step -/

/-- At the launch; when the neighbour search starts, and when it is done. -/
def V0 (d : Dev nD) : Valuation τ sig (Elt F) := fun b => m (d, b)
def V1 (d : Dev nD) : Valuation τ sig (Elt F) := (opT (F := F)).result (V0 m d)
def V2 (d : Dev nD) : Valuation τ sig (Elt F) := afterRegion (Knn.dat 0 (V1 m) d) (V1 m d)
/-- When the interpolation starts. -/
def V3 (d : Dev nD) : Valuation τ sig (Elt F) := (opN (F := F)).result ((opI (F := F)).result ((opX (F := F)).result (V2 m d)))

/-- The three arrays the SparseCores read, and what they find in the output. -/
abbrev gx (d : Dev nD) : Buf (Elt F) (xLoc d) := V3 m d (ref main_v2)
abbrev gi (d : Dev nD) : Buf (Elt F) (iLoc d) := V3 m d (ref main_v3)
abbrev gn (d : Dev nD) : Buf (Elt F) (nLoc d) := V3 m d (ref main_v4)
abbrev go (d : Dev nD) : Buf (Elt F) (oLoc d) := V3 m d (ref main_v5)
/-- The interpolated features. -/
abbrev xi (d : Dev nD) : Buf (Elt F) (oLoc d) := xiAll (F := F) (gx m d) (gi m d) (gn m d)

/-- After the interpolation, and when the two layers start. -/
def V4 (d : Dev nD) : Valuation τ sig (Elt F) := Function.update (V3 m d) (ref main_v5) (xi m d)
def V5 (d : Dev nD) : Valuation τ sig (Elt F) :=
  (opD (F := F)).result ((opC (F := F)).result ((opB (F := F)).result ((opA (F := F)).result (V4 m d))))
/-- At the end. -/
def V6 (d : Dev nD) : Valuation τ sig (Elt F) := afterRegion (Mlp.dat 1 (V5 m) d) (V5 m d)

/-! ## The two TensorCore calls -/

theorem knn_inv (n : ℕ) (W : Dev nD → Valuation τ sig (Elt F)) (c : Dev nD) (t) : (Knn.dat n W c).Φ t = Pipeline.scopedRest spec0 c := by dsimp only [Knn.dat]
theorem knn_owed (n : ℕ) (W : Dev nD → Valuation τ sig (Elt F)) (c : Dev nD) (t) : (Knn.dat n W c).owed t = (K (F := F)).Otc c n := by dsimp only [Knn.dat]
theorem knn_recorded (n : ℕ) (W : Dev nD → Valuation τ sig (Elt F)) (c : Dev nD) (t) : (Knn.dat n W c).recorded t = seen (F := F) n c := by dsimp only [Knn.dat]
theorem knn_share (n : ℕ) (W : Dev nD → Valuation τ sig (Elt F)) (c : Dev nD) (w : Fin cfg0.W) : (Knn.dat n W c).share w = fullShare := by
  unfold Pipeline.Dat.share; split <;> rfl
theorem mlp_inv (n : ℕ) (W : Dev nD → Valuation τ sig (Elt F)) (c : Dev nD) (t) : (Mlp.dat n W c).Φ t = Pipeline.scopedRest spec2 c := by dsimp only [Mlp.dat]
theorem mlp_owed (n : ℕ) (W : Dev nD → Valuation τ sig (Elt F)) (c : Dev nD) (t) : (Mlp.dat n W c).owed t = (K (F := F)).Otc c n := by dsimp only [Mlp.dat]
theorem mlp_recorded (n : ℕ) (W : Dev nD → Valuation τ sig (Elt F)) (c : Dev nD) (t) : (Mlp.dat n W c).recorded t = seen (F := F) n c := by dsimp only [Mlp.dat]
theorem mlp_share (n : ℕ) (W : Dev nD → Valuation τ sig (Elt F)) (c : Dev nD) (w : Fin cfg2.W) : (Mlp.dat n W c).share w = fullShare := by
  unfold Pipeline.Dat.share; split <;> rfl

def pd : Dats (F := F) := fun p => match p with
  | ⟨0, _⟩ => fun c => Knn.dat 0 (V1 m) c
  | ⟨1, _⟩ => fun c => Mlp.dat 1 (V5 m) c

theorem runs_knn (pd : Dats (F := F)) (n : ℕ) (W : Dev nD → Valuation τ sig (Elt F)) (h : ∀ c, pd 0 c = Knn.dat n W c) : Runs pd 0 n W where
  start c w := by rw [h]; exact Knn.dat_A n W c w
  inv c t := by rw [h]; exact knn_inv n W c t
  owed c t := by rw [h]; exact knn_owed n W c t
  recorded c t := by rw [h]; exact knn_recorded n W c t
  share c w := by rw [h]; exact knn_share n W c w
  body c := by rw [h]; exact (Knn.obligation n W c).loose

theorem runs_mlp (pd : Dats (F := F)) (n : ℕ) (W : Dev nD → Valuation τ sig (Elt F)) (h : ∀ c, pd 1 c = Mlp.dat n W c) : Runs pd 1 n W where
  start c w := by rw [h]; exact Mlp.dat_A n W c w
  inv c t := by rw [h]; exact mlp_inv n W c t
  owed c t := by rw [h]; exact mlp_owed n W c t
  recorded c t := by rw [h]; exact mlp_recorded n W c t
  share c w := by rw [h]; exact mlp_share n W c w
  body c := by rw [h]; exact (Mlp.obligation n W c).loose

theorem runs0 : Runs (pd m) 0 0 (V1 m) := runs_knn (pd m) 0 (V1 m) fun _ => rfl
theorem runs1 : Runs (pd m) 1 1 (V5 m) := runs_mlp (pd m) 1 (V5 m) fun _ => rfl

/-! ## The SparseCore call's arrays, out of the TensorCore's and back -/

abbrev four : Finset (DevRef τ sig) := {ref main_v2, ref main_v3, ref main_v4, ref main_v5}

theorem four_sub : four ⊆ B := by
  intro b hb
  simp only [four, Finset.mem_insert, Finset.mem_singleton] at hb
  rcases hb with rfl | rfl | rfl | rfl <;> exact Pipeline.devRef_mem_ucRefs rfl

theorem held_four (d : Dev nD) (W : Valuation τ sig (Elt F)) :
    (held (T d) four W : sProp 𝕄) = iprop((xLoc d ↦{fullShare} W (ref main_v2)) ∗ (iLoc d ↦{fullShare} W (ref main_v3))
      ∗ (nLoc d ↦{fullShare} W (ref main_v4)) ∗ oLoc d ↦{fullShare} W (ref main_v5)) := by
  unfold held four
  repeat rw [SparseCore.bigSep_insert' (by decide)]
  rw [bigSep_singleton]

theorem V4_of_ne (d : Dev nD) {b : DevRef τ sig} (h : b ≠ ref main_v5) : V4 m d b = V3 m d b := Function.update_of_ne h _ _
theorem V4_v5 (d : Dev nD) : V4 m d (ref main_v5) = xi m d := Function.update_self _ _ _

theorem held_V3 (d : Dev nD) : (held (T d) B (V3 m d) : sProp 𝕄) = iprop(arrays (gx m) (gi m) (gn m) d (go m d) ∗ held (T d) (B \ four) (V3 m d)) := by
  rw [StableHlo.held_sub_split (T d) four_sub, held_four]

theorem held_V4 (d : Dev nD) : (held (T d) B (V4 m d) : sProp 𝕄) = iprop(arrays (gx m) (gi m) (gn m) d (xi m d) ∗ held (T d) (B \ four) (V3 m d)) := by
  rw [StableHlo.held_sub_split (T d) four_sub, held_four, V4_v5, V4_of_ne m d (b := ref main_v2) (by decide), V4_of_ne m d (b := ref main_v3) (by decide),
    V4_of_ne m d (b := ref main_v4) (by decide),
    StableHlo.held_congr (T d) (S := B \ four) (V := V4 m d) (V' := V3 m d) fun b hb => V4_of_ne m d fun h => by
      subst h; exact (Finset.mem_sdiff.mp hb).2 (by decide)]

abbrev PP : (K (F := F)).Pay (nD := nD) (Val := Elt F) (Name := ℕ) (U := UU) := P (gx m) (gi m) (gn m) (go m)

/-- What @main leaves the claim: its arrays. -/
abbrev FIN (d : Dev nD) : sProp 𝕄 := held (T d) B (V6 m d)

/-! ## @main -/

theorem unscoped0 : ∀ w, (arrRef spec0 w).isScoped = false := by decide
theorem unscoped1 : ∀ w, (arrRef spec2 w).isScoped = false := by decide

theorem V2_def (d : Dev nD) : afterRegion (pd m 0 d) (V1 m d) = V2 m d := rfl
theorem V3_def (d : Dev nD) : (opN (F := F)).result ((opI (F := F)).result ((opX (F := F)).result (V2 m d))) = V3 m d := rfl
theorem V5_def (d : Dev nD) : (opD (F := F)).result ((opC (F := F)).result ((opB (F := F)).result ((opA (F := F)).result (V4 m d)))) = V5 m d := rfl
theorem V6_def (d : Dev nD) : afterRegion (pd m 1 d) (V5 m d) = V6 m d := rfl
/-- The arrays held, the contents named otherwise. -/
theorem named (d : Dev nD) {V V' : Valuation τ sig (Elt F)} (h : V = V') : (held (T d) B V : sProp 𝕄) ⊢ held (T d) B V' := Entails.of_eq (by rw [h])

theorem held_B (d : Dev nD) : (unscopedBufs d (fun b => m ((SparseCore.T d).loc b)) : sProp 𝕄) = held (T d) B (V0 m d) :=
  Pipeline.unscopedBufs_held (Ix := HIx 1) (Name := ℕ) (U := UU) (Lvl := ℕ) d (V0 m d)

set_option maxHeartbeats 1000000 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_B]
  simp only [main, wp_bind, wp_pure]
  iintro ⟨#Hctx, Hst, ⟨Hb, Hheld, Hts, -⟩, Hg0, Hg1⟩
  iapply (wp_hlo_within 𝒱 (SparseCore.T d) none Set.univ (op := opT) (S := B) (Pipeline.sub_ucRefs _ (StableHlo.unary_bufs_sub ..))) $$ [Hb Hheld]
  · isplitl [Hb]; · iexact Hb
    iexact Hheld
  iintro ⟨Hb, Hheld⟩
  rw [wp_ret]; imodintro
  iapply (region_wp (pd m) 0 0 (V1 m) (PP m) κ B Gen.launch0.toP (Pipeline.arrRefs_sub_ucRefs _ unscoped0) rfl (runs0 m) d _)
  isplitr; · iexact Hctx
  isplitr [Hb Hst Hheld Hg0]
  swap
  · isplitl [Hb]; · iexact Hb
    isplitl [Hst]; · iexact Hst
    isplitl [Hheld]; · iexact Hheld
    iexact Hg0
  iintro ⟨Hb, Hst, Hheld⟩
  ihave Hheld := (named d (V2_def m d)) $$ Hheld
  iapply (wp_hlo_within 𝒱 (SparseCore.T d) none Set.univ (op := opX) (S := B) (Pipeline.sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := opI) (S := B) (Pipeline.sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := opN) (S := B) (Pipeline.sub_ucRefs _ (StableHlo.reshape_bufs_sub ..))) $$ [Hb Hheld]
  · isplitl [Hb]; · iexact Hb
    iexact Hheld
  iintro ⟨Hb, Hheld⟩
  rw [wp_ret]; imodintro
  ihave Hheld := (named d (V3_def m d)) $$ Hheld
  ihave Hh := (Entails.of_eq (held_V3 m d)) $$ Hheld
  icases Hh with ⟨Ha, Hrest⟩
  ihave Hd := (deal (gx m) (gi m) (gn m) d (go m d)) $$ Ha
  icases Hd with ⟨Hkept, Hcores⟩
  iapply ((K (F := F)).wp_run (D (F := F)) 𝒱 (EH := EH) (P := PP m) κ d 0) $$ [Hst Hcores Hkept Hrest Hb Hts Hg1]
  isplitr; · iexact Hctx
  isplitl [Hst]; · iexact Hst
  isplitl [Hcores]; · iexact Hcores
  iintro ⟨Hst, Hdn⟩
  ihave Ha := (undeal (gx m) (gi m) (gn m) d (xi m d)) $$ [Hkept Hdn]
  · isplitl [Hkept]; · iexact Hkept
    iexact Hdn
  ihave Hheld := (Entails.of_eq (held_V4 m d).symm) $$ [Ha Hrest]
  · isplitl [Ha]; · iexact Ha
    iexact Hrest
  iapply (wp_hlo_within 𝒱 (SparseCore.T d) none Set.univ (op := opA) (S := B) (Pipeline.sub_ucRefs _ (StableHlo.unary_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := opB) (S := B) (Pipeline.sub_ucRefs _ (StableHlo.unary_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := opC) (S := B) (Pipeline.sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := opD) (S := B) (Pipeline.sub_ucRefs _ (StableHlo.reshape_bufs_sub ..))) $$ [Hb Hheld]
  · isplitl [Hb]; · iexact Hb
    iexact Hheld
  iintro ⟨Hb, Hheld⟩
  rw [wp_ret]; imodintro
  ihave Hheld := (named d (V5_def m d)) $$ Hheld
  iapply (region_wp (pd m) 1 1 (V5 m) (PP m) κ B Gen.launch2.toP (Pipeline.arrRefs_sub_ucRefs _ unscoped1) rfl (runs1 m) d _)
  isplitr; · iexact Hctx
  isplitr [Hb Hst Hheld Hg1]
  swap
  · isplitl [Hb]; · iexact Hb
    isplitl [Hst]; · iexact Hst
    isplitl [Hheld]; · iexact Hheld
    iexact Hg1
  iintro ⟨Hb, Hst, Hheld⟩
  ihave Hheld := (named d (V6_def m d)) $$ Hheld
  imodintro
  isplitl [Hst]; · iexact Hst
  isplitl [Hheld]; · iexact Hheld
  isplitl [Hb]; · iexact Hb
  iexact Hts

/-! ## The run -/

def fq (d : Dev nD) (s' : Phys nD τ sig (Elt F)) : Prop := ∀ b, b ∈ B → s'.mem.mem (d, b) = V6 m d b

theorem hfin (d : Dev nD) (s' : Phys nD τ sig (Elt F)) : iprop(FIN m d ∗ SI s') ⊢ (⌜fq m d s'⌝ : sProp 𝕄) := by
  refine (forall_intro fun b => ?_).trans (pure_forall (φ := fun b => b ∈ B → s'.mem.mem (d, b) = V6 m d b)).2
  by_cases hb : b ∈ B
  · have he : (FIN m d : sProp 𝕄) ⊢ (((d, b) : Loc nD τ sig) ↦{fullShare} V6 m d b) := by
      unfold FIN held; exact bigSep_elim hb (Φ := fun b => (((d, b) : Loc nD τ sig) ↦{fullShare} V6 m d b : sProp 𝕄))
    iintro ⟨H, HSI⟩
    ihave H := he $$ H
    ihave H := (SI_pointsTo_agree (st := s') (ℓ := (d, b)) (I := Finset.univ) (q := fullShare) (f := V6 m d b)) $$ [H HSI]
    · isplitl [HSI]; · iexact HSI
      iexact H
    icases H with %h
    ipureintro
    exact fun _ => funext fun i => h i (Finset.mem_univ i)
  · iintro -
    ipureintro
    exact fun h => absurd h hb

def QC : PUnit × MemSt nD τ sig (Elt F) → Prop := fun r => (∀ d : Dev nD, ∀ b, b ∈ B → r.2.mem (d, b) = V6 m d b) ∧ r.2.sem = fun _ => 0

/-- Every execution ends, the arrays as the steps of @main leave them, the semaphores at zero — where every index the
    search finds names a row of the table. -/
theorem run_main [∀ e, Nonempty (Elt F e)] (hfi : ∀ d (j : S24576.Idx), (gi m d j : BitVec 32).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (gx m) (gi m) (gn m) (go m) facts hfi)
    (fun q _ => match q with | 0 => SparseCore.Cfg.VecSplit.of_plain (vecSplit (gx m) (gi m) (gn m) (go m)))
    m ρ main (fun d => ghosts d) (FIN m) (u₀ (F := F)) (sep_elim_left.trans (hu₀ (gx m) (gi m) (gn m) (go m))) (hmain m ρ) (fq m) (hfin m) (QC m) (fun _ h hz => ⟨h, hz⟩)

/-! ## What the arrays hold at the end -/

theorem mem_B {b : Ref sig .tc} (h : b.isScoped = false) : ref b ∈ B := Pipeline.devRef_mem_ucRefs h

theorem knn_inj : Function.Injective (arrRef cfg0.spec) := Gen.launch0.win.arr_inj
theorem mlp_inj : Function.Injective (arrRef cfg2.spec) := Gen.launch2.win.arr_inj

theorem V2_keeps (d : Dev nD) (r : Ref sig .tc) (h : ∀ w, arrRef spec0 w = r → (spec0 w).isOut = false) : V2 m d (ref r) = V1 m d (ref r) :=
  Pipeline.afterRegion_keeps (Knn.dat 0 (V1 m) d) (V1 m d) knn_inj (fun w => Knn.dat_A 0 (V1 m) d w) r h
theorem V6_keeps (d : Dev nD) (r : Ref sig .tc) (h : ∀ w, arrRef spec2 w = r → (spec2 w).isOut = false) : V6 m d (ref r) = V5 m d (ref r) :=
  Pipeline.afterRegion_keeps (Mlp.dat 1 (V5 m) d) (V5 m d) mlp_inj (fun w => Mlp.dat_A 1 (V5 m) d w) r h

theorem V1_keeps (d : Dev nD) (r : Ref sig .tc) (h : r ≠ main_v0) : V1 m d (ref r) = m (d, ref r) := by
  unfold V1; rw [StableHlo.unary_result_ne (h := h)]; rfl
theorem V3_keeps (d : Dev nD) (r : Ref sig .tc) (h2 : r ≠ main_v2) (h3 : r ≠ main_v3) (h4 : r ≠ main_v4) : V3 m d (ref r) = V2 m d (ref r) := by
  unfold V3; rw [StableHlo.reshape_result_ne (h := h4), StableHlo.reshape_result_ne (h := h3), StableHlo.reshape_result_ne (h := h2)]
theorem V4_keeps (d : Dev nD) (r : Ref sig .tc) (h : r ≠ main_v5) : V4 m d (ref r) = V3 m d (ref r) :=
  V4_of_ne m d (StableHlo.devRef_ne_of_ne h)
theorem V5_keeps (d : Dev nD) (r : Ref sig .tc) (h6 : r ≠ main_v6) (h7 : r ≠ main_v7) (h8 : r ≠ main_v8) (h9 : r ≠ main_v9) : V5 m d (ref r) = V4 m d (ref r) := by
  unfold V5
  rw [StableHlo.reshape_result_ne (h := h9), StableHlo.reshape_result_ne (h := h8), StableHlo.unary_result_ne (h := h7), StableHlo.unary_result_ne (h := h6)]

/-- The arrays that @main's steps write. -/
abbrev written : List (Ref sig .tc) := [main_v0, main_v1_0, main_v1_1, main_v2, main_v3, main_v4, main_v5, main_v6, main_v7, main_v8, main_v9, main_v10]

theorem out0 : ∀ w, (spec0 w).isOut = true → arrRef spec0 w ∈ written := by decide
theorem out1 : ∀ w, (spec2 w).isOut = true → arrRef spec2 w ∈ written := by decide

/-- Nothing else changes: up to the two layers, and to the end. -/
theorem kept5 (d : Dev nD) (r : Ref sig .tc) (h : r ∉ written) : V5 m d (ref r) = m (d, ref r) := by
  have h' := h
  simp only [written, List.mem_cons, List.not_mem_nil, or_false, not_or] at h'
  obtain ⟨h0, -, -, h2, h3, h4, h5, h6, h7, h8, h9, -⟩ := h'
  rw [V5_keeps m d r h6 h7 h8 h9, V4_keeps m d r h5, V3_keeps m d r h2 h3 h4, V2_keeps m d r, V1_keeps m d r h0]
  intro w hw
  by_contra hc
  exact h (hw ▸ out0 w (Bool.not_eq_false _ ▸ hc))
theorem kept6 (d : Dev nD) (r : Ref sig .tc) (h : r ∉ written) : V6 m d (ref r) = m (d, ref r) := by
  rw [V6_keeps m d r, kept5 m d r h]
  intro w hw
  by_contra hc
  exact h (hw ▸ out1 w (Bool.not_eq_false _ ▸ hc))

end Cert.Proof.Whole

end
-- ==== Proof.Whole.Blocks.lean ====
/-
  What the two TensorCore calls leave in their output arrays, element by element: an element is what the body computes,
  at the element's place in its block, from the block's rows of the inputs.
-/
module

public import proofs.«01_k».proof.Proof.Whole.Main
public import Idealize.ShloMosaic.Lib.Pipeline.Value
public import Idealize.ShloMosaic.Lib.Pipeline.ValueKit
public import Idealize.ShloMosaic.Lib.Pointwise

@[expose] public section

set_option maxRecDepth 16384

noncomputable section

namespace Cert.Proof.Whole

open Cert.KernelIdeal Cert.KernelIdeal.Gen
open Idealize.ShloMosaic Idealize.ShloMosaic.TcCoe
open Idealize.ShloMosaic.Pipeline (Dat)

/-- Row `256 t + i` of an array of 8192 rows. -/
def at256 (t : Fin 32) (i : Fin 256) : Fin 8192 := ⟨256 * t.val + i.val, by omega⟩

/-- The block of 256 rows from row `256 t` on. -/
def rows256 {α : Type} {n : ℕ} (t : Fin 32) (A : (⟨2, ![8192, n]⟩ : Shape).Idx → α) : (⟨2, ![256, n]⟩ : Shape).Idx → α :=
  fun y => A (ix2 (at256 t (y 0)) (y 1))

namespace Knn

variable {F : FTy → Type} [FloatOps F] [Named F]
variable (n : ℕ) (W : Dev nD → Valuation τ sig (Elt F))

theorem place : ∀ t : Fin cfg0.N, win0_0.index t = ![t.val, 0] ∧ win0_1.index t = ![0, 0] ∧ win0_2.index t = ![t.val, 0] ∧ win0_3.index t = ![t.val, 0] :=
  (by decide +kernel : ∀ t : Fin grid0.N,
    win0_0.index t = ![t.val, 0] ∧ win0_1.index t = ![0, 0] ∧ win0_2.index t = ![t.val, 0] ∧ win0_3.index t = ![t.val, 0])

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne ((by decide +kernel : ∀ t t' : Fin grid0.N, win0_2.index t = win0_2.index t' → t = t') t t' h)
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne ((by decide +kernel : ∀ t t' : Fin grid0.N, win0_3.index t = win0_3.index t' → t = t') t t' h)

theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)

theorem blk0 {α : EltTy → Type} (t : Fin cfg0.N) (A : S8192x3.Idx → α .f32) : ((cfg0.win 0).blk t).view.read α A = rows256 t A := by
  funext y
  unfold rows256 at256
  blk_ext [(place t).1]
theorem blk1 {α : EltTy → Type} (t : Fin cfg0.N) (A : S3x2048.Idx → α .f32) : ((cfg0.win 1).blk t).view.read α A = A := by
  funext y
  blk_ext [(place t).2.1]
theorem blk2 {α : EltTy → Type} (t : Fin cfg0.N) (A : S8192x3.Idx → α .i32) : ((cfg0.win 2).blk t).view.read α A = rows256 t A := by
  funext y
  unfold rows256 at256
  blk_ext [(place t).2.2.1]
theorem blk3 {α : EltTy → Type} (t : Fin cfg0.N) (A : S8192x3.Idx → α .f32) : ((cfg0.win 3).blk t).view.read α A = rows256 t A := by
  funext y
  unfold rows256 at256
  blk_ext [(place t).2.2.2]

theorem outI_eq (q : Vec F S256x3 .f32) (p : Vec F S3x2048 .f32) : outI q p = idxOf q p := by
  unfold outI
  rw [View.canon_cons_unit_lit, View.ld_unit_lit, View.ld_unit_lit]
  all_goals first | rfl | (intro a; fin_cases a <;> rfl)
theorem outW_eq (q : Vec F S256x3 .f32) (p : Vec F S3x2048 .f32) : outW q p = wOf q p := by
  unfold outW
  rw [View.canon_cons_unit_lit, View.ld_unit_lit, View.ld_unit_lit]
  all_goals first | rfl | (intro a; fin_cases a <;> rfl)

/-- The array of indices, block by block. -/
theorem indices (c : Dev nD) (t : Fin cfg0.N) : rows256 t ((dat n W c).arrAt 2 cfg0.N) =
    idxOf (rows256 t (W c (ref main_arg4))) (W c (ref main_v0)) := by
  have h := (dat n W c).read_blk_arrAt_eq_flushed 2 disjoint2 cfg0.N t t.isLt (flush2 t)
  have hf : (dat n W c).flushed 2 t = (cfg0.win 2).cut (grid0.coords t) (outI (blockAt W c 0 t) (blockAt W c 1 t)) := by
    show (cfg0.win 2).cut (grid0.coords t) ((dat n W c).after 2 t) = _
    rw [after_2]
  refine (blk2 t _).symm.trans ((h.trans hf).trans ?_)
  have e0 : blockAt W c 0 t = rows256 t (W c (ref main_arg4)) := blk0 t _
  have e1 : blockAt W c 1 t = W c (ref main_v0) := blk1 t _
  rw [e0, e1, outI_eq]
  rfl
theorem weights (c : Dev nD) (t : Fin cfg0.N) : rows256 t ((dat n W c).arrAt 3 cfg0.N) =
    wOf (rows256 t (W c (ref main_arg4))) (W c (ref main_v0)) := by
  have h := (dat n W c).read_blk_arrAt_eq_flushed 3 disjoint3 cfg0.N t t.isLt (flush3 t)
  have hf : (dat n W c).flushed 3 t = (cfg0.win 3).cut (grid0.coords t) (outW (blockAt W c 0 t) (blockAt W c 1 t)) := by
    show (cfg0.win 3).cut (grid0.coords t) ((dat n W c).after 3 t) = _
    rw [after_3]
  refine (blk3 t _).symm.trans ((h.trans hf).trans ?_)
  have e0 : blockAt W c 0 t = rows256 t (W c (ref main_arg4)) := blk0 t _
  have e1 : blockAt W c 1 t = W c (ref main_v0) := blk1 t _
  rw [e0, e1, outW_eq]
  rfl

end Knn

namespace Mlp

variable {F : FTy → Type} [FloatOps F] [Named F]
variable (n : ℕ) (W : Dev nD → Valuation τ sig (Elt F))

theorem place : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![t.val, 0] :=
  (by decide +kernel : ∀ t : Fin grid2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![t.val, 0])

theorem disjoint7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne ((by decide +kernel : ∀ t t' : Fin grid2.N, win2_7.index t = win2_7.index t' → t = t') t t' h)
theorem flush7 : ∀ t : Fin cfg2.N, (cfg2.win 7).flush t = true := (by decide +kernel : ∀ t : Fin grid2.N, win2_7.flush t = true)

theorem blk0 {α : EltTy → Type} (t : Fin cfg2.N) (A : S8192x256.Idx → α .f32) : ((cfg2.win 0).blk t).view.read α A = rows256 t A := by
  funext y
  unfold rows256 at256
  blk_ext [(place t).1]
theorem blk1 {α : EltTy → Type} (t : Fin cfg2.N) (A : S8192x128.Idx → α .f32) : ((cfg2.win 1).blk t).view.read α A = rows256 t A := by
  funext y
  unfold rows256 at256
  blk_ext [(place t).2.1]
theorem blk2 {α : EltTy → Type} (t : Fin cfg2.N) (A : S256x256.Idx → α .f32) : ((cfg2.win 2).blk t).view.read α A = A := by
  funext y
  blk_ext [(place t).2.2.1]
theorem blk3 {α : EltTy → Type} (t : Fin cfg2.N) (A : S128x256.Idx → α .f32) : ((cfg2.win 3).blk t).view.read α A = A := by
  funext y
  blk_ext [(place t).2.2.2.1]
theorem blk4 {α : EltTy → Type} (t : Fin cfg2.N) (A : S1x256.Idx → α .f32) : ((cfg2.win 4).blk t).view.read α A = A := by
  funext y
  blk_ext [(place t).2.2.2.2.1]
theorem blk5 {α : EltTy → Type} (t : Fin cfg2.N) (A : S256x256.Idx → α .f32) : ((cfg2.win 5).blk t).view.read α A = A := by
  funext y
  blk_ext [(place t).2.2.2.2.2.1]
theorem blk6 {α : EltTy → Type} (t : Fin cfg2.N) (A : S1x256.Idx → α .f32) : ((cfg2.win 6).blk t).view.read α A = A := by
  funext y
  blk_ext [(place t).2.2.2.2.2.2.1]
theorem blk7 {α : EltTy → Type} (t : Fin cfg2.N) (A : S8192x256.Idx → α .f32) : ((cfg2.win 7).blk t).view.read α A = rows256 t A := by
  funext y
  unfold rows256 at256
  blk_ext [(place t).2.2.2.2.2.2.2]

theorem outH_eq (xi : Vec F S256x256 .f32) (xs : Vec F S256x128 .f32) (wa : Vec F S256x256 .f32) (wb : Vec F S128x256 .f32) (b : Vec F S1x256 .f32)
    (w : Vec F S256x256 .f32) (b' : Vec F S1x256 .f32) : outH xi xs wa wb b w b' = k2_pay1 xi wa xs wb b w b' := by
  unfold outH
  rw [View.canon_cons_unit_lit, View.ld_unit_lit, View.ld_unit_lit, View.ld_unit_lit, View.ld_unit_lit, View.ld_unit_lit, View.ld_unit_lit, View.ld_unit_lit]
  all_goals first | rfl | (intro a; fin_cases a <;> rfl)

/-- The output array, block by block. -/
theorem layers (c : Dev nD) (t : Fin cfg2.N) : rows256 t ((dat n W c).arrAt 7 cfg2.N) =
    k2_pay1 (rows256 t (W c (ref main_v5))) (W c (ref main_v6)) (rows256 t (W c (ref main_arg3))) (W c (ref main_v7)) (W c (ref main_v8))
      (W c (ref main_arg8)) (W c (ref main_v9)) := by
  have h := (dat n W c).read_blk_arrAt_eq_flushed 7 disjoint7 cfg2.N t t.isLt (flush7 t)
  have hf : (dat n W c).flushed 7 t = (cfg2.win 7).cut (grid2.coords t) (outAt W c t) := by
    show (cfg2.win 7).cut (grid2.coords t) ((dat n W c).after 7 t) = _
    rw [after_7]
  refine (blk7 t _).symm.trans ((h.trans hf).trans ?_)
  have e0 : blockAt W c 0 t = rows256 t (W c (ref main_v5)) := blk0 t _
  have e1 : blockAt W c 1 t = rows256 t (W c (ref main_arg3)) := blk1 t _
  have e2 : blockAt W c 2 t = W c (ref main_v6) := blk2 t _
  have e3 : blockAt W c 3 t = W c (ref main_v7) := blk3 t _
  have e4 : blockAt W c 4 t = W c (ref main_v8) := blk4 t _
  have e5 : blockAt W c 5 t = W c (ref main_arg8) := blk5 t _
  have e6 : blockAt W c 6 t = W c (ref main_v9) := blk6 t _
  unfold outAt
  rw [e0, e1, e2, e3, e4, e5, e6, outH_eq]
  rfl

end Mlp

end Cert.Proof.Whole

end
-- ==== Proof.Whole.Nearest.lean ====
/-
  The three nearest points of a query, found two ways, on one row of scores (minus the squared distances). The reference
  sorts the row, greatest first, and takes the first three places. The kernel takes the row's maximum, puts −∞ in its
  place, and does so twice more; the place it reports is the sum of all places holding the maximum. Where the row's four
  greatest scores are distinct the two agree, in the values and in the places.
-/
module

public import Idealize.ShloMosaic.Lib.SortFacts
public import Idealize.ShloMosaic.Lib.Pointwise

@[expose] public section

noncomputable section

namespace Cert.Proof.Whole

open Idealize.ShloMosaic

variable {n : ℕ}

/-- Place `k` of the row's order, greatest first, equal scores by place. -/
def rank (f : Fin n → EReal) : Fin n → Fin n :=
  sortedFrom fun k k' => FloatOps.cmpfTotal (F := Ideal) (φ := .f32) .gt (f k) (f k') == 1#1

theorem gt_iff (a b : EReal) : (FloatOps.cmpfTotal (F := Ideal) (φ := .f32) .gt a b == 1#1) = decide (b < a) := by
  show (BitVec.ofBool (decide (b < a)) == 1#1) = decide (b < a)
  cases decide (b < a) <;> rfl

theorem rank_anti (f : Fin n → EReal) (i j : Fin n) (h : i < j) : f (rank f j) ≤ f (rank f i) := by
  have e := sortedFrom_noInversion (fun k k' => FloatOps.cmpfTotal (F := Ideal) (φ := .f32) .gt (f k) (f k') == 1#1) _
    (fun a b => by simp only [gt_iff, decide_eq_true_eq, decide_eq_false_iff_not]; exact fun h => not_lt.mpr h.le)
    (fun _ _ h => h)
    (fun a b c => by simp only [gt_iff, decide_eq_false_iff_not, not_lt]; exact fun h h' => h.trans h') i j h
  rw [gt_iff, decide_eq_false_iff_not, not_lt] at e
  exact e

/-- `p` names the places of the row's three greatest scores, all different and above every other. -/
structure Apart (f : Fin n → EReal) (p : Fin 3 → Fin n) : Prop where
  first : f (p 1) < f (p 0)
  second : f (p 2) < f (p 1)
  rest : ∀ j, j ≠ p 0 → j ≠ p 1 → j ≠ p 2 → f j < f (p 2)
  bot : ⊥ < f (p 2)

/-- A row whose four greatest scores, in order, are distinct. -/
theorem apart_of_rank (f : Fin n → EReal) (hn : 4 ≤ n)
    (h : ∀ k : Fin 3, f (rank f ⟨k.val + 1, by omega⟩) < f (rank f ⟨k.val, by omega⟩)) :
    Apart f fun k => rank f ⟨k.val, by omega⟩ where
  first := h 0
  second := h 1
  rest j h0 h1 h2 := by
    obtain ⟨i, rfl⟩ := sortedFrom_surjective (fun k k' => FloatOps.cmpfTotal (F := Ideal) (φ := .f32) .gt (f k) (f k') == 1#1) j
    change f (rank f i) < _
    have hi : 3 ≤ i.val := by
      by_contra hlt
      have : i.val = 0 ∨ i.val = 1 ∨ i.val = 2 := by omega
      rcases this with e | e | e
      · exact h0 (congrArg (rank f) (Fin.ext e))
      · exact h1 (congrArg (rank f) (Fin.ext e))
      · exact h2 (congrArg (rank f) (Fin.ext e))
    refine lt_of_le_of_lt ?_ (h 2)
    rcases Nat.eq_or_lt_of_le hi with e | e
    · exact le_of_eq (congrArg (fun x => f (rank f x)) (Fin.ext e.symm))
    · exact rank_anti f _ _ e
  bot := lt_of_le_of_lt bot_le (h 2)

/-- A row with one greatest score, `a`, at `p`. -/
structure Peak (f : Fin n → EReal) (p : Fin n) (a : EReal) : Prop where
  at_peak : f p = a
  below : ∀ j, j ≠ p → f j < a

namespace Peak
variable {f : Fin n → EReal} {p : Fin n} {a : EReal}

theorem eq_iff (h : Peak f p a) (j : Fin n) : f j = a ↔ j = p :=
  ⟨fun e => by_contra fun hne => absurd e (h.below j hne).ne, fun e => e ▸ h.at_peak⟩

theorem fold (h : Peak f p a) : Finset.univ.fold max ⊥ f = a := by
  refine le_antisymm (Finset.fold_max_le _ |>.mpr ⟨bot_le, fun j _ => ?_⟩) ?_
  · rcases eq_or_ne j p with e | e
    · rw [e, h.at_peak]
    · exact (h.below j e).le
  · exact Finset.le_fold_max _ |>.mpr (.inr ⟨p, Finset.mem_univ _, h.at_peak.ge⟩)

end Peak

/-- The row with its entries that are `a` replaced by −∞. -/
def masked (f : Fin n → EReal) (a : EReal) : Fin n → EReal := fun j => if f j = a then ⊥ else f j

theorem Peak.masked_apply {f : Fin n → EReal} {p : Fin n} {a : EReal} (h : Peak f p a) (j : Fin n) :
    masked f a j = if j = p then ⊥ else f j := by
  unfold masked
  simp only [h.eq_iff j]

/-- The three rounds of taking the maximum and masking it meet the three greatest scores, each at its one place. -/
theorem rounds {f : Fin n → EReal} {p : Fin 3 → Fin n} (h : Apart f p) :
    Peak f (p 0) (f (p 0)) ∧ Peak (masked f (f (p 0))) (p 1) (f (p 1))
      ∧ Peak (masked (masked f (f (p 0))) (f (p 1))) (p 2) (f (p 2)) := by
  have h10 : p 1 ≠ p 0 := fun e => h.first.ne (by rw [e])
  have h21 : p 2 ≠ p 1 := fun e => h.second.ne (by rw [e])
  have h20 : p 2 ≠ p 0 := fun e => (h.second.trans h.first).ne (by rw [e])
  have r1 : Peak f (p 0) (f (p 0)) := ⟨rfl, fun j hj => by
    by_cases e1 : j = p 1
    · rw [e1]; exact h.first
    by_cases e2 : j = p 2
    · rw [e2]; exact h.second.trans h.first
    exact (h.rest j hj e1 e2).trans (h.second.trans h.first)⟩
  have r2 : Peak (masked f (f (p 0))) (p 1) (f (p 1)) := ⟨by rw [r1.masked_apply, if_neg h10], fun j hj => by
    rw [r1.masked_apply]
    split
    · exact h.bot.trans h.second
    · rename_i e0
      by_cases e2 : j = p 2
      · rw [e2]; exact h.second
      exact (h.rest j e0 hj e2).trans h.second⟩
  refine ⟨r1, r2, ⟨by rw [r2.masked_apply, if_neg h21, r1.masked_apply, if_neg h20], fun j hj => ?_⟩⟩
  rw [r2.masked_apply]
  split
  · exact h.bot
  · rename_i e1
    rw [r1.masked_apply]
    split
    · exact h.bot
    · rename_i e0
      exact h.rest j e0 e1 hj

theorem fold_zero {ι : Type} (S : Finset ι) (g : ι → BitVec 32) (h : ∀ j ∈ S, g j = 0#32) :
    S.fold IntOp.addi (0#32) g = 0#32 := by
  classical
  induction S using Finset.induction_on with
  | empty => rfl
  | insert a S ha ih =>
    rw [Finset.fold_insert ha, h a (Finset.mem_insert_self _ _), ih fun j hj => h j (Finset.mem_insert_of_mem hj)]
    rfl

/-- The sum of the places that hold the maximum is the one place that does. -/
theorem place_sum (c : Fin n → BitVec 1) (p : Fin n) (hc : ∀ j, c j = 1#1 ↔ j = p) (v : Fin n → BitVec 32) :
    Finset.univ.fold IntOp.addi (0#32) (fun j => Scalar.select (c j) (v j) (0#32)) = v p := by
  classical
  rw [← Finset.insert_erase (Finset.mem_univ p), Finset.fold_insert (Finset.notMem_erase _ _), fold_zero]
  · rw [(hc p).mpr rfl]
    show v p + 0#32 = v p
    simp
  · intro j hj
    have : c j ≠ 1#1 := fun e => (Finset.ne_of_mem_erase hj) ((hc j).mp e)
    exact if_neg this

end Cert.Proof.Whole

end
-- ==== Proof.Whole.Rounds.lean ====
/-
  The first TensorCore call's payloads read at an index, in exact arithmetic: for a query whose four greatest scores are
  distinct, the three indices it writes are the places of the three greatest scores and the three weights are theirs.
-/
module

public import proofs.«01_k».proof.Proof.Whole.Knn
public import proofs.«01_k».proof.Proof.Whole.Nearest
public import Idealize.ShloMosaic.Lib.Pointwise

@[expose] public section

set_option maxRecDepth 16384

noncomputable section

namespace Cert.Proof.Whole

open Idealize.ShloMosaic

/-- Minus the squared distance of two positions: twice their product less the two squared lengths. -/
def score (a b : Fin 3 → EReal) : EReal :=
  Ideal.ofBits .f32 0x40000000#32 * (∑ k, a k * b k) - (∑ k, a k * a k) - (∑ k, b k * b k)

/-- The inverse of a squared distance, not below the smallest one told apart from zero. -/
def inv (s : EReal) : EReal := Ideal.div 1 (max (0 - s) (Ideal.ofBits .f32 0x24E69595#32))

/-- The normalised weight of neighbour `k`, from the three scores. -/
def weight (s : Fin 3 → EReal) (k : Fin 3) : EReal := inv (s k) * Ideal.div 1 (inv (s 0) + inv (s 1) + inv (s 2))

theorem ofBits_ninf : Ideal.ofBits .f32 0xFF800000#32 = ⊥ := by simp [Ideal.ofBits, Ideal.ieee]

end Cert.Proof.Whole

namespace Cert.Proof.Whole.Knn

open Cert.KernelIdeal Cert.KernelIdeal.Gen
open Idealize.ShloMosaic

variable (q : Vec Ideal S256x3 .f32) (p : Vec Ideal S3x2048 .f32)

theorem pay1_apply (i : Fin 256) (j : Fin 2048) : k0_pay1 q p p (ix2 i j) = score (fun k => q (ix2 i k)) (fun k => p (ix2 k j)) := by
  pointwise [k0_pay1]
  unfold score
  rw [Fin.sum_univ_three (fun k => p (ix2 k j) * p (ix2 k j))]

theorem pay2_apply (i : Fin 256) : k0_pay2 q p p (ix2 i 0) = Finset.univ.fold max ⊥ fun j => k0_pay1 q p p (ix2 i j) := by
  unfold k0_pay2
  pointwise
  rw [ofBits_ninf]

theorem pay3_apply (i : Fin 256) (j : Fin 2048) : k0_pay3 q p p (ix2 i j) = Ideal.cmp .oeq (k0_pay1 q p p (ix2 i j)) (k0_pay2 q p p (ix2 i 0)) := by
  unfold k0_pay3
  pointwise

theorem pay4_apply (i : Fin 256) (j : Fin 2048) : k0_pay4 q p p (ix2 i j) = Scalar.select (k0_pay3 q p p (ix2 i j)) ⊥ (k0_pay1 q p p (ix2 i j)) := by
  unfold k0_pay4
  pointwise
  rfl

theorem pay5_apply (i : Fin 256) : k0_pay5 q p p (ix2 i 0) = Finset.univ.fold max ⊥ fun j => k0_pay4 q p p (ix2 i j) := by
  unfold k0_pay5
  pointwise
  rw [ofBits_ninf]

theorem pay6_apply (i : Fin 256) (j : Fin 2048) : k0_pay6 q p p (ix2 i j) = Ideal.cmp .oeq (k0_pay4 q p p (ix2 i j)) (k0_pay5 q p p (ix2 i 0)) := by
  unfold k0_pay6
  pointwise

theorem pay7_apply (i : Fin 256) (j : Fin 2048) : k0_pay7 q p p (ix2 i j) = Scalar.select (k0_pay6 q p p (ix2 i j)) ⊥ (k0_pay4 q p p (ix2 i j)) := by
  unfold k0_pay7
  pointwise
  rfl

theorem pay8_apply (i : Fin 256) : k0_pay8 q p p (ix2 i 0) = Finset.univ.fold max ⊥ fun j => k0_pay7 q p p (ix2 i j) := by
  unfold k0_pay8
  pointwise
  rw [ofBits_ninf]

theorem pay9_apply (i : Fin 256) (j : Fin 2048) : k0_pay9 q p p (ix2 i j) = Ideal.cmp .oeq (k0_pay7 q p p (ix2 i j)) (k0_pay8 q p p (ix2 i 0)) := by
  unfold k0_pay9
  pointwise

theorem select_oeq (a b c : EReal) : Scalar.select (Ideal.cmp .oeq a b) ⊥ c = if a = b then ⊥ else c := by
  unfold Scalar.select Ideal.cmp
  by_cases h : a = b <;> simp [h]

theorem oeq_iff (a b : EReal) : Ideal.cmp .oeq a b = 1#1 ↔ a = b := by
  unfold Ideal.cmp
  by_cases h : a = b <;> simp [h]

/-- The row of scores of the block's query `i`. -/
def row (i : Fin 256) : Fin 2048 → EReal := fun j => score (fun k => q (ix2 i k)) (fun k => p (ix2 k j))

variable {q p} {i : Fin 256} {pl : Fin 3 → Fin 2048} (h : Apart (row q p i) pl)
include h

theorem first_max : k0_pay2 q p p (ix2 i 0) = row q p i (pl 0) := by
  rw [pay2_apply, ← (rounds h).1.fold]
  exact congrArg (Finset.univ.fold max ⊥) (funext fun j => pay1_apply q p i j)

theorem first_place (j : Fin 2048) : k0_pay3 q p p (ix2 i j) = 1#1 ↔ j = pl 0 := by
  rw [pay3_apply, first_max h, pay1_apply, oeq_iff]
  exact (rounds h).1.eq_iff j

theorem first_mask (j : Fin 2048) : k0_pay4 q p p (ix2 i j) = masked (row q p i) (row q p i (pl 0)) j := by
  rw [pay4_apply, pay3_apply, first_max h, pay1_apply, select_oeq]
  rfl

theorem second_max : k0_pay5 q p p (ix2 i 0) = row q p i (pl 1) := by
  rw [pay5_apply, ← (rounds h).2.1.fold]
  exact congrArg (Finset.univ.fold max ⊥) (funext fun j => first_mask h j)

theorem second_place (j : Fin 2048) : k0_pay6 q p p (ix2 i j) = 1#1 ↔ j = pl 1 := by
  rw [pay6_apply, second_max h, first_mask h, oeq_iff]
  exact (rounds h).2.1.eq_iff j

theorem second_mask (j : Fin 2048) : k0_pay7 q p p (ix2 i j) = masked (masked (row q p i) (row q p i (pl 0))) (row q p i (pl 1)) j := by
  rw [pay7_apply, pay6_apply, second_max h, first_mask h, select_oeq]
  rfl

theorem third_max : k0_pay8 q p p (ix2 i 0) = row q p i (pl 2) := by
  rw [pay8_apply, ← (rounds h).2.2.fold]
  exact congrArg (Finset.univ.fold max ⊥) (funext fun j => second_mask h j)

theorem third_place (j : Fin 2048) : k0_pay9 q p p (ix2 i j) = 1#1 ↔ j = pl 2 := by
  rw [pay9_apply, third_max h, second_mask h, oeq_iff]
  exact (rounds h).2.2.eq_iff j

/-- The index written for neighbour `k` is the place of score `k`. -/
theorem idxOf_apply (k : Fin 3) : idxOf q p (ix2 i k) = BitVec.ofNat 32 (pl k).val := by
  have e (c : IVec S256x2048 1) (a : Fin 2048) (hc : ∀ j, c (ix2 i j) = 1#1 ↔ j = a) :=
    place_sum (fun j => c (ix2 i j)) a hc fun j => BitVec.ofNat 32 j.val
  unfold idxOf k0_pay10
  match k with
  | 0 =>
    refine Eq.trans ?_ (e _ _ (first_place h))
    pointwise
  | 1 =>
    refine Eq.trans ?_ (e _ _ (second_place h))
    pointwise
  | 2 =>
    refine Eq.trans ?_ (e _ _ (third_place h))
    pointwise

/-- The weight written for neighbour `k`. -/
theorem wOf_apply (k : Fin 3) : wOf q p (ix2 i k) = weight (fun k => row q p i (pl k)) k := by
  unfold wOf k0_pay11
  match k with
  | 0 =>
    pointwise
    rw [first_max h, second_max h, third_max h]
    rfl
  | 1 =>
    pointwise
    rw [first_max h, second_max h, third_max h]
    rfl
  | 2 =>
    pointwise
    rw [first_max h, second_max h, third_max h]
    rfl

end Cert.Proof.Whole.Knn

end
-- ==== Proof.Whole.Weights.lean ====
/-
  The weights, in exact arithmetic. The kernel normalises its three weights before the features are summed, the reference
  divides the sum by the weights' sum; and the two spell the floor under a squared distance differently. Scores above −∞
  give weights that are positive finite numbers, so the quotient distributes over the sum whatever the features are.
-/
module

public import proofs.«01_k».proof.Proof.Whole.Rounds

@[expose] public section

noncomputable section

namespace Cert.Proof.Whole

open Idealize.ShloMosaic

/-- The reference's weight of a neighbour, from its score. -/
def refInv (s : EReal) : EReal := Ideal.div 1 (max (Ideal.ofBits .f32 0x24E69595#32) (max (-s) 0))

theorem floor_real : ∃ e : ℝ, 0 < e ∧ Ideal.ofBits .f32 0x24E69595#32 = (e : EReal) := by
  simp only [Ideal.ofBits, Ideal.ieee]
  norm_num
  refine ⟨_, ?_, rfl⟩
  rw [if_neg (by decide)]
  positivity

theorem refInv_eq (s : EReal) : refInv s = inv s := by
  obtain ⟨e, he, h⟩ := floor_real
  unfold refInv inv
  rw [h, zero_sub, max_comm, max_assoc, max_eq_right (a := (0 : EReal)) (by exact_mod_cast he.le)]

theorem div_of_pos (x : EReal) (y : ℝ) (hy : 0 < y) : Ideal.div x (y : EReal) = x * ((y⁻¹ : ℝ) : EReal) := by
  have : (y : EReal) ≠ 0 := by exact_mod_cast hy.ne'
  unfold Ideal.div
  rw [if_neg this, EReal.coe_inv]

theorem inv_real (s : EReal) (h : ⊥ < s) : ∃ r : ℝ, 0 < r ∧ inv s = (r : EReal) := by
  obtain ⟨e, he, h'⟩ := floor_real
  unfold inv
  rw [h', zero_sub]
  have : ∃ y : ℝ, 0 < y ∧ max (-s) (e : EReal) = (y : EReal) := by
    induction s using EReal.rec with
    | bot => exact absurd h (lt_irrefl _)
    | top => exact ⟨e, he, by simp⟩
    | coe s => exact ⟨max (-s) e, lt_max_of_lt_right he, by rw [EReal.coe_strictMono.monotone.map_max, EReal.coe_neg]⟩
  obtain ⟨y, hy, hy'⟩ := this
  refine ⟨y⁻¹, inv_pos.mpr hy, ?_⟩
  rw [hy', div_of_pos 1 y hy, one_mul]

/-- Normalising the weights first, or dividing the weighted sum by the sum of the weights. -/
theorem normalise (s f : Fin 3 → EReal) (hs : ∀ k, ⊥ < s k) :
    weight s 0 * f 0 + weight s 1 * f 1 + weight s 2 * f 2 = Ideal.div (∑ k, f k * refInv (s k)) (∑ k, refInv (s k)) := by
  simp only [refInv_eq, Fin.sum_univ_three]
  unfold weight
  obtain ⟨r0, h0, e0⟩ := inv_real (s 0) (hs 0)
  obtain ⟨r1, h1, e1⟩ := inv_real (s 1) (hs 1)
  obtain ⟨r2, h2, e2⟩ := inv_real (s 2) (hs 2)
  rw [e0, e1, e2, ← EReal.coe_add, ← EReal.coe_add]
  have hd : 0 < r0 + r1 + r2 := by positivity
  rw [div_of_pos _ _ hd, div_of_pos _ _ hd, one_mul]
  generalize hc : (r0 + r1 + r2)⁻¹ = c
  have hc0 : (0 : EReal) ≤ (c : EReal) := by
    rw [← hc]
    exact_mod_cast (inv_pos.mpr hd).le
  rw [EReal.right_distrib_of_nonneg_of_ne_top hc0 (EReal.coe_ne_top c), EReal.right_distrib_of_nonneg_of_ne_top hc0 (EReal.coe_ne_top c)]
  have (r f : EReal) : r * (c : EReal) * f = f * r * (c : EReal) := by
    rw [mul_comm _ f, mul_assoc]
  rw [this, this, this]

end Cert.Proof.Whole

end
-- ==== Proof.Whole.Ref.lean ====
/-
  The reference's steps, read at one element in exact arithmetic: the scores of a query against all points, the three
  greatest of them with their places, the weights, the features mixed by them, and the two layers.
-/
module

public import proofs.«01_k».proof.Proof.Whole.Weights
public import proofs.«01_k».proof.Proof.Take
public import proofs.«01_k».proof.Proof.Gen.ReferenceIdeal.Run
public import proofs.«01_k».proof.Proof.Gen.Pre_four_apart
public import Idealize.ShloMosaic.Lib.Pointwise

@[expose] public section

set_option maxRecDepth 16384

noncomputable section

namespace Cert.Proof.Whole

open Idealize.ShloMosaic

/-- A table's rows sorted, two arrays alike: an element is the row's own, at the place that the order gives. -/
theorem sort2_rows {Q N : ℕ} {α β : Type} (cmp : α × β → α × β → BitVec 1) (x : (⟨2, ![Q, N]⟩ : Shape).Idx → α) (y : (⟨2, ![Q, N]⟩ : Shape).Idx → β)
    (i : Fin Q) (r : Fin N) :
    let o := sortedFrom fun k k' => cmp (x (ix2 i k), y (ix2 i k)) (x (ix2 i k'), y (ix2 i k')) == 1#1
    (Host.sort2 ⟨2, ![Q, N]⟩ 1 cmp x y).1 (ix2 i r) = x (ix2 i (o r)) ∧ (Host.sort2 ⟨2, ![Q, N]⟩ 1 cmp x y).2 (ix2 i r) = y (ix2 i (o r)) := by
  have h1 : 1 < (⟨2, ![Q, N]⟩ : Shape).rank := Nat.lt_succ_self 1
  have ha (k : Fin N) : (ix2 i r : (⟨2, ![Q, N]⟩ : Shape).Idx).along (⟨1, h1⟩ : Fin 2) k = ix2 i k := by
    funext a
    match a with
    | ⟨0, _⟩ => rfl
    | ⟨1, _⟩ => rfl
  intro o
  have e : o = sortedFrom (fun k k' => cmp (x ((ix2 i r : (⟨2, ![Q, N]⟩ : Shape).Idx).along (⟨1, h1⟩ : Fin 2) k), y ((ix2 i r : (⟨2, ![Q, N]⟩ : Shape).Idx).along (⟨1, h1⟩ : Fin 2) k))
      (x ((ix2 i r : (⟨2, ![Q, N]⟩ : Shape).Idx).along (⟨1, h1⟩ : Fin 2) k'), y ((ix2 i r : (⟨2, ![Q, N]⟩ : Shape).Idx).along (⟨1, h1⟩ : Fin 2) k')) == 1#1) :=
    congrArg sortedFrom (funext fun k => funext fun k' => by rw [ha, ha])
  rw [e]
  exact ⟨congrArg x (ha _), congrArg y (ha _)⟩

/-- The `K` greatest of each row, at row `i`, place `r`: the row's own score at the place of that rank, and the place. -/
theorem topK_rows {Q N K : ℕ} (x : (⟨2, ![Q, N]⟩ : Shape).Idx → EReal) (h : (⟨2, ![Q, N]⟩ : Shape).Slices (fun _ => 0) ⟨2, ![Q, K]⟩)
    (hK : K ≤ N) (i : Fin Q) (r : Fin K) :
    let T := Host.topK (s := ⟨2, ![Q, N]⟩) ⟨2, ![Q, K]⟩ 1 (FloatOps.cmpfTotal (F := Ideal) (φ := .f32) .gt) x h
    let o := rank (fun j => x (ix2 i j)) ⟨r.val, r.isLt.trans_le hK⟩
    T.1 (ix2 i r) = x (ix2 i o) ∧ T.2 (ix2 i r) = BitVec.ofNat 32 o.val := by
  have e : (fun a : Fin 2 => (⟨0 + ((ix2 i r : (⟨2, ![Q, K]⟩ : Shape).Idx) (a.cast h.1.symm)).val,
        Nat.lt_of_lt_of_le (Nat.add_lt_add_left ((ix2 i r : (⟨2, ![Q, K]⟩ : Shape).Idx) _).isLt _) (h.2 a)⟩ : Fin ((⟨2, ![Q, N]⟩ : Shape).size a)))
      = ix2 i ⟨r.val, r.isLt.trans_le hK⟩ := by
    funext a
    refine Fin.ext ?_
    match a with
    | ⟨0, _⟩ => exact Nat.zero_add _
    | ⟨1, _⟩ => exact Nat.zero_add _
  intro T o
  have s := sort2_rows (fun l r => FloatOps.cmpfTotal (F := Ideal) (φ := .f32) .gt l.1 r.1) x
    (fun i => if hd : 1 < (⟨2, ![Q, N]⟩ : Shape).rank then iotaInDim (⟨2, ![Q, N]⟩ : Shape) 32 ⟨1, hd⟩ i else 0#32) i ⟨r.val, r.isLt.trans_le hK⟩
  rw [← e] at s
  exact ⟨s.1.trans rfl, s.2.trans rfl⟩

/-- The two layers on one query's mixed features and own features. -/
def twoLayers (xi : Fin 256 → EReal) (xs : Fin 128 → EReal) (w1 : Fin 384 → Fin 256 → EReal) (b1 : Fin 256 → EReal)
    (w2 : Fin 256 → Fin 256 → EReal) (b2 : Fin 256 → EReal) (c : Fin 256) : EReal :=
  max ((∑ k, max (((∑ l : Fin 256, xi l * w1 ⟨l.val, by omega⟩ k) + ∑ l : Fin 128, xs l * w1 ⟨256 + l.val, by omega⟩ k) + b1 k) 0 * w2 k c) + b2 c) 0

end Cert.Proof.Whole

namespace Cert.Proof.Whole.Ref

open Cert.ReferenceIdeal Cert.ReferenceIdeal.Gen
open Idealize.ShloMosaic Idealize.ShloMosaic.TcCoe

/-- The scores of all points for all queries. -/
def scores (p : S2048x3.Idx → Ideal .f32) (q : S8192x3.Idx → Ideal .f32) : S8192x2048.Idx → Ideal .f32 :=
  subf (subf (mulf (broadcastInDim S8192x2048 ![] bcast_S_S8192x2048 (constant S_ .f32 0x40000000#32))
      (Host.dotGeneral dot_S8192x3_S3x2048_S8192x2048_1_0_0_1_n_n none q (transpose S3x2048 [1, 0] p transposes_S2048x3_S3x2048_1_0)))
    (broadcastInDim S8192x2048 ![0, 1] bcast_S8192x1_S8192x2048_0_1 (broadcastInDim S8192x1 ![0] bcast_S8192_S8192x1_0
      (Host.reduceAdd (mulf q q) (constant S_ .f32 0x00000000#32) reducesTo_S8192x3_S8192_d1 h_S_))))
    (broadcastInDim S8192x2048 ![0, 1] bcast_S1x2048_S8192x2048_0_1 (broadcastInDim S1x2048 ![1] bcast_S2048_S1x2048_1
      (Host.reduceAdd (mulf p p) (constant S_ .f32 0x00000000#32) reducesTo_S2048x3_S2048_d1 h_S_)))

/-- One query's scores. -/
def row (p : S2048x3.Idx → Ideal .f32) (q : S8192x3.Idx → Ideal .f32) (i : Fin 8192) : Fin 2048 → EReal :=
  fun j => score (fun k => q (ix2 i k)) (fun k => p (ix2 j k))

theorem scores_apply (p : S2048x3.Idx → Ideal .f32) (q : S8192x3.Idx → Ideal .f32) (i : Fin 8192) (j : Fin 2048) :
    scores p q (ix2 i j) = row p q i j := by
  unfold scores row score
  pointwise

/-- The three greatest scores, and their places. -/
def values (s : S8192x2048.Idx → Ideal .f32) : S8192x3.Idx → Ideal .f32 :=
  (Host.topK S8192x3 1 (FloatOps.cmpfTotal .gt) s sliceFits_S8192x2048_S8192x3).1
def places (s : S8192x2048.Idx → Ideal .f32) : S8192x3.Idx → BitVec 32 :=
  (Host.topK S8192x3 1 (FloatOps.cmpfTotal .gt) s sliceFits_S8192x2048_S8192x3).2

/-- The weights, from the scores taken. -/
def weights (v : S8192x3.Idx → Ideal .f32) : S8192x3.Idx → Ideal .f32 :=
  Host.divf (broadcastInDim S8192x3 ![] bcast_S_S8192x3 (constant S_ .f32 0x3F800000#32))
    (maximumf (broadcastInDim S8192x3 ![] bcast_S_S8192x3 (id (constant S_ .f32 0x24E69595#32)))
      (maximumf (Host.negf v) (broadcastInDim S8192x3 ![] bcast_S_S8192x3 (constant S_ .f32 0x00000000#32))))

theorem weights_apply (v : S8192x3.Idx → Ideal .f32) (i : Fin 8192) (k : Fin 3) : weights v (ix2 i k) = refInv (v (ix2 i k)) := by
  unfold weights refInv id
  pointwise

/-- The weights' sum per query, along the features. -/
def total (w : S8192x3.Idx → Ideal .f32) : S8192x256.Idx → Ideal .f32 :=
  broadcastInDim S8192x256 ![0, 1] bcast_S8192x1_S8192x256_0_1 (broadcastInDim S8192x1 ![0] bcast_S8192_S8192x1_0
    (Host.reduceAdd w (constant S_ .f32 0x00000000#32) reducesTo_S8192x3_S8192_d1 h_S_))

theorem total_apply (w : S8192x3.Idx → Ideal .f32) (i : Fin 8192) (c : Fin 256) : total w (ix2 i c) = ∑ k : Fin 3, w (ix2 i k) := by
  unfold total
  pointwise

/-- The features mixed. -/
def mixed (x : S2048x256.Idx → Ideal .f32) (s : S8192x2048.Idx → Ideal .f32) : S8192x256.Idx → Ideal .f32 :=
  Host.divf (Take.interp (F := Ideal) x (places s) (weights (values s))) (total (weights (values s)))

/-- The two layers. -/
def layers (xi : S8192x256.Idx → Ideal .f32) (xs : S8192x128.Idx → Ideal .f32) (w1 : S384x256.Idx → Ideal .f32) (b1 : S256.Idx → Ideal .f32)
    (w2 : S256x256.Idx → Ideal .f32) (b2 : S256.Idx → Ideal .f32) : S8192x256.Idx → Ideal .f32 :=
  maximumf (addf (Host.dotGeneral dot_S8192x256_S256x256_S8192x256_1_0_0_1_n_n none
      (maximumf (addf (Host.dotGeneral dot_S8192x384_S384x256_S8192x256_1_0_0_1_n_n none
          (concatenate S8192x384 1 [⟨S8192x256, xi⟩, ⟨S8192x128, xs⟩] concatenates_S8192x256_S8192x128_S8192x384_d1) w1)
        (broadcastInDim S8192x256 ![0, 1] bcast_S1x256_S8192x256_0_1 (broadcastInDim S1x256 ![1] bcast_S256_S1x256_1 b1)))
        (broadcastInDim S8192x256 ![] bcast_S_S8192x256 (constant S_ .f32 0x00000000#32))) w2)
    (broadcastInDim S8192x256 ![0, 1] bcast_S1x256_S8192x256_0_1 (broadcastInDim S1x256 ![1] bcast_S256_S1x256_1 b2)))
    (broadcastInDim S8192x256 ![] bcast_S_S8192x256 (constant S_ .f32 0x00000000#32))

theorem layers_apply (xi : S8192x256.Idx → Ideal .f32) (xs : S8192x128.Idx → Ideal .f32) (w1 : S384x256.Idx → Ideal .f32) (b1 : S256.Idx → Ideal .f32)
    (w2 : S256x256.Idx → Ideal .f32) (b2 : S256.Idx → Ideal .f32) (i : Fin 8192) (c : Fin 256) : layers xi xs w1 b1 w2 b2 (ix2 i c) =
    twoLayers (fun l => xi (ix2 i l)) (fun l => xs (ix2 i l)) (fun l k => w1 (ix2 l k)) (fun k => b1 (Idealize.ShloMosaic.ix1 k)) (fun k c => w2 (ix2 k c))
      (fun c => b2 (Idealize.ShloMosaic.ix1 c)) c := by
  unfold layers twoLayers
  pointwise

set_option maxRecDepth 65536 in
/-- The reference's first result. -/
theorem out_eq (m : (ℓ : Loc nD τ sig) → Buf (Elt Ideal) ℓ) (c : Dev nD) : Value.res_out0 m c =
    layers (mixed (m ((c.tc : Thread nD τ).loc main_arg0)) (scores (m ((c.tc : Thread nD τ).loc main_arg1)) (m ((c.tc : Thread nD τ).loc main_arg4))))
      (m ((c.tc : Thread nD τ).loc main_arg3)) (m ((c.tc : Thread nD τ).loc main_arg6)) (m ((c.tc : Thread nD τ).loc main_arg7))
      (m ((c.tc : Thread nD τ).loc main_arg8)) (m ((c.tc : Thread nD τ).loc main_arg9)) := by
  show Value.res_main_v39 m c = _
  unfold Value.res_main_v39
  rfl

end Cert.Proof.Whole.Ref

end
-- ==== Proof.Whole.Value.lean ====
/-
  The kernel's first result is the reference's, in exact arithmetic, wherever every query's four greatest scores are
  distinct: the places and weights of the first call are the reference's order and (normalised) weights, the SparseCores'
  sums are the reference's mixed features, and the last call's two layers are the reference's with the concatenation
  taken apart.
-/
module

public import proofs.«01_k».proof.Proof.Whole.Blocks
public import proofs.«01_k».proof.Proof.Whole.Ref
public import proofs.«01_k».proof.Proof.Value

@[expose] public section

set_option maxRecDepth 16384

noncomputable section

namespace Cert.Proof.Whole

open Cert.KernelIdeal Cert.KernelIdeal.Gen
open Idealize.ShloMosaic Idealize.ShloMosaic.TcCoe
open Idealize.ShloMosaic (ix1 ix2)

/-! ## What the precondition says -/

/-- The places of a query's three greatest scores. -/
def nearest (f : Fin 2048 → EReal) (k : Fin 3) : Fin 2048 := rank f ⟨k.val, by omega⟩

/-- Every query's four greatest scores are distinct. -/
def FourApart (p : S2048x3.Idx → Ideal .f32) (q : S8192x3.Idx → Ideal .f32) : Prop := ∀ i : Fin 8192, Apart (Ref.row p q i) (nearest (Ref.row p q i))

theorem apart_of_pre (a0 : FVec Ideal S2048x256 .f32) (a1 : FVec Ideal S2048x3 .f32) (a2 : IVec S2048 32) (a3 : FVec Ideal S8192x128 .f32)
    (a4 : FVec Ideal S8192x3 .f32) (a5 : IVec S8192 32) (a6 : FVec Ideal S384x256 .f32) (a7 : FVec Ideal S256 .f32) (a8 : FVec Ideal S256x256 .f32)
    (a9 : FVec Ideal S256 .f32) (h : Cert.Pre_four_apart.fn (F := Ideal) a0 a1 a2 a3 a4 a5 a6 a7 a8 a9 = fun _ => 1#1) : FourApart a1 a4 := by
  intro i
  refine apart_of_rank _ (by decide) fun k => ?_
  have e := congrFun h (ix2 i k)
  have t (r : Fin 4) := (topK_rows (Ref.scores a1 a4) Cert.Pre_four_apart.Facts.sliceFits_S8192x2048_S8192x4 (by decide : 4 ≤ 2048) i r).1
  have hrow : (fun j => Ref.scores a1 a4 (ix2 i j)) = Ref.row a1 a4 i := funext fun j => Ref.scores_apply a1 a4 i j
  simp only [hrow, Ref.scores_apply] at t
  change cmpf .ogt (extractStridedSlice Cert.Pre_four_apart.S8192x3 ![0, 0]
      (Host.topK Cert.Pre_four_apart.S8192x4 1 (FloatOps.cmpfTotal (F := Ideal) (φ := .f32) .gt) (Ref.scores a1 a4) Cert.Pre_four_apart.Facts.sliceFits_S8192x2048_S8192x4).1
      Cert.Pre_four_apart.Facts.slices_S8192x4_S8192x3_0_0)
    (extractStridedSlice Cert.Pre_four_apart.S8192x3 ![0, 1]
      (Host.topK Cert.Pre_four_apart.S8192x4 1 (FloatOps.cmpfTotal (F := Ideal) (φ := .f32) .gt) (Ref.scores a1 a4) Cert.Pre_four_apart.Facts.sliceFits_S8192x2048_S8192x4).1
      Cert.Pre_four_apart.Facts.slices_S8192x4_S8192x3_0_1) (ix2 i k) = 1#1 at e
  generalize (Host.topK Cert.Pre_four_apart.S8192x4 1 (FloatOps.cmpfTotal (F := Ideal) (φ := .f32) .gt) (Ref.scores a1 a4)
    Cert.Pre_four_apart.Facts.sliceFits_S8192x2048_S8192x4).1 = v at e t
  have e' : BitVec.ofBool (decide (v (ix2 i ⟨k.val + 1, by omega⟩) < v (ix2 i ⟨k.val, by omega⟩))) = 1#1 := by
    refine Eq.trans ?_ e
    pointwise
    exact congrArg (fun x => BitVec.ofBool (decide (v (ix2 i x) < v (ix2 i ⟨k.val, by omega⟩)))) (Fin.ext (Nat.add_comm _ _))
  rw [t, t] at e'
  by_contra hlt
  rw [decide_eq_false hlt] at e'
  exact absurd e' (by decide)

/-! ## What the arrays hold -/

section reads
variable {F : FTy → Type} [FloatOps F] [Named F]
variable (m : (ℓ : Loc nD τ sig) → Buf (Elt F) ℓ) (d : Dev nD)

theorem V1_v0 : V1 m d (ref main_v0) = transpose S3x2048 [1, 0] (m (d, ref main_arg1)) transposes_S2048x3_S3x2048_1_0 := by
  unfold V1
  exact StableHlo.unary_result ..

theorem V3_v2 : V3 m d (ref main_v2) = shapeCast S2048x2x128 (m (d, ref main_arg0)) shapeCasts_S2048x256_S2048x2x128 := by
  unfold V3
  rw [StableHlo.reshape_result_ne (h := by decide), StableHlo.reshape_result_ne (h := by decide)]
  refine (StableHlo.reshape_result ..).trans ?_
  have e : V2 m d (ref main_arg0) = m (d, ref main_arg0) := (V2_keeps m d main_arg0 (by decide)).trans (V1_keeps m d main_arg0 (by decide))
  rw [e]
  rfl

theorem V3_v3 : V3 m d (ref main_v3) = shapeCast S24576 (V2 m d (ref main_v1_0)) shapeCasts_S8192x3_S24576 := by
  unfold V3
  rw [StableHlo.reshape_result_ne (h := by decide)]
  refine (StableHlo.reshape_result ..).trans ?_
  rw [StableHlo.reshape_result_ne (h := by decide)]
  rfl

theorem V3_v4 : V3 m d (ref main_v4) = shapeCast S24576 (V2 m d (ref main_v1_1)) shapeCasts_S8192x3_S24576 := by
  unfold V3
  refine (StableHlo.reshape_result ..).trans ?_
  rw [StableHlo.reshape_result_ne (h := by decide), StableHlo.reshape_result_ne (h := by decide)]
  rfl

theorem V4_arg (r : Ref sig .tc) (h : r ∉ written) : V4 m d (ref r) = m (d, ref r) := by
  refine Eq.trans (V5_keeps m d r ?_ ?_ ?_ ?_).symm (kept5 m d r h)
  all_goals exact fun e => h (e ▸ by decide)

theorem V5_v6 : V5 m d (ref main_v6) = extractStridedSlice S256x256 ![0, 0] (m (d, ref main_arg6)) slices_S384x256_S256x256_0_0 := by
  unfold V5
  rw [StableHlo.reshape_result_ne (h := by decide), StableHlo.reshape_result_ne (h := by decide), StableHlo.unary_result_ne (h := by decide)]
  refine (StableHlo.unary_result ..).trans ?_
  rw [show V4 m d (Proc.devRef .tc main_arg6) = m (d, ref main_arg6) from V4_arg m d main_arg6 (by decide)]

theorem V5_v7 : V5 m d (ref main_v7) = extractStridedSlice S128x256 ![256, 0] (m (d, ref main_arg6)) slices_S384x256_S128x256_256_0 := by
  unfold V5
  rw [StableHlo.reshape_result_ne (h := by decide), StableHlo.reshape_result_ne (h := by decide)]
  refine (StableHlo.unary_result ..).trans ?_
  rw [StableHlo.unary_result_ne (h := by decide)]
  rw [show V4 m d (Proc.devRef .tc main_arg6) = m (d, ref main_arg6) from V4_arg m d main_arg6 (by decide)]

theorem V5_v8 : V5 m d (ref main_v8) = shapeCast S1x256 (m (d, ref main_arg7)) shapeCasts_S256_S1x256 := by
  unfold V5
  rw [StableHlo.reshape_result_ne (h := by decide)]
  refine (StableHlo.reshape_result ..).trans ?_
  rw [StableHlo.unary_result_ne (h := by decide), StableHlo.unary_result_ne (h := by decide)]
  rw [show V4 m d (Proc.devRef .tc main_arg7) = m (d, ref main_arg7) from V4_arg m d main_arg7 (by decide)]
  rfl

theorem V5_v9 : V5 m d (ref main_v9) = shapeCast S1x256 (m (d, ref main_arg9)) shapeCasts_S256_S1x256 := by
  unfold V5
  refine (StableHlo.reshape_result ..).trans ?_
  rw [StableHlo.reshape_result_ne (h := by decide), StableHlo.unary_result_ne (h := by decide), StableHlo.unary_result_ne (h := by decide)]
  rw [show V4 m d (Proc.devRef .tc main_arg9) = m (d, ref main_arg9) from V4_arg m d main_arg9 (by decide)]
  rfl

theorem V5_v5 : V5 m d (ref main_v5) = xi m d :=
  (V5_keeps m d main_v5 (by decide) (by decide) (by decide) (by decide)).trans (V4_v5 m d)

theorem indices_at (t : Fin 32) : rows256 t (V2 m d (ref main_v1_0)) =
    Knn.idxOf (rows256 t (m (d, ref main_arg4))) (transpose S3x2048 [1, 0] (m (d, ref main_arg1)) transposes_S2048x3_S3x2048_1_0) := by
  have h := Knn.indices 0 (V1 m) d t
  rw [V1_v0, V1_keeps m d main_arg4 (by decide)] at h
  exact Eq.trans (congrArg (rows256 t) (Pipeline.afterRegion_arr (Knn.dat 0 (V1 m) d) (V1 m d) knn_inj 2)) h

theorem weights_at (t : Fin 32) : rows256 t (V2 m d (ref main_v1_1)) =
    Knn.wOf (rows256 t (m (d, ref main_arg4))) (transpose S3x2048 [1, 0] (m (d, ref main_arg1)) transposes_S2048x3_S3x2048_1_0) := by
  have h := Knn.weights 0 (V1 m) d t
  rw [V1_v0, V1_keeps m d main_arg4 (by decide)] at h
  exact Eq.trans (congrArg (rows256 t) (Pipeline.afterRegion_arr (Knn.dat 0 (V1 m) d) (V1 m d) knn_inj 3)) h

theorem layers_at (t : Fin 32) : rows256 t (V6 m d (ref main_v10)) =
    k2_pay1 (rows256 t (xi m d)) (extractStridedSlice S256x256 ![0, 0] (m (d, ref main_arg6)) slices_S384x256_S256x256_0_0)
      (rows256 t (m (d, ref main_arg3))) (extractStridedSlice S128x256 ![256, 0] (m (d, ref main_arg6)) slices_S384x256_S128x256_256_0)
      (shapeCast S1x256 (m (d, ref main_arg7)) shapeCasts_S256_S1x256) (m (d, ref main_arg8))
      (shapeCast S1x256 (m (d, ref main_arg9)) shapeCasts_S256_S1x256) := by
  have h := Mlp.layers 1 (V5 m) d t
  rw [V5_v5, V5_v6, V5_v7, V5_v8, V5_v9, kept5 m d main_arg3 (by decide), kept5 m d main_arg8 (by decide)] at h
  exact Eq.trans (congrArg (rows256 t) (Pipeline.afterRegion_arr (Mlp.dat 1 (V5 m) d) (V5 m d) mlp_inj 7)) h

end reads

/-- Every row is row `256 t + i` for some `t` and `i`. -/
theorem row_split (r : Fin 8192) : ∃ (t : Fin 32) (i : Fin 256), r = at256 t i :=
  ⟨⟨r.val / 256, by omega⟩, ⟨r.val % 256, Nat.mod_lt _ (by decide)⟩, Fin.ext (by show r.val = 256 * (r.val / 256) + r.val % 256; omega)⟩

/-! ## The neighbours and the weights -/

theorem qk_eq (r : Fin 8192) (k : Fin 3) : Take.qk r.val k.val r.isLt k.isLt = ix2 r k := by
  funext a
  match a with
  | ⟨0, _⟩ => rfl
  | ⟨1, _⟩ => rfl

section value
variable (m : (ℓ : Loc nD τ sig) → Buf (Elt Ideal) ℓ) (d : Dev nD)

/-- The points' and the queries' positions. -/
abbrev pts : S2048x3.Idx → Ideal .f32 := m (d, ref main_arg1)
abbrev qrs : S8192x3.Idx → Ideal .f32 := m (d, ref main_arg4)

theorem row_eq (t : Fin 32) (i : Fin 256) : Knn.row (rows256 t (qrs m d)) (transpose S3x2048 [1, 0] (pts m d) transposes_S2048x3_S3x2048_1_0) i
    = Ref.row (pts m d) (qrs m d) (at256 t i) := by
  funext j
  unfold Knn.row Ref.row
  refine congrArg₂ score rfl (funext fun k => ?_)
  pointwise

variable (h : FourApart (pts m d) (qrs m d))
include h

theorem index_apply (r : Fin 8192) (k : Fin 3) :
    (V2 m d (ref main_v1_0) : S8192x3.Idx → BitVec 32) (ix2 r k) = BitVec.ofNat 32 (nearest (Ref.row (pts m d) (qrs m d) r) k).val := by
  obtain ⟨t, i, rfl⟩ := row_split r
  refine (congrFun (indices_at m d t) (ix2 i k)).trans ?_
  refine Knn.idxOf_apply (pl := nearest (Ref.row (pts m d) (qrs m d) (at256 t i))) ?_ k
  rw [row_eq]
  exact h _

theorem weight_apply (r : Fin 8192) (k : Fin 3) :
    (V2 m d (ref main_v1_1) : S8192x3.Idx → EReal) (ix2 r k)
      = weight (fun k => Ref.row (pts m d) (qrs m d) r (nearest (Ref.row (pts m d) (qrs m d) r) k)) k := by
  obtain ⟨t, i, rfl⟩ := row_split r
  refine (congrFun (weights_at m d t) (ix2 i k)).trans ?_
  refine (Knn.wOf_apply (pl := nearest (Ref.row (pts m d) (qrs m d) (at256 t i))) ?_ k).trans ?_
  · rw [row_eq]
    exact h _
  · rw [row_eq]

/-- The places are the reference's. -/
theorem places_eq : (V2 m d (ref main_v1_0) : S8192x3.Idx → BitVec 32) = Ref.places (Ref.scores (pts m d) (qrs m d)) := by
  funext j
  obtain ⟨r, k, rfl⟩ : ∃ (r : Fin 8192) (k : Fin 3), j = ix2 r k := ⟨j 0, j 1, eq_ix2 j⟩
  have e := (topK_rows (Ref.scores (pts m d) (qrs m d)) Cert.ReferenceIdeal.Gen.facts.sliceFits_S8192x2048_S8192x3 (by decide : 3 ≤ 2048) r k).2
  rw [show (fun j => Ref.scores (pts m d) (qrs m d) (ix2 r j)) = Ref.row (pts m d) (qrs m d) r from funext fun j => Ref.scores_apply _ _ r j] at e
  exact (index_apply m d h r k).trans e.symm

theorem values_apply (r : Fin 8192) (k : Fin 3) : Ref.values (Ref.scores (pts m d) (qrs m d)) (ix2 r k)
    = Ref.row (pts m d) (qrs m d) r (nearest (Ref.row (pts m d) (qrs m d) r) k) := by
  have e := (topK_rows (Ref.scores (pts m d) (qrs m d)) Cert.ReferenceIdeal.Gen.facts.sliceFits_S8192x2048_S8192x3 (by decide : 3 ≤ 2048) r k).1
  rw [show (fun j => Ref.scores (pts m d) (qrs m d) (ix2 r j)) = Ref.row (pts m d) (qrs m d) r from funext fun j => Ref.scores_apply _ _ r j,
    Ref.scores_apply] at e
  exact e

/-- Every place names a point. -/
theorem inRows : Take.InRows (V2 m d (ref main_v1_0)) := by
  intro j
  obtain ⟨r, k, rfl⟩ : ∃ (r : Fin 8192) (k : Fin 3), j = ix2 r k := ⟨j 0, j 1, eq_ix2 j⟩
  have hlt := (nearest (Ref.row (pts m d) (qrs m d) r) k).isLt
  rw [index_apply m d h r k, BitVec.toNat_ofNat, Nat.mod_eq_of_lt (by omega)]
  exact hlt

theorem gi_lt : ∀ j : S24576.Idx, (gi m d j : BitVec 32).toNat < 2048 := by
  intro j
  have e : (gi m d : S24576.Idx → BitVec 32) = shapeCast S24576 (V2 m d (ref main_v1_0)) shapeCasts_S8192x3_S24576 := V3_v3 m d
  rw [e]
  exact inRows m d h _

/-- The SparseCores' sums: the features of the three points, times the weights. -/
theorem xi_interp : xi m d = Take.interp (F := Ideal) (m (d, ref main_arg0)) (V2 m d (ref main_v1_0)) (V2 m d (ref main_v1_1)) := by
  show xiAll (F := Ideal) (V3 m d (ref main_v2)) (V3 m d (ref main_v3)) (V3 m d (ref main_v4)) = _
  rw [V3_v2, V3_v3, V3_v4]
  exact Sc.xiAll_eq _ _ (inRows m d h) _

/-- They are the reference's mixed features. -/
theorem xi_eq : xi m d = Ref.mixed (m (d, ref main_arg0)) (Ref.scores (pts m d) (qrs m d)) := by
  rw [xi_interp m d h]
  unfold Ref.mixed
  rw [← places_eq m d h]
  funext j
  obtain ⟨r, c, rfl⟩ : ∃ (r : Fin 8192) (c : Fin 256), j = ix2 r c := ⟨j 0, j 1, eq_ix2 j⟩
  show _ = Ideal.div _ _
  rw [Take.interp_apply _ _ (inRows m d h), Take.interp_apply _ _ (inRows m d h), Ref.total_apply]
  have hs : ∀ k, ⊥ < Ref.row (pts m d) (qrs m d) r (nearest (Ref.row (pts m d) (qrs m d) r) k) := by
    have a := h r
    intro k
    match k with
    | 0 => exact a.bot.trans (a.second.trans a.first)
    | 1 => exact a.bot.trans a.second
    | 2 => exact a.bot
  have hw (k : Fin 3) : (V2 m d (ref main_v1_1) : S8192x3.Idx → EReal) (Take.qk r.val k.val r.isLt k.isLt) = _ :=
    (congrArg (V2 m d (ref main_v1_1)) (qk_eq r k)).trans (weight_apply m d h r k)
  have hr (k : Fin 3) : Ref.weights (Ref.values (Ref.scores (pts m d) (qrs m d))) (ix2 r k) = _ :=
    (Ref.weights_apply _ r k).trans (congrArg refInv (values_apply m d h r k))
  have hr' (k : Fin 3) : Ref.weights (Ref.values (Ref.scores (pts m d) (qrs m d))) (Take.qk r.val k.val r.isLt k.isLt) = _ :=
    (congrArg _ (qk_eq r k)).trans (hr k)
  refine Eq.trans ?_ ((normalise _ (fun k => (m (d, ref main_arg0) : S2048x256.Idx → EReal)
    (Take.rc (V2 m d (ref main_v1_0) (Take.qk r.val k.val r.isLt k.isLt)).toNat c.val (inRows m d h _) c.isLt)) hs).trans ?_)
  · rw [Fin.sum_univ_three]
    refine congrArg₂ (· + ·) (congrArg₂ (· + ·) ?_ ?_) ?_
    · exact (congrArg (fun w : EReal => (_ : EReal) * w) (hw 0)).trans (mul_comm (G := EReal) _ _)
    · exact (congrArg (fun w : EReal => (_ : EReal) * w) (hw 1)).trans (mul_comm (G := EReal) _ _)
    · exact (congrArg (fun w : EReal => (_ : EReal) * w) (hw 2)).trans (mul_comm (G := EReal) _ _)
  · refine congrArg₂ Ideal.div (Finset.sum_congr rfl fun k _ => ?_) (Finset.sum_congr rfl fun k _ => (hr k).symm)
    exact congrArg (fun w : EReal => (_ : EReal) * w) (hr' k).symm

/-- The kernel's first result. -/
theorem out_eq : V6 m d (ref main_v10) = Ref.layers (Ref.mixed (m (d, ref main_arg0)) (Ref.scores (pts m d) (qrs m d))) (m (d, ref main_arg3))
    (m (d, ref main_arg6)) (m (d, ref main_arg7)) (m (d, ref main_arg8)) (m (d, ref main_arg9)) := by
  rw [← xi_eq m d h]
  funext j
  obtain ⟨r, c, rfl⟩ : ∃ (r : Fin 8192) (c : Fin 256), j = ix2 r c := ⟨j 0, j 1, eq_ix2 j⟩
  obtain ⟨t, i, rfl⟩ := row_split r
  refine (congrFun (layers_at m d t) (ix2 i c)).trans ?_
  rw [Ref.layers_apply]
  unfold k2_pay1 twoLayers rows256
  generalize xi m d = X
  pointwise

end value

end Cert.Proof.Whole

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Interp
public import proofs.«01_k».proof.Proof.Gen.Interp.Skeleton
public import proofs.«01_k».proof.Proof.Gen.InterpIdeal
public import proofs.«01_k».proof.Proof.Gen.InterpIdeal.Skeleton
public import proofs.«01_k».proof.Proof.Gen.InterpReferenceIdeal
public import proofs.«01_k».proof.Proof.Gen.InterpReferenceIdeal.Run
public import proofs.«01_k».proof.Proof.Gen.Pre_four_apart
public import proofs.«01_k».proof.Proof.Gen.Pre_idx_in_rows
public import proofs.«01_k».proof.Proof.Gen.KernelIdeal.Launch
public import proofs.«01_k».proof.Proof.Gen.KernelIdeal.Points
public import proofs.«01_k».proof.Proof.Value
public import proofs.«01_k».proof.Proof.Whole.Value
public import Idealize.ShloMosaic.Adequacy
public import Idealize.ShloMosaic.Init

@[expose] public section

noncomputable section

namespace Cert.Proof

open Idealize.ShloMosaic Idealize.SL.Sem

/-! ## The whole kernel -/

section whole
open Cert.KernelIdeal Whole
variable (m : (ℓ : Loc nD τ sig) → Buf (Elt Ideal) ℓ)

/-- The precondition, read at the positions: every query's four greatest scores are distinct. -/
theorem apart (hpre : Cert.Pre_KernelIdeal m) (d : Dev nD) : FourApart (pts m d) (qrs m d) := apart_of_pre _ _ _ _ _ _ _ _ _ _ (hpre d)

/-- The kernel runs from any memory the precondition allows. -/
theorem whole_run (ρ : Dev nD → PrngReg) (hpre : Cert.Pre_KernelIdeal m) :
    θ_run (Cert.KernelIdeal.defs (F := Ideal)) (Cert.KernelIdeal.threads (F := Ideal)) ⟨m, fun _ => 0, ρ⟩ (QC m) :=
  run_main (F := Ideal) m ρ fun d => gi_lt m d (apart m hpre d)

/-- An array that no step writes ends as it began. -/
theorem kept {r : PUnit × MemSt nD τ sig (Elt Ideal)} (h : QC m r) (c : Dev nD) (b : Ref sig .tc) (hs : b.isScoped = false) (hw : b ∉ written) :
    r.2.mem (c, ref b) = m (c, ref b) :=
  (h.1 c (ref b) (mem_B hs)).trans (kept6 m c b hw)

end whole

/-- The kernel ends with its arguments as they were and its semaphores at zero. -/
theorem frame_whole : Cert.quiescent_KernelIdeal := fun m ρ hpre =>
  (θ_run Cert.KernelIdeal.defs _ _).mono
    (fun _ h => ⟨fun c => ⟨kept m h c _ (by decide) (by decide), kept m h c _ (by decide) (by decide), kept m h c _ (by decide) (by decide),
      kept m h c _ (by decide) (by decide), kept m h c _ (by decide) (by decide), kept m h c _ (by decide) (by decide), kept m h c _ (by decide) (by decide),
      kept m h c _ (by decide) (by decide), kept m h c _ (by decide) (by decide), kept m h c _ (by decide) (by decide)⟩, h.2⟩)
    (whole_run m ρ hpre)

/-- So does the reference. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- In exact arithmetic the kernel returns what the reference returns. -/
theorem value_whole : Cert.algebraic_KernelIdeal_ReferenceIdeal := by
  intro m g m' g' hpre hargs
  refine ⟨fun c => Whole.V6 m c (Whole.ref Cert.KernelIdeal.main_v10), fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5), ?_, ?_⟩
  · refine (θ_run Cert.KernelIdeal.defs _ _).mono (fun _ h c => ⟨h.1 c _ (Whole.mem_B (by decide)), ?_⟩) (whole_run m g hpre)
    exact ⟨kept m h c _ (by decide) (by decide), kept m h c _ (by decide) (by decide), kept m h c _ (by decide) (by decide), kept m h c _ (by decide) (by decide),
      kept m h c _ (by decide) (by decide), kept m h c _ (by decide) (by decide), kept m h c _ (by decide) (by decide), kept m h c _ (by decide) (by decide),
      kept m h c _ (by decide) (by decide), kept m h c _ (by decide) (by decide), kept m h c _ (by decide) (by decide), kept m h c _ (by decide) (by decide)⟩
  · refine (θ_run Cert.ReferenceIdeal.defs _ _).mono (fun _ h c => ?_) (Cert.ReferenceIdeal.Value.run (F := Ideal) m' g')
    obtain ⟨e0, e1, -, e3, e4, e5, e6, e7, e8, e9⟩ := hargs c
    refine ⟨(h c).1.trans ?_, (h c).2.1.trans e4, (h c).2.2.1.trans e5, (h c).2.2.2⟩
    refine (Whole.Ref.out_eq m' c).trans ?_
    rw [e0, e1, e3, e4, e6, e7, e8, e9]
    exact (Whole.out_eq m c (apart m hpre c)).symm

/-! ## The SparseCore call alone -/

/-- The call ends with its arguments as they were. -/
theorem frame_interp : Cert.quiescent_Interp := fun m ρ hpre =>
  (θ_run Cert.InterpIdeal.defs _ _).mono (fun _ h => ⟨fun c => ⟨(h.1 c).1, (h.1 c).2.1, (h.1 c).2.2.1⟩, h.2⟩)
    (Sc.run_main (F := Bits) m ρ (Sc.gi_lt m fun d => Sc.inRows_of_pre _ _ _ (hpre d)))

/-- So does the idealized call. -/
theorem frame_interp_ideal : Cert.quiescent_InterpIdeal := fun m ρ hpre =>
  (θ_run Cert.InterpIdeal.defs _ _).mono (fun _ h => ⟨fun c => ⟨(h.1 c).1, (h.1 c).2.1, (h.1 c).2.2.1⟩, h.2⟩)
    (Sc.run_main (F := Ideal) m ρ (Sc.gi_lt m fun d => Sc.inRows_of_pre _ _ _ (hpre d)))

/-- And its reference. -/
theorem frame_interp_reference : Cert.quiescent_InterpReferenceIdeal := fun m ρ _ =>
  (θ_run Cert.InterpReferenceIdeal.defs _ _).mono (fun r h => ⟨fun c => (h c).2, Idealize.ShloMosaic.sem_eq_zero_of_no_sems (by decide) r.2⟩)
    (Cert.InterpReferenceIdeal.Value.run (F := Ideal) m ρ)

/-- In exact arithmetic the two programs return the same features. -/
theorem value_interp : Cert.algebraic_InterpIdeal_InterpReferenceIdeal := by
  intro m g m' g' hpre hargs
  have hrows : ∀ d, Take.InRows (m ((SparseCore.T d).loc Cert.InterpIdeal.main_arg1)) := fun d => Sc.inRows_of_pre _ _ _ (hpre d)
  refine ⟨fun c => Take.interp (F := Ideal) (m ((SparseCore.T c).loc Cert.InterpIdeal.main_arg0)) (m ((SparseCore.T c).loc Cert.InterpIdeal.main_arg1))
    (m ((SparseCore.T c).loc Cert.InterpIdeal.main_arg2)), ?_, ?_⟩
  · refine (θ_run Cert.InterpIdeal.defs _ _).mono (fun _ h c => ⟨?_, (h.1 c).1, (h.1 c).2.1, (h.1 c).2.2.1⟩)
      (Sc.run_main (F := Ideal) m g (Sc.gi_lt m hrows))
    exact (h.1 c).2.2.2.trans (Sc.out_eq m c (hrows c))
  · refine (θ_run Cert.InterpReferenceIdeal.defs _ _).mono (fun _ h c => ⟨(h c).1.trans ?_, (h c).2⟩)
      (Cert.InterpReferenceIdeal.Value.run (F := Ideal) m' g')
    obtain ⟨e0, e1, e2⟩ := hargs c
    rw [e0, e1, e2]
    rfl

/-- Everything claimed. -/
theorem claim : Cert.Claim := ⟨Cert.KernelIdeal.Gen.facts, Cert.ReferenceIdeal.Gen.facts, Cert.Interp.Gen.facts, Cert.InterpIdeal.Gen.facts,
  Cert.InterpReferenceIdeal.Gen.facts, Cert.Pre_four_apart.Gen.facts, Cert.Pre_idx_in_rows.Gen.facts,
  frame_whole, frame_reference, fun m ρ _ => frame_reference m ρ trivial, frame_interp, frame_interp_ideal, frame_interp_reference,
  fun m ρ _ => frame_interp_reference m ρ trivial, value_whole, trivial, value_interp⟩

end Cert.Proof

end
